-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_routing [hPre_finite_routing : Cert.Pre_finite_routing.Facts] (m : (ℓ : Loc Cert.KernelIdeal.nD Cert.KernelIdeal.τ Cert.KernelIdeal.sig) → Buf (Elt Ideal) ℓ) : Prop :=
  ∀ c : Dev Cert.KernelIdeal.nD,
    (Cert.Pre_finite_routing.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_routing [hPre_finite_routing : Cert.Pre_finite_routing.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_routing.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_routing [hKernelIdeal : Cert.KernelIdeal.Facts] [hPre_finite_routing : Cert.Pre_finite_routing.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_routing m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_routing [hReferenceIdeal : Cert.ReferenceIdeal.Facts] [hPre_finite_routing : Cert.Pre_finite_routing.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_routing m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_routing [hKernelIdeal : Cert.KernelIdeal.Facts] [hReferenceIdeal : Cert.ReferenceIdeal.Facts] [hPre_finite_routing : Cert.Pre_finite_routing.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_routing m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_routing : Cert.Pre_finite_routing.Facts),
    quiescent_Kernel (hKernel := hKernel)
    ∧ quiescent_KernelIdeal (hKernelIdeal := hKernelIdeal)
    ∧ quiescent_KernelIdeal_pre_finite_routing (hKernelIdeal := hKernelIdeal) (hPre_finite_routing := hPre_finite_routing)
    ∧ quiescent_ReferenceIdeal (hReferenceIdeal := hReferenceIdeal)
    ∧ quiescent_ReferenceIdeal_pre_finite_routing (hReferenceIdeal := hReferenceIdeal) (hPre_finite_routing := hPre_finite_routing)
    ∧ preserves_Kernel_KernelIdeal
    ∧ algebraic_KernelIdeal_ReferenceIdeal_pre_finite_routing (hKernelIdeal := hKernelIdeal) (hReferenceIdeal := hReferenceIdeal) (hPre_finite_routing := hPre_finite_routing)
-- ==== Pre_finite_routing.lean ====
abbrev S1x2048x1024 : Shape := ⟨3, ![1, 2048, 1024]⟩
abbrev S1024x8 : Shape := ⟨2, ![1024, 8]⟩
abbrev S8x1024x4096 : Shape := ⟨3, ![8, 1024, 4096]⟩
abbrev S8x4096x1024 : Shape := ⟨3, ![8, 4096, 1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x8 : S_.BroadcastsInDim S1024x8 (![] : Fin 0 → Fin S1024x8.rank)
  reducesTo_S1024x8_S_d0_1 : S1024x8.ReducesTo [0, 1] S_

variable [Facts]

def fn {F : FTy → Type} [FloatOps F] (main_arg0 : FVec F S1x2048x1024 .f32) (main_arg1 : FVec F S1024x8 .f32) (main_arg2 : FVec F S8x1024x4096 .f32) (main_arg3 : FVec F S8x4096x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x8 .f32 := Host.absf main_arg1
  let main_cst_0 : FVec F S_ .f32 := constant S_ .f32 0x7F800000#32
  let main_v5 : FVec F S1024x8 .f32 := broadcastInDim S1024x8 ![] bcast_S_S1024x8 main_cst_0
  let main_v6 : IVec S1024x8 1 := cmpf .olt main_v4 main_v5
  let main_c_1 : IVec S_ 1 := constantI S_ 1 1#1
  let main_v7 : IVec S_ 1 := (fun x v => Host.reduce IntOp.andi x v reducesTo_S1024x8_S_d0_1 h_S_) main_v6 main_c_1
  let main_v8 : IVec S_ 1 := andi main_v3 main_v7
  main_v8
-- ==== Kernel.lean ====
abbrev S1x2048x1024 : Shape := ⟨3, ![1, 2048, 1024]⟩
abbrev S1024x8 : Shape := ⟨2, ![1024, 8]⟩
abbrev S8x1024x4096 : Shape := ⟨3, ![8, 1024, 4096]⟩
abbrev S8x4096x1024 : Shape := ⟨3, ![8, 4096, 1024]⟩
abbrev S2048x1024 : Shape := ⟨2, ![2048, 1024]⟩
abbrev S2048x1 : Shape := ⟨2, ![2048, 1]⟩
abbrev S1x8 : Shape := ⟨2, ![1, 8]⟩
abbrev S2048x8 : Shape := ⟨2, ![2048, 8]⟩
abbrev S2048 : Shape := ⟨1, ![2048]⟩
abbrev S512x512 : Shape := ⟨2, ![512, 512]⟩
abbrev S512x8 : Shape := ⟨2, ![512, 8]⟩
abbrev S8 : Shape := ⟨1, ![8]⟩
abbrev S8192 : Shape := ⟨1, ![8192]⟩
abbrev S_ : Shape := ⟨0, ![]⟩
abbrev S16 : Shape := ⟨1, ![16]⟩
abbrev S8192x1024 : Shape := ⟨2, ![8192, 1024]⟩
abbrev S64 : Shape := ⟨1, ![64]⟩
abbrev S64x1024 : Shape := ⟨2, ![64, 1024]⟩
abbrev S64x128 : Shape := ⟨2, ![64, 128]⟩
abbrev S2048x128 : Shape := ⟨2, ![2048, 128]⟩
abbrev S8x1024x1024 : Shape := ⟨3, ![8, 1024, 1024]⟩
abbrev S1x1024x1024 : Shape := ⟨3, ![1, 1024, 1024]⟩
abbrev S1x1024x512 : Shape := ⟨3, ![1, 1024, 512]⟩
abbrev S1x512x1024 : Shape := ⟨3, ![1, 512, 1024]⟩
abbrev S1 : Shape := ⟨1, ![1]⟩
abbrev S1024x512 : Shape := ⟨2, ![1024, 512]⟩
abbrev S512x1024 : Shape := ⟨2, ![512, 1024]⟩
abbrev S1x256x1024 : Shape := ⟨3, ![1, 256, 1024]⟩
abbrev S256x1024 : Shape := ⟨2, ![256, 1024]⟩
abbrev S256x512 : Shape := ⟨2, ![256, 512]⟩
abbrev S8192x128 : Shape := ⟨2, ![8192, 128]⟩
abbrev S512x1 : Shape := ⟨2, ![512, 1]⟩

abbrev nBuf : Table → Nat
  | .hbm => 25
  | .local .tc .vmem => 29
  | .local .tc .smem => 1
  | .local .scVector .vmem => 7
  | _ => 0

abbrev bufTy : (tb : Table) → Fin (nBuf tb) → BufTy
  | .hbm, ⟨0, _⟩ => ⟨S1x2048x1024, .f32⟩
  | .hbm, ⟨1, _⟩ => ⟨S1024x8, .f32⟩
  | .hbm, ⟨2, _⟩ => ⟨S8x1024x4096, .f32⟩
  | .hbm, ⟨3, _⟩ => ⟨S8x4096x1024, .f32⟩
  | .hbm, ⟨4, _⟩ => ⟨S2048x1024, .f32⟩
  | .hbm, ⟨5, _⟩ => ⟨S2048x1, .i32⟩
  | .hbm, ⟨6, _⟩ => ⟨S2048x1, .i32⟩
  | .hbm, ⟨7, _⟩ => ⟨S2048x1, .i32⟩
  | .hbm, ⟨8, _⟩ => ⟨S2048x1, .i32⟩
  | .hbm, ⟨9, _⟩ => ⟨S2048x1, .f32⟩
  | .hbm, ⟨10, _⟩ => ⟨S2048x1, .f32⟩
  | .hbm, ⟨11, _⟩ => ⟨S1x8, .i32⟩
  | .hbm, ⟨12, _⟩ => ⟨S2048, .i32⟩
  | .hbm, ⟨13, _⟩ => ⟨S2048, .i32⟩
  | .hbm, ⟨14, _⟩ => ⟨S2048, .i32⟩
  | .hbm, ⟨15, _⟩ => ⟨S2048, .i32⟩
  | .hbm, ⟨16, _⟩ => ⟨S8192, .i32⟩
  | .hbm, ⟨17, _⟩ => ⟨S8192x1024, .f32⟩
  | .hbm, ⟨18, _⟩ => ⟨S8x1024x1024, .f32⟩
  | .hbm, ⟨19, _⟩ => ⟨S8x1024x1024, .f32⟩
  | .hbm, ⟨20, _⟩ => ⟨S8192x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S1x2048x1024, .f32⟩
  | .local .tc .vmem, ⟨0, _⟩ => ⟨S2048x1024, .f32⟩
  | .local .tc .vmem, ⟨1, _⟩ => ⟨S1024x8, .f32⟩
  | .local .tc .vmem, ⟨2, _⟩ => ⟨S2048x1, .i32⟩
  | .local .tc .vmem, ⟨3, _⟩ => ⟨S2048x1, .i32⟩
  | .local .tc .vmem, ⟨4, _⟩ => ⟨S2048x1, .i32⟩
  | .local .tc .vmem, ⟨5, _⟩ => ⟨S2048x1, .i32⟩
  | .local .tc .vmem, ⟨6, _⟩ => ⟨S2048x1, .f32⟩
  | .local .tc .vmem, ⟨7, _⟩ => ⟨S2048x1, .f32⟩
  | .local .tc .vmem, ⟨8, _⟩ => ⟨S1x8, .i32⟩
  | .local .tc .vmem, ⟨9, _⟩ => ⟨S2048x8, .f32⟩
  | .local .tc .vmem, ⟨10, _⟩ => ⟨S2048x8, .f32⟩
  | .local .tc .vmem, ⟨11, _⟩ => ⟨S1x1024x1024, .f32⟩
  | .local .tc .vmem, ⟨12, _⟩ => ⟨S1x1024x1024, .f32⟩
  | .local .tc .vmem, ⟨13, _⟩ => ⟨S1x1024x512, .f32⟩
  | .local .tc .vmem, ⟨14, _⟩ => ⟨S1x1024x512, .f32⟩
  | .local .tc .vmem, ⟨15, _⟩ => ⟨S1x512x1024, .f32⟩
  | .local .tc .vmem, ⟨16, _⟩ => ⟨S1x512x1024, .f32⟩
  | .local .tc .vmem, ⟨17, _⟩ => ⟨S1x1024x1024, .f32⟩
  | .local .tc .vmem, ⟨18, _⟩ => ⟨S1x1024x1024, .f32⟩
  | .local .tc .vmem, ⟨19, _⟩ => ⟨S512x1024, .f32⟩
  | .local .tc .vmem, ⟨20, _⟩ => ⟨S512x1024, .f32⟩
  | .local .tc .vmem, ⟨21, _⟩ => ⟨S512x1024, .f32⟩
  | .local .tc .vmem, ⟨22, _⟩ => ⟨S512x1024, .f32⟩
  | .local .tc .vmem, ⟨23, _⟩ => ⟨S512x1, .f32⟩
  | .local .tc .vmem, ⟨24, _⟩ => ⟨S512x1, .f32⟩
  | .local .tc .vmem, ⟨25, _⟩ => ⟨S512x1, .f32⟩
  | .local .tc .vmem, ⟨26, _⟩ => ⟨S512x1, .f32⟩
  | .local .tc .vmem, ⟨27, _⟩ => ⟨S512x1024, .f32⟩
  | .local .tc .vmem, ⟨28, _⟩ => ⟨S512x1024, .f32⟩
  | .local .tc .smem, ⟨0, _⟩ => ⟨S8, .i32⟩
  | .local .scVector .vmem, ⟨0, _⟩ => ⟨S8192, .i32⟩
  | .local .scVector .vmem, ⟨1, _⟩ => ⟨S2048, .i32⟩
  | .local .scVector .vmem, ⟨2, _⟩ => ⟨S2048, .i32⟩
  | .local .scVector .vmem, ⟨3, _⟩ => ⟨S64, .i32⟩
  | .local .scVector .vmem, ⟨4, _⟩ => ⟨S64x1024, .f32⟩
  | .local .scVector .vmem, ⟨5, _⟩ => ⟨S64, .i32⟩
  | .local .scVector .vmem, ⟨6, _⟩ => ⟨S64x1024, .f32⟩
  | _, _ => ⟨S1x2048x1024, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => false
  | ⟨27, _⟩ => false
  | ⟨28, _⟩ => false
  | ⟨29, _⟩ => false
  | ⟨30, _⟩ => false
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTables nBuf rfl bufTy 4 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩
abbrev main_v1_5 : Ref sig .tc := ⟨.hbm, 10, rfl⟩
abbrev main_v1_6 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v13 : Ref sig .tc := ⟨.hbm, 23, rfl⟩
abbrev main_v14 : Ref sig .tc := ⟨.hbm, 24, rfl⟩
abbrev main_v9 : Ref sig .tc := ⟨.smem, 0, rfl⟩
abbrev main_v2_scv : Ref sig .scVector := ⟨.hbm, 12, rfl⟩
abbrev main_v3_scv : Ref sig .scVector := ⟨.hbm, 13, rfl⟩
abbrev main_v4_scv : Ref sig .scVector := ⟨.hbm, 14, rfl⟩
abbrev main_v5_scv : Ref sig .scVector := ⟨.hbm, 15, rfl⟩
abbrev main_v6_scv : Ref sig .scVector := ⟨.hbm, 16, rfl⟩
abbrev main_v0_scv : Ref sig .scVector := ⟨.hbm, 4, rfl⟩
abbrev main_v7_scv : Ref sig .scVector := ⟨.hbm, 17, rfl⟩
abbrev main_v11_scv : Ref sig .scVector := ⟨.hbm, 20, rfl⟩
abbrev main_v12_0_scv : Ref sig .scVector := ⟨.hbm, 21, rfl⟩
abbrev main_v12_1_scv : Ref sig .scVector := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_scratch1 : Ref sig .tc := ⟨.vmem, 10, rfl⟩
abbrev cc3_stg0_0 : Ref sig .tc := ⟨.vmem, 11, rfl⟩
abbrev cc3_stg0_1 : Ref sig .tc := ⟨.vmem, 12, rfl⟩
abbrev cc3_stg1_0 : Ref sig .tc := ⟨.vmem, 13, rfl⟩
abbrev cc3_stg1_1 : Ref sig .tc := ⟨.vmem, 14, rfl⟩
abbrev cc3_stg2_0 : Ref sig .tc := ⟨.vmem, 15, rfl⟩
abbrev cc3_stg2_1 : Ref sig .tc := ⟨.vmem, 16, rfl⟩
abbrev cc3_stg3_0 : Ref sig .tc := ⟨.vmem, 17, rfl⟩
abbrev cc3_stg3_1 : Ref sig .tc := ⟨.vmem, 18, rfl⟩
abbrev cc5_stg0_0 : Ref sig .tc := ⟨.vmem, 19, rfl⟩
abbrev cc5_stg0_1 : Ref sig .tc := ⟨.vmem, 20, rfl⟩
abbrev cc5_stg1_0 : Ref sig .tc := ⟨.vmem, 21, rfl⟩
abbrev cc5_stg1_1 : Ref sig .tc := ⟨.vmem, 22, rfl⟩
abbrev cc5_stg2_0 : Ref sig .tc := ⟨.vmem, 23, rfl⟩
abbrev cc5_stg2_1 : Ref sig .tc := ⟨.vmem, 24, rfl⟩
abbrev cc5_stg3_0 : Ref sig .tc := ⟨.vmem, 25, rfl⟩
abbrev cc5_stg3_1 : Ref sig .tc := ⟨.vmem, 26, rfl⟩
abbrev cc5_stg4_0 : Ref sig .tc := ⟨.vmem, 27, rfl⟩
abbrev cc5_stg4_1 : Ref sig .tc := ⟨.vmem, 28, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc2_scratch0 : Ref sig .scVector := ⟨.vmem, 3, rfl⟩
abbrev cc2_scratch1 : Ref sig .scVector := ⟨.vmem, 4, rfl⟩
abbrev cc4_scratch0 : Ref sig .scVector := ⟨.vmem, 5, rfl⟩
abbrev cc4_scratch1 : Ref sig .scVector := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc5_sem0_0 : DmaSem sig := 31
abbrev cc5_sem0_1 : DmaSem sig := 32
abbrev cc5_sem1_0 : DmaSem sig := 33
abbrev cc5_sem1_1 : DmaSem sig := 34
abbrev cc5_sem2_0 : DmaSem sig := 35
abbrev cc5_sem2_1 : DmaSem sig := 36
abbrev cc5_sem3_0 : DmaSem sig := 37
abbrev cc5_sem3_1 : DmaSem sig := 38
abbrev cc5_sem4_0 : DmaSem sig := 39
abbrev cc5_sem4_1 : DmaSem sig := 40
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c4_i32 : BitVec 32 := 4#32
  let v53 : BitVec 32 := Scalar.addi c0_i32 c4_i32
  let c1_i32 : BitVec 32 := 1#32
  ⟨c0_i32, v53, c1_i32⟩
def k0_off1 (k0_t1 : Fin k0_t1_loop.trips) : Fin 2 → Nat :=
  let c0_i32 : BitVec 32 := 0#32
  let c1_i32 : BitVec 32 := 1#32
  let arg11 : BitVec 32 := Scf.iv c0_i32 c1_i32 k0_t1
  let c512_i32 : BitVec 32 := 512#32
  let v104 : BitVec 32 := Scalar.muli arg11 c512_i32
  let v105 : Index := Scalar.indexCast v104
  let c0_44 : Index := 0#32
  ![v105.toNat, 0]
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x8 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev grid1 : Pipeline.Grid := ⟨2, ![2, 16], ![false, false]⟩

def k1_cond1 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

@[reducible] def k1_t1_loop : Scf.Loop 32 :=
  let c0_i32_1 : BitVec 32 := 0#32
  let c512_i32 : BitVec 32 := 512#32
  let v5 : BitVec 32 := Scalar.addi c0_i32_1 c512_i32
  let c1_i32 : BitVec 32 := 1#32
  ⟨c0_i32_1, v5, c1_i32⟩
def k1_off1 (k1_t1 : Fin k1_t1_loop.trips) : Fin 1 → Nat :=
  let c0_i32_10 : BitVec 32 := 0#32
  let c0_i32_1 : BitVec 32 := 0#32
  let c1_i32 : BitVec 32 := 1#32
  let arg11 : BitVec 32 := Scf.iv c0_i32_1 c1_i32 k1_t1
  let c16_i32 : BitVec 32 := 16#32
  let v8 : BitVec 32 := Scalar.muli arg11 c16_i32
  let v9 : BitVec 32 := Scalar.addi c0_i32_10 v8
  let v15 : Index := Scalar.indexCast v9
  ![v15.toNat]
@[reducible] def k1_t2_loop : Scf.Loop 32 :=
  let c0_i32_3 : BitVec 32 := 0#32
  let c128_i32 : BitVec 32 := 128#32
  let v6 : BitVec 32 := Scalar.addi c0_i32_3 c128_i32
  let c1_i32_4 : BitVec 32 := 1#32
  ⟨c0_i32_3, v6, c1_i32_4⟩
def k1_off2 (k1_t2 : Fin k1_t2_loop.trips) : Fin 1 → Nat :=
  let c0_i32_10 : BitVec 32 := 0#32
  let c0_i32_3 : BitVec 32 := 0#32
  let c1_i32_4 : BitVec 32 := 1#32
  let arg11 : BitVec 32 := Scf.iv c0_i32_3 c1_i32_4 k1_t2
  let c16_i32 : BitVec 32 := 16#32
  let v8 : BitVec 32 := Scalar.muli arg11 c16_i32
  let v9 : BitVec 32 := Scalar.addi c0_i32_10 v8
  let v10 : Index := Scalar.indexCast v9
  ![v10.toNat]

def k1_chk1 (i : grid1.Coords) (v11 : IVec S16 32) : Prop :=
  (∀ (k1_h1 : k1_cond1 i = 1#1), ∀ a x, ((![v11] : Fin 1 → IVec S16 32) a x).toNat < S8192.size a)
theorem k1_idx1_inb : ∀ (i : grid1.Coords) (v11 : IVec S16 32) (k1_hw1 : k1_chk1 i v11), ∀ (k1_h1 : k1_cond1 i = 1#1), ∀ a x, ((![v11] : Fin 1 → IVec S16 32) a x).toNat < S8192.size a := fun i v11 k1_hw1 k1_h1 => k1_hw1 k1_h1
@[reducible] def k1_t3_loop : Scf.Loop 32 :=
  let c0_i32_6 : BitVec 32 := 0#32
  let c128_i32_7 : BitVec 32 := 128#32
  let v7 : BitVec 32 := Scalar.addi c0_i32_6 c128_i32_7
  let c1_i32_8 : BitVec 32 := 1#32
  ⟨c0_i32_6, v7, c1_i32_8⟩
def k1_off3 (k1_t3 : Fin k1_t3_loop.trips) : Fin 1 → Nat :=
  let c0_i32_10 : BitVec 32 := 0#32
  let c0_i32_6 : BitVec 32 := 0#32
  let c1_i32_8 : BitVec 32 := 1#32
  let arg11 : BitVec 32 := Scf.iv c0_i32_6 c1_i32_8 k1_t3
  let c16_i32 : BitVec 32 := 16#32
  let v8 : BitVec 32 := Scalar.muli arg11 c16_i32
  let v9 : BitVec 32 := Scalar.addi c0_i32_10 v8
  let v10 : Index := Scalar.indexCast v9
  ![v10.toNat]

def k1_chk2 (i : grid1.Coords) (v11 : IVec S16 32) : Prop :=
  (∀ (k1_h1 : k1_cond1 i = 1#1), ∀ a x, ((![v11] : Fin 1 → IVec S16 32) a x).toNat < S8192.size a)
theorem k1_idx2_inb : ∀ (i : grid1.Coords) (v11 : IVec S16 32) (k1_hw2 : k1_chk2 i v11), ∀ (k1_h1 : k1_cond1 i = 1#1), ∀ a x, ((![v11] : Fin 1 → IVec S16 32) a x).toNat < S8192.size a := fun i v11 k1_hw2 k1_h1 => k1_hw2 k1_h1
abbrev grid2 : Pipeline.Grid := ⟨2, ![2, 16], ![false, false]⟩

@[reducible] def k2_t1_loop : Scf.Loop 32 :=
  let c0_i32 : BitVec 32 := 0#32
  let c4_i32 : BitVec 32 := 4#32
  let v3 : BitVec 32 := Scalar.addi c0_i32 c4_i32
  let c1_i32 : BitVec 32 := 1#32
  ⟨c0_i32, v3, c1_i32⟩
def k2_off1 (i : grid2.Coords) (k2_t1 : Fin k2_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_1 : BitVec 32 := 0#32
  let c0_i32 : BitVec 32 := 0#32
  let c1_i32 : BitVec 32 := 1#32
  let arg8 : BitVec 32 := Scf.iv c0_i32 c1_i32 k2_t1
  let c64_i32 : BitVec 32 := 64#32
  let v4 : BitVec 32 := Scalar.muli arg8 c64_i32
  let v5 : BitVec 32 := Scalar.addi c0_i32_1 v4
  let v6 : BitVec 32 := Scalar.addi v2 v5
  ![v6.toNat]
@[reducible] def k2_t2_loop : Scf.Loop 32 :=
  let c0_i32_2 : BitVec 32 := 0#32
  let c8_i32 : BitVec 32 := 8#32
  let v7 : BitVec 32 := Scalar.addi c0_i32_2 c8_i32
  let c1_i32_3 : BitVec 32 := 1#32
  ⟨c0_i32_2, v7, c1_i32_3⟩
def k2_off2 (k2_t2 : Fin k2_t2_loop.trips) : Fin 2 → Nat :=
  let c0_i32_6 : BitVec 32 := 0#32
  let c0_i32_5 : BitVec 32 := 0#32
  let c0_i32_2 : BitVec 32 := 0#32
  let c1_i32_3 : BitVec 32 := 1#32
  let arg9 : BitVec 32 := Scf.iv c0_i32_2 c1_i32_3 k2_t2
  let c128_i32 : BitVec 32 := 128#32
  let v9 : BitVec 32 := Scalar.muli arg9 c128_i32
  let v10 : BitVec 32 := Scalar.addi c0_i32_5 v9
  ![0, v10.toNat]
def k2_off3 (k2_t2 : Fin k2_t2_loop.trips) : Fin 2 → Nat :=
  let c0_i32_7 : BitVec 32 := 0#32
  let c0_i32_5 : BitVec 32 := 0#32
  let c0_i32_2 : BitVec 32 := 0#32
  let c1_i32_3 : BitVec 32 := 1#32
  let arg9 : BitVec 32 := Scf.iv c0_i32_2 c1_i32_3 k2_t2
  let c128_i32 : BitVec 32 := 128#32
  let v9 : BitVec 32 := Scalar.muli arg9 c128_i32
  let v10 : BitVec 32 := Scalar.addi c0_i32_5 v9
  ![0, v10.toNat]
def k2_off4 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_1 : BitVec 32 := 0#32
  let c0_i32 : BitVec 32 := 0#32
  let c1_i32 : BitVec 32 := 1#32
  let arg8 : BitVec 32 := Scf.iv c0_i32 c1_i32 k2_t1
  let c64_i32 : BitVec 32 := 64#32
  let v4 : BitVec 32 := Scalar.muli arg8 c64_i32
  let v5 : BitVec 32 := Scalar.addi c0_i32_1 v4
  let v8 : BitVec 32 := Scalar.addi v2 v5
  let c0_i32_5_r1 : BitVec 32 := 0#32
  ![v8.toNat, 0]
abbrev grid3 : Pipeline.Grid := ⟨2, ![8, 8], ![false, false]⟩

abbrev pre3 : Pipeline.Prefetch sig := ⟨1, ![main_v9.idx], fun | 0 => main_v9.names | ⟨_ + 1, h⟩ => absurd h (Nat.not_lt.2 (Nat.le_add_left _ _)), fun | 0 => rfl | ⟨_ + 1, h⟩ => absurd h (Nat.not_lt.2 (Nat.le_add_left _ _))⟩

def k3_off1 (i : grid3.Coords) : Fin 1 → Nat :=
  let arg0 : BitVec 32 := BitVec.ofNat 32 (i 0).val
  let v3 : Index := Scalar.indexCast arg0
  ![v3.toNat]
def k3_cond1 (i : grid3.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k3_cond2 (v4 : BitVec 32) : BitVec 1 :=
  let c0_i32_6 : BitVec 32 := 0#32
  let v11 : BitVec 1 := Scalar.cmpi .sgt v4 c0_i32_6
  let v12 : BitVec 32 := Scalar.extui v11
  let c0_i32_7 : BitVec 32 := 0#32
  let v13 : BitVec 1 := Scalar.cmpi .ne v12 c0_i32_7
  v13

def k3_cond3 (v4 : BitVec 32) : BitVec 1 :=
  let c256_i32 : BitVec 32 := 256#32
  let v14 : BitVec 1 := Scalar.cmpi .sgt v4 c256_i32
  let v15 : BitVec 32 := Scalar.extui v14
  let c0_i32_8 : BitVec 32 := 0#32
  let v16 : BitVec 1 := Scalar.cmpi .ne v15 c0_i32_8
  v16

def k3_cond4 (v4 : BitVec 32) : BitVec 1 :=
  let c512_i32 : BitVec 32 := 512#32
  let v17 : BitVec 1 := Scalar.cmpi .sgt v4 c512_i32
  let v18 : BitVec 32 := Scalar.extui v17
  let c0_i32_9 : BitVec 32 := 0#32
  let v19 : BitVec 1 := Scalar.cmpi .ne v18 c0_i32_9
  v19

def k3_cond5 (v4 : BitVec 32) : BitVec 1 :=
  let c768_i32 : BitVec 32 := 768#32
  let v20 : BitVec 1 := Scalar.cmpi .sgt v4 c768_i32
  let v21 : BitVec 32 := Scalar.extui v20
  let c0_i32_10 : BitVec 32 := 0#32
  let v22 : BitVec 1 := Scalar.cmpi .ne v21 c0_i32_10
  v22

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x1024x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1x1024x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1x1024x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev grid4 : Pipeline.Grid := ⟨2, ![2, 16], ![false, false]⟩

def k4_off1 (i : grid4.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  ![v2.toNat]
@[reducible] def k4_t1_loop : Scf.Loop 32 :=
  let c0_i32 : BitVec 32 := 0#32
  let c8_i32 : BitVec 32 := 8#32
  let v3 : BitVec 32 := Scalar.addi c0_i32 c8_i32
  let c1_i32 : BitVec 32 := 1#32
  ⟨c0_i32, v3, c1_i32⟩
def k4_off2 (k4_t1 : Fin k4_t1_loop.trips) : Fin 2 → Nat :=
  let c0_i32_6 : BitVec 32 := 0#32
  let c0_i32_5 : BitVec 32 := 0#32
  let c0_i32 : BitVec 32 := 0#32
  let c1_i32 : BitVec 32 := 1#32
  let arg10 : BitVec 32 := Scf.iv c0_i32 c1_i32 k4_t1
  let c128_i32 : BitVec 32 := 128#32
  let v5 : BitVec 32 := Scalar.muli arg10 c128_i32
  let v6 : BitVec 32 := Scalar.addi c0_i32_5 v5
  ![0, v6.toNat]
def k4_off3 (k4_t1 : Fin k4_t1_loop.trips) : Fin 2 → Nat :=
  let c0_i32_7 : BitVec 32 := 0#32
  let c0_i32_5 : BitVec 32 := 0#32
  let c0_i32 : BitVec 32 := 0#32
  let c1_i32 : BitVec 32 := 1#32
  let arg10 : BitVec 32 := Scf.iv c0_i32 c1_i32 k4_t1
  let c128_i32 : BitVec 32 := 128#32
  let v5 : BitVec 32 := Scalar.muli arg10 c128_i32
  let v6 : BitVec 32 := Scalar.addi c0_i32_5 v5
  ![0, v6.toNat]
def k4_off4 (i : grid4.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_5_r1 : BitVec 32 := 0#32
  ![v2.toNat, 0]
@[reducible] def k4_t2_loop : Scf.Loop 32 :=
  let c0_i32_1 : BitVec 32 := 0#32
  let c8_i32_2 : BitVec 32 := 8#32
  let v4 : BitVec 32 := Scalar.addi c0_i32_1 c8_i32_2
  let c1_i32_3 : BitVec 32 := 1#32
  ⟨c0_i32_1, v4, c1_i32_3⟩
def k4_off5 (k4_t2 : Fin k4_t2_loop.trips) : Fin 2 → Nat :=
  let c0_i32_6 : BitVec 32 := 0#32
  let c0_i32_5 : BitVec 32 := 0#32
  let c0_i32_1 : BitVec 32 := 0#32
  let c1_i32_3 : BitVec 32 := 1#32
  let arg10 : BitVec 32 := Scf.iv c0_i32_1 c1_i32_3 k4_t2
  let c128_i32 : BitVec 32 := 128#32
  let v5 : BitVec 32 := Scalar.muli arg10 c128_i32
  let v6 : BitVec 32 := Scalar.addi c0_i32_5 v5
  ![0, v6.toNat]
def k4_off6 (k4_t2 : Fin k4_t2_loop.trips) : Fin 2 → Nat :=
  let c0_i32_7 : BitVec 32 := 0#32
  let c0_i32_5 : BitVec 32 := 0#32
  let c0_i32_1 : BitVec 32 := 0#32
  let c1_i32_3 : BitVec 32 := 1#32
  let arg10 : BitVec 32 := Scf.iv c0_i32_1 c1_i32_3 k4_t2
  let c128_i32 : BitVec 32 := 128#32
  let v5 : BitVec 32 := Scalar.muli arg10 c128_i32
  let v6 : BitVec 32 := Scalar.addi c0_i32_5 v5
  ![0, v6.toNat]
abbrev grid5 : Pipeline.Grid := ⟨1, ![4], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S512x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S512x1024 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S512x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S512x1 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S512x1024 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev scKind : Fin 3 → Kind := fun | 0 => .scVector | 1 => .scVector | 2 => .scVector | ⟨_ + 3, h⟩ => absurd h (Nat.not_lt.2 (Nat.le_add_left _ _))
abbrev scNCore : Fin 3 → Nat := fun | 0 => 2 | 1 => 2 | 2 => 2 | ⟨_ + 3, h⟩ => absurd h (Nat.not_lt.2 (Nat.le_add_left _ _))
abbrev scNSub : Fin 3 → Nat := fun | 0 => 16 | 1 => 16 | 2 => 16 | ⟨_ + 3, h⟩ => absurd h (Nat.not_lt.2 (Nat.le_add_left _ _))
-- ==== ReferenceIdeal.lean ====
abbrev S1x2048x1024 : Shape := ⟨3, ![1, 2048, 1024]⟩
abbrev S1024x8 : Shape := ⟨2, ![1024, 8]⟩
abbrev S8x1024x4096 : Shape := ⟨3, ![8, 1024, 4096]⟩
abbrev S8x4096x1024 : Shape := ⟨3, ![8, 4096, 1024]⟩
abbrev S2048x1024 : Shape := ⟨2, ![2048, 1024]⟩
abbrev S2048x8 : Shape := ⟨2, ![2048, 8]⟩
abbrev S_ : Shape := ⟨0, ![]⟩
abbrev S2048 : Shape := ⟨1, ![2048]⟩
abbrev S2048x1 : Shape := ⟨2, ![2048, 1]⟩
abbrev S2048x2 : Shape := ⟨2, ![2048, 2]⟩
abbrev S4096 : Shape := ⟨1, ![4096]⟩
abbrev S4096x1 : Shape := ⟨2, ![4096, 1]⟩
abbrev S1x8 : Shape := ⟨2, ![1, 8]⟩
abbrev S4096x8 : Shape := ⟨2, ![4096, 8]⟩
abbrev S8192x1024 : Shape := ⟨2, ![8192, 1024]⟩
abbrev S4096x1024 : Shape := ⟨2, ![4096, 1024]⟩
abbrev S8x1024x1024 : Shape := ⟨3, ![8, 1024, 1024]⟩

abbrev nBuf : Space → Nat
  | .hbm => 128
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1024x8, .f32⟩
  | .hbm, ⟨2, _⟩ => ⟨S8x1024x4096, .f32⟩
  | .hbm, ⟨3, _⟩ => ⟨S8x4096x1024, .f32⟩
  | .hbm, ⟨4, _⟩ => ⟨S2048x1024, .f32⟩
  | .hbm, ⟨5, _⟩ => ⟨S2048x8, .f32⟩
  | .hbm, ⟨6, _⟩ => ⟨S_, .f32⟩
  | .hbm, ⟨7, _⟩ => ⟨S2048, .f32⟩
  | .hbm, ⟨8, _⟩ => ⟨S_, .f32⟩
  | .hbm, ⟨9, _⟩ => ⟨S2048, .f32⟩
  | .hbm, ⟨10, _⟩ => ⟨S2048, .f32⟩
  | .hbm, ⟨11, _⟩ => ⟨S2048x1, .f32⟩
  | .hbm, ⟨12, _⟩ => ⟨S2048x8, .f32⟩
  | .hbm, ⟨13, _⟩ => ⟨S2048x8, .f32⟩
  | .hbm, ⟨14, _⟩ => ⟨S2048x8, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S2048x8, .f32⟩
  | .hbm, ⟨19, _⟩ => ⟨S2048x8, .f32⟩
  | .hbm, ⟨20, _⟩ => ⟨S2048x2, .f32⟩
  | .hbm, ⟨21, _⟩ => ⟨S2048x2, .i32⟩
  | .hbm, ⟨22, _⟩ => ⟨S4096, .i32⟩
  | .hbm, ⟨23, _⟩ => ⟨S4096, .f32⟩
  | .hbm, ⟨24, _⟩ => ⟨S2048, .i32⟩
  | .hbm, ⟨25, _⟩ => ⟨S2048x2, .i32⟩
  | .hbm, ⟨26, _⟩ => ⟨S4096, .i32⟩
  | .hbm, ⟨27, _⟩ => ⟨S4096x1, .i32⟩
  | .hbm, ⟨28, _⟩ => ⟨S1x8, .i32⟩
  | .hbm, ⟨29, _⟩ => ⟨S4096x8, .i32⟩
  | .hbm, ⟨30, _⟩ => ⟨S4096x8, .i32⟩
  | .hbm, ⟨31, _⟩ => ⟨S4096x8, .i1⟩
  | .hbm, ⟨32, _⟩ => ⟨S4096x8, .i32⟩
  | .hbm, ⟨33, _⟩ => ⟨S_, .i32⟩
  | .hbm, ⟨34, _⟩ => ⟨S_, .i32⟩
  | .hbm, ⟨35, _⟩ => ⟨S4096x8, .i32⟩
  | .hbm, ⟨36, _⟩ => ⟨S4096x8, .i32⟩
  | .hbm, ⟨37, _⟩ => ⟨S_, .i32⟩
  | .hbm, ⟨38, _⟩ => ⟨S4096, .i32⟩
  | .hbm, ⟨39, _⟩ => ⟨S_, .i32⟩
  | .hbm, ⟨40, _⟩ => ⟨S4096, .i32⟩
  | .hbm, ⟨41, _⟩ => ⟨S4096, .i32⟩
  | .hbm, ⟨42, _⟩ => ⟨S_, .i32⟩
  | .hbm, ⟨43, _⟩ => ⟨S4096, .i32⟩
  | .hbm, ⟨44, _⟩ => ⟨S4096, .i1⟩
  | .hbm, ⟨45, _⟩ => ⟨S4096, .f32⟩
  | .hbm, ⟨46, _⟩ => ⟨S_, .i32⟩
  | .hbm, ⟨47, _⟩ => ⟨S4096, .i32⟩
  | .hbm, ⟨48, _⟩ => ⟨S4096, .i32⟩
  | .hbm, ⟨49, _⟩ => ⟨S4096, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S4096, .i32⟩
  | .hbm, ⟨54, _⟩ => ⟨S4096, .i32⟩
  | .hbm, ⟨55, _⟩ => ⟨S_, .i32⟩
  | .hbm, ⟨56, _⟩ => ⟨S4096, .i32⟩
  | .hbm, ⟨57, _⟩ => ⟨S4096, .i32⟩
  | .hbm, ⟨58, _⟩ => ⟨S_, .f32⟩
  | .hbm, ⟨59, _⟩ => ⟨S8192x1024, .f32⟩
  | .hbm, ⟨60, _⟩ => ⟨S_, .i32⟩
  | .hbm, ⟨61, _⟩ => ⟨S4096, .i32⟩
  | .hbm, ⟨62, _⟩ => ⟨S4096, .i1⟩
  | .hbm, ⟨63, _⟩ => ⟨S_, .i32⟩
  | .hbm, ⟨64, _⟩ => ⟨S4096, .i32⟩
  | .hbm, ⟨65, _⟩ => ⟨S4096, .i32⟩
  | .hbm, ⟨66, _⟩ => ⟨S4096, .i32⟩
  | .hbm, ⟨67, _⟩ => ⟨S4096x1, .i32⟩
  | .hbm, ⟨68, _⟩ => ⟨S4096x1024, .f32⟩
  | .hbm, ⟨69, _⟩ => ⟨S4096x1, .f32⟩
  | .hbm, ⟨70, _⟩ => ⟨S4096x1024, .f32⟩
  | .hbm, ⟨71, _⟩ => ⟨S4096x1024, .f32⟩
  | .hbm, ⟨72, _⟩ => ⟨S_, .i32⟩
  | .hbm, ⟨73, _⟩ => ⟨S4096, .i32⟩
  | .hbm, ⟨74, _⟩ => ⟨S4096, .i1⟩
  | .hbm, ⟨75, _⟩ => ⟨S_, .i32⟩
  | .hbm, ⟨76, _⟩ => ⟨S4096, .i32⟩
  | .hbm, ⟨77, _⟩ => ⟨S4096, .i32⟩
  | .hbm, ⟨78, _⟩ => ⟨S4096, .i32⟩
  | .hbm, ⟨79, _⟩ => ⟨S4096x1, .i32⟩
  | .hbm, ⟨80, _⟩ => ⟨S8192x1024, .f32⟩
  | .hbm, ⟨81, _⟩ => ⟨S8x1024x1024, .f32⟩
  | .hbm, ⟨82, _⟩ => ⟨S8x1024x4096, .f32⟩
  | .hbm, ⟨83, _⟩ => ⟨S8x1024x4096, .f32⟩
  | .hbm, ⟨84, _⟩ => ⟨S8x1024x4096, .f32⟩
  | .hbm, ⟨85, _⟩ => ⟨S_, .f32⟩
  | .hbm, ⟨86, _⟩ => ⟨S8x1024x4096, .f32⟩
  | .hbm, ⟨87, _⟩ => ⟨S8x1024x4096, .f32⟩
  | .hbm, ⟨88, _⟩ => ⟨S8x1024x4096, .f32⟩
  | .hbm, ⟨89, _⟩ => ⟨S_, .f32⟩
  | .hbm, ⟨90, _⟩ => ⟨S8x1024x4096, .f32⟩
  | .hbm, ⟨91, _⟩ => ⟨S8x1024x4096, .f32⟩
  | .hbm, ⟨92, _⟩ => ⟨S8x1024x4096, .f32⟩
  | .hbm, ⟨93, _⟩ => ⟨S_, .f32⟩
  | .hbm, ⟨94, _⟩ => ⟨S8x1024x4096, .f32⟩
  | .hbm, ⟨95, _⟩ => ⟨S8x1024x4096, .f32⟩
  | .hbm, ⟨96, _⟩ => ⟨S_, .f32⟩
  | .hbm, ⟨97, _⟩ => ⟨S8x1024x4096, .f32⟩
  | .hbm, ⟨98, _⟩ => ⟨S8x1024x4096, .f32⟩
  | .hbm, ⟨99, _⟩ => ⟨S8x1024x4096, .f32⟩
  | .hbm, ⟨100, _⟩ => ⟨S8x1024x1024, .f32⟩
  | .hbm, ⟨101, _⟩ => ⟨S8192x1024, .f32⟩
  | .hbm, ⟨102, _⟩ => ⟨S_, .f32⟩
  | .hbm, ⟨103, _⟩ => ⟨S2048x1024, .f32⟩
  | .hbm, ⟨104, _⟩ => ⟨S4096x1, .f32⟩
  | .hbm, ⟨105, _⟩ => ⟨S4096x1, .f32⟩
  | .hbm, ⟨106, _⟩ => ⟨S4096x1, .f32⟩
  | .hbm, ⟨107, _⟩ => ⟨S_, .i32⟩
  | .hbm, ⟨108, _⟩ => ⟨S4096, .i32⟩
  | .hbm, ⟨109, _⟩ => ⟨S4096, .i1⟩
  | .hbm, ⟨110, _⟩ => ⟨S_, .i32⟩
  | .hbm, ⟨111, _⟩ => ⟨S4096, .i32⟩
  | .hbm, ⟨112, _⟩ => ⟨S4096, .i32⟩
  | .hbm, ⟨113, _⟩ => ⟨S4096, .i32⟩
  | .hbm, ⟨114, _⟩ => ⟨S4096x1, .i32⟩
  | .hbm, ⟨115, _⟩ => ⟨S4096x1024, .f32⟩
  | .hbm, ⟨116, _⟩ => ⟨S4096x1024, .f32⟩
  | .hbm, ⟨117, _⟩ => ⟨S4096x1024, .f32⟩
  | .hbm, ⟨118, _⟩ => ⟨S_, .i32⟩
  | .hbm, ⟨119, _⟩ => ⟨S4096, .i32⟩
  | .hbm, ⟨120, _⟩ => ⟨S4096, .i1⟩
  | .hbm, ⟨121, _⟩ => ⟨S_, .i32⟩
  | .hbm, ⟨122, _⟩ => ⟨S4096, .i32⟩
  | .hbm, ⟨123, _⟩ => ⟨S4096, .i32⟩
  | .hbm, ⟨124, _⟩ => ⟨S4096, .i32⟩
  | .hbm, ⟨125, _⟩ => ⟨S4096x1, .i32⟩
  | .hbm, ⟨126, _⟩ => ⟨S2048x1024, .f32⟩
  | .hbm, ⟨127, _⟩ => ⟨S1x2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_values : Ref sig .tc := ⟨.hbm, 20, rfl⟩
abbrev main_indices : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v18 : Ref sig .tc := ⟨.hbm, 32, rfl⟩
abbrev main_call1_call0_c : Ref sig .tc := ⟨.hbm, 33, rfl⟩
abbrev main_call1_call0_v0 : Ref sig .tc := ⟨.hbm, 34, rfl⟩
abbrev main_v19 : Ref sig .tc := ⟨.hbm, 35, rfl⟩
abbrev main_v20 : Ref sig .tc := ⟨.hbm, 36, rfl⟩
abbrev main_c : Ref sig .tc := ⟨.hbm, 37, rfl⟩
abbrev main_v21 : Ref sig .tc := ⟨.hbm, 38, rfl⟩
abbrev main_c_2 : Ref sig .tc := ⟨.hbm, 39, rfl⟩
abbrev main_v22 : Ref sig .tc := ⟨.hbm, 40, rfl⟩
abbrev main_v23 : Ref sig .tc := ⟨.hbm, 41, rfl⟩
abbrev main_c_3 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_5 : Ref sig .tc := ⟨.hbm, 50, rfl⟩
abbrev main_c_6 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_v30 : Ref sig .tc := ⟨.hbm, 57, rfl⟩
abbrev main_cst_7 : Ref sig .tc := ⟨.hbm, 58, rfl⟩
abbrev main_v31 : Ref sig .tc := ⟨.hbm, 59, rfl⟩
abbrev main_c_8 : Ref sig .tc := ⟨.hbm, 60, rfl⟩
abbrev main_v32 : Ref sig .tc := ⟨.hbm, 61, rfl⟩
abbrev main_v33 : Ref sig .tc := ⟨.hbm, 62, rfl⟩
abbrev main_c_9 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_c_10 : Ref sig .tc := ⟨.hbm, 72, rfl⟩
abbrev main_v42 : Ref sig .tc := ⟨.hbm, 73, rfl⟩
abbrev main_v43 : Ref sig .tc := ⟨.hbm, 74, rfl⟩
abbrev main_c_11 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_12 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_13 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_14 : Ref sig .tc := ⟨.hbm, 93, rfl⟩
abbrev main_v59 : Ref sig .tc := ⟨.hbm, 94, rfl⟩
abbrev main_v60 : Ref sig .tc := ⟨.hbm, 95, rfl⟩
abbrev main_cst_15 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_cst_16 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_c_17 : Ref sig .tc := ⟨.hbm, 107, rfl⟩
abbrev main_v70 : Ref sig .tc := ⟨.hbm, 108, rfl⟩
abbrev main_v71 : Ref sig .tc := ⟨.hbm, 109, rfl⟩
abbrev main_c_18 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_c_19 : Ref sig .tc := ⟨.hbm, 118, rfl⟩
abbrev main_v79 : Ref sig .tc := ⟨.hbm, 119, rfl⟩
abbrev main_v80 : Ref sig .tc := ⟨.hbm, 120, rfl⟩
abbrev main_c_20 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩

abbrev nD : Nat := 1
abbrev τ : Topo := Topo.v7x

variable {F : FTy → Type} [FloatOps F]
-- ==== Proof.Common.lean ====
/-
  What the proof's modules share: the program as the launch theorem sees it (three SparseCore calls
  over three TensorCore pipelines), the ghost state, the arrays' locations, the shares the tiles read
  at and the sets of rows they write.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ValueIdxCore
public import proofs.«01_k».proof.Proof.Gen.KernelIdeal
public import proofs.«01_k».proof.Proof.Gen.KernelIdeal.Skeleton

@[expose] public section

noncomputable section

namespace Cert.Proof

open Cert.KernelIdeal Cert.KernelIdeal.Gen
open Idealize.ShloMosaic
open Idealize.ShloMosaic.SparseCore (S V)
open Idealize.ShloMosaic.ValueIdx (ix1 ix2)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program -/

abbrev ΛP : Labels := Pipeline.Sig Λ₀ (Fin 3) fun p => (pcfgs (F := F) p).Adm
abbrev K : SparseCore.Cfg τ sig (ΛP (F := F)) 3 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state -/

abbrev UH : Type := URounds (GSem nD τ sig) ℕ
abbrev UP : Type := UR sig nD τ
abbrev UU : Type := UH × UP × Counters

/-- The propositions' algebra. -/
abbrev MM (F : FTy → Type) : Type := MT nD τ sig (HIx 3) (Elt F) ℕ UU ℕ

abbrev EH : Emb UH (MM F) := embL
/-- The pipelines' rounds: the left of the second component. -/
abbrev EP : Emb UP (MM F) := (Emb.inl : Emb UP (UP × Counters)).trans embR

/-! ## Halves of a share, `n` times -/

/-- Leaf `i` of the `n`-fold halving of `q`: the halves taken by the bits of `i`, least significant first. -/
def leaf : (n : ℕ) → PosShare TreeShare → Fin (2 ^ n) → PosShare TreeShare
  | 0, q, _ => q
  | n + 1, q, i => if i.val % 2 = 0 then leaf n q.left ⟨i.val / 2, by have := i.isLt; omega⟩ else leaf n q.right ⟨i.val / 2, by have := i.isLt; omega⟩

/-- A number below `2 ^ (n + 1)` is its low bit and the rest. -/
def bitEquiv (n : ℕ) : Fin (2 ^ n) ⊕ Fin (2 ^ n) ≃ Fin (2 ^ (n + 1)) where
  toFun := fun s => match s with | .inl i => ⟨2 * i.val, by have := i.isLt; omega⟩ | .inr i => ⟨2 * i.val + 1, by have := i.isLt; omega⟩
  invFun := fun i => if i.val % 2 = 0 then .inl ⟨i.val / 2, by have := i.isLt; omega⟩ else .inr ⟨i.val / 2, by have := i.isLt; omega⟩
  left_inv := by
    rintro (i | i)
    · have h : (2 * i.val) % 2 = 0 := by omega
      simp only [h, ↓reduceIte]; congr 1; apply Fin.ext; show 2 * i.val / 2 = i.val; omega
    · have h : ¬ (2 * i.val + 1) % 2 = 0 := by omega
      simp only [h, ↓reduceIte]; congr 1; apply Fin.ext; show (2 * i.val + 1) / 2 = i.val; omega
  right_inv := by
    intro i
    by_cases h : i.val % 2 = 0
    · simp only [h, ↓reduceIte]; apply Fin.ext; show 2 * (i.val / 2) = i.val; omega
    · simp only [h, ↓reduceIte]; apply Fin.ext; show 2 * (i.val / 2) + 1 = i.val; omega

theorem leaf_bit0 (n : ℕ) (q : PosShare TreeShare) (i : Fin (2 ^ n)) : leaf (n + 1) q (bitEquiv n (.inl i)) = leaf n q.left i := by
  rw [leaf, if_pos (show (bitEquiv n (.inl i)).val % 2 = 0 by show (2 * i.val) % 2 = 0; omega)]
  congr 1; apply Fin.ext; show 2 * i.val / 2 = i.val; omega
theorem leaf_bit1 (n : ℕ) (q : PosShare TreeShare) (i : Fin (2 ^ n)) : leaf (n + 1) q (bitEquiv n (.inr i)) = leaf n q.right i := by
  rw [leaf, if_neg (show ¬ (bitEquiv n (.inr i)).val % 2 = 0 by show ¬ (2 * i.val + 1) % 2 = 0; omega)]
  congr 1; apply Fin.ext; show (2 * i.val + 1) / 2 = i.val; omega

/-- Elements held at a share are held at all of the share's leaves at once. -/
theorem held_leaves {ℓ : Loc nD τ sig} (I : Finset (Idx ℓ)) (f : Buf (Elt F) ℓ) (n : ℕ) :
    ∀ q : PosShare TreeShare, (ℓ ↦[I]{q} f : sProp (MM F)) = bigSep Finset.univ fun i : Fin (2 ^ n) => ℓ ↦[I]{leaf n q i} f := by
  induction n with
  | zero => exact fun q => (bigSep_univ_of_subsingleton (0 : Fin 1) (Φ := fun i : Fin (2 ^ 0) => (ℓ ↦[I]{leaf 0 q i} f : sProp (MM F)))).symm
  | succ n ih =>
    intro q
    have hs := PosShare.mem_left_op_right q
    rw [BI.Entails.antisymm (pointsTo_share hs).1 (pointsTo_share hs).2, ih q.left, ih q.right,
      bigSep_univ_equiv (bitEquiv n), bigSep_univ_sum]
    simp only [leaf_bit0, leaf_bit1]; rfl

/-! ## The arrays -/

section Arrays
variable (d : Dev nD)
abbrev ℓx : Loc nD τ sig := (SparseCore.T d).loc main_v0
abbrev ℓs0 : Loc nD τ sig := (SparseCore.T d).loc main_v2
abbrev ℓs1 : Loc nD τ sig := (SparseCore.T d).loc main_v3
abbrev ℓk0 : Loc nD τ sig := (SparseCore.T d).loc main_v4
abbrev ℓk1 : Loc nD τ sig := (SparseCore.T d).loc main_v5
abbrev ℓinv : Loc nD τ sig := (SparseCore.T d).loc main_v6
abbrev ℓbuf : Loc nD τ sig := (SparseCore.T d).loc main_v7
abbrev ℓz : Loc nD τ sig := (SparseCore.T d).loc main_v11
abbrev ℓy0 : Loc nD τ sig := (SparseCore.T d).loc main_v12_0
abbrev ℓy1 : Loc nD τ sig := (SparseCore.T d).loc main_v12_1
end Arrays

/-- The rows of the dispatched array tile `w` of 32 writes. -/
def rowsOf256 (w : ℕ) : Finset S8192x1024.Idx := Finset.univ.filter fun j => (j 0).val / 256 = w
/-- The rows of a combined array tile `w` of 32 writes. -/
def rowsOf64 (w : ℕ) : Finset S2048x1024.Idx := Finset.univ.filter fun j => (j 0).val / 64 = w

/-- Row `i[j₀]` of an array of `n` rows, at column `j₁`: what a gather of rows by the list `i` holds at `j`. -/
def rowsBy {α : Type} {n r c : ℕ} [NeZero n] (g : (⟨2, ![n, c]⟩ : Shape).Idx → α) (i : (⟨1, ![r]⟩ : Shape).Idx → BitVec 32) :
    (⟨2, ![r, c]⟩ : Shape).Idx → α :=
  fun j => g (ix2 (Fin.ofNat n (i (ix1 (j 0))).toNat) (j 1))

end Cert.Proof

end
-- ==== Proof.TcSteps.lean ====
/-
  A TensorCore body's loads and stores at a memref owned at contents: a load reads the contents through its
  rectangle, a store overlays its payload there, and both are plain at a rectangle that is the whole shape.
-/
module

public import proofs.«01_k».proof.Proof.Common

@[expose] public section

noncomputable section

namespace Cert.Proof

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

section Whole
variable {sh : Shape} {α : Type} {off : Fin sh.rank → ℕ} {inb : ∀ a, off a + sh.size a ≤ sh.size a}

/-- The rectangle at no offset and of the shape's own sizes names every index as itself. -/
theorem unit_whole_emb (h0 : ∀ a, off a = 0) (x : (Rect.unit (s := sh) off sh.size inb).shape.Idx) :
    (Rect.unit (s := sh) off sh.size inb).emb x = x := by
  funext a; apply Fin.ext
  show off a + 1 * (x a).val = (x a).val
  rw [h0 a]; omega

theorem overlay_whole (h0 : ∀ a, off a = 0) (X : sh.Idx → α) (w : (Rect.unit (s := sh) off sh.size inb).shape.Idx → α) :
    (Rect.unit (s := sh) off sh.size inb).overlay X w = w := by
  funext x
  have h := Rect.overlay_emb (Rect.unit (s := sh) off sh.size inb) X w x
  rwa [unit_whole_emb h0] at h
end Whole

section
variable (c : Thread nD τ) {α : Type} {Q : α → sProp (MM F)} {cs : CoreSpace} {sh : Shape} {e : EltTy} {m : Memref sig c.2.kind cs sh e}

theorem wp_loadX {r : Rect sh} {hl : m.view.LoadsAt r.toLoadRect} {k : (r.shape.Idx → Elt F e) → Prog (TpuEff nD τ sig (Elt F) Λ₀ c.2) α}
    {q : PosShare TreeShare} {X : sh.Idx → Elt F e} :
    (owns c m q X : sProp (MM F))
      ⊢ iprop((owns c m q X -∗ wp frame (wpE (defs₀ (F := F)) 𝒱₀ c none) Set.univ (k fun j => X (r.emb j)) Q)
          -∗ wp frame (wpE (defs₀ (F := F)) 𝒱₀ c none) Set.univ (.op (.load m r.toLoadRect hl) k) Q) := by
  unfold owns
  iintro ⟨%f, %hf, H⟩ Hk
  iapply (wp_load 𝒱₀ c none Set.univ (S := m.view.set) (View.setOn_subset_set _ _)) $$ H
  iintro H
  have hv : m.view.readAt (Elt F) r.toLoadRect f = fun j => X (r.emb j) := by rw [← hf]; rfl
  rw [hv]
  iapply Hk
  iexists f; isplitr
  · ipureintro; exact hf
  iexact H

theorem wp_loadW {off : Fin sh.rank → ℕ} {inb : ∀ a, off a + sh.size a ≤ sh.size a} (h0 : ∀ a, off a = 0)
    {hl : m.view.LoadsAt (Rect.unit (s := sh) off sh.size inb).toLoadRect} {k : (sh.Idx → Elt F e) → Prog (TpuEff nD τ sig (Elt F) Λ₀ c.2) α}
    {q : PosShare TreeShare} {X : sh.Idx → Elt F e} :
    (owns c m q X : sProp (MM F))
      ⊢ iprop((owns c m q X -∗ wp frame (wpE (defs₀ (F := F)) 𝒱₀ c none) Set.univ (k X) Q)
          -∗ wp frame (wpE (defs₀ (F := F)) 𝒱₀ c none) Set.univ (.op (.load m (Rect.unit (s := sh) off sh.size inb).toLoadRect hl) k) Q) := by
  have h := wp_loadX (F := F) c (Q := Q) (m := m) (r := Rect.unit (s := sh) off sh.size inb) (hl := hl) (k := k) (q := q) (X := X)
  have hv : (fun j => X ((Rect.unit (s := sh) off sh.size inb).emb j)) = X := by
    funext j; rw [unit_whole_emb h0]
  rw [hv] at h; exact h

theorem wp_storeX {r : Rect sh} {w : r.shape.Idx → Elt F e} {hx : (m.access r).Stores Finset.univ} {hm : (Finset.univ : Finset r.shape.Idx) = Finset.univ ∨ ∀ a, r.stride a = 1}
    {k : PUnit → Prog (TpuEff nD τ sig (Elt F) Λ₀ c.2) α} {X : sh.Idx → Elt F e} :
    (owns c m fullShare X : sProp (MM F))
      ⊢ iprop((owns c m fullShare (r.overlay X w) -∗ wp frame (wpE (defs₀ (F := F)) 𝒱₀ c none) Set.univ (k ⟨⟩) Q)
          -∗ wp frame (wpE (defs₀ (F := F)) 𝒱₀ c none) Set.univ (.op (.store m r w Finset.univ hx hm) k) Q) := by
  unfold owns
  iintro ⟨%f, %hf, H⟩ Hk
  have hS : (m.access r).setOn Finset.univ ⊆ m.view.set := (View.setOn_subset_set _ _).trans (View.set_slice_subset _ _)
  iapply (wp_store (defs := defs₀ (F := F)) (Γ := .empty) 𝒱₀ c none Set.univ (m := m) (r := r) (w := w) (Mk := Finset.univ) (hx := hx) (hm := hm) (k := k) (Q := Q)
    (f := f) (S := m.view.set) hS) $$ H
  iintro H
  iapply Hk
  iexists (m.access r).write (Elt F) f w Finset.univ
  isplitr
  · ipureintro
    funext j
    by_cases hj : j ∈ r.set
    · rw [← Rect.map_emb_univ, Finset.mem_map] at hj
      obtain ⟨i, -, rfl⟩ := hj
      rw [Rect.overlay_emb]
      exact View.read_slice_write_emb r f w (Finset.mem_univ i)
    · rw [Rect.overlay_of_not_mem _ _ _ hj, ← hf]
      exact View.read_slice_write_of_not_mem r f w _ (by rw [Rect.map_emb_univ]; exact hj)
  iexact H

theorem wp_storeW {off : Fin sh.rank → ℕ} {inb : ∀ a, off a + sh.size a ≤ sh.size a} (h0 : ∀ a, off a = 0)
    {w : sh.Idx → Elt F e} {hx : (m.access (Rect.unit (s := sh) off sh.size inb)).Stores Finset.univ}
    {hm : (Finset.univ : Finset (Rect.unit (s := sh) off sh.size inb).shape.Idx) = Finset.univ ∨ ∀ a, (Rect.unit (s := sh) off sh.size inb).stride a = 1}
    {k : PUnit → Prog (TpuEff nD τ sig (Elt F) Λ₀ c.2) α} {X : sh.Idx → Elt F e} :
    (owns c m fullShare X : sProp (MM F))
      ⊢ iprop((owns c m fullShare w -∗ wp frame (wpE (defs₀ (F := F)) 𝒱₀ c none) Set.univ (k ⟨⟩) Q)
          -∗ wp frame (wpE (defs₀ (F := F)) 𝒱₀ c none) Set.univ (.op (.store m (Rect.unit (s := sh) off sh.size inb) w Finset.univ hx hm) k) Q) := by
  have h := wp_storeX (F := F) c (Q := Q) (m := m) (r := Rect.unit (s := sh) off sh.size inb) (w := w) (hx := hx) (hm := hm) (k := k) (X := X)
  rw [overlay_whole h0] at h; exact h
end

end Cert.Proof
-- ==== Proof.Region.lean ====
/-
  A TensorCore pipeline entered between SparseCore calls: its proof data owes throughout what the
  TensorCore owes the calls still to come, and its waits sit at no call's index, below all of that.
  One statement serves the three pipelines.
-/
module

public import proofs.«01_k».proof.Proof.TcSteps
public import proofs.«01_k».proof.Proof.Gen.KernelIdeal.Launch
public import Idealize.ShloMosaic.Lib.Pipeline.RegionArrays

@[expose] public section

noncomputable section

namespace Cert.Proof

open Cert.KernelIdeal Cert.KernelIdeal.Gen
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligationLoose)

variable {F : FTy → Type} [FloatOps F]

/-- The recorded pairs a region is entered and left with before call `n`: all at or below the call's level. -/
abbrev below (c : Dev nD) (n : ℕ) : Set (SemLoc sig × HIx 3) := {p | (K (F := F)).lev (SparseCore.T c, p.1) p.2 ≤ 8 * n}

/-- The TensorCore's state before call `n`, but what it owes. -/
def tcRest (d : Dev nD) (n : ℕ) : sProp (MM F) :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_eq (d : Dev nD) (n : ℕ) :
    ((K (F := F)).tcSt EH d n : sProp (MM F))
      = iprop((∃ W, ⌜(K (F := F)).WBelow (SparseCore.T d) W (8 * n)⌝ ∗ owes (SparseCore.T d) ((K (F := F)).Otc d n) W) ∗ tcRest d n) := rfl

section Seg
variable (a : (p : Fin 3) → (pcfgs (F := F) p).Adm)
  (pdats : (p : Fin 3) → (c : Dev nD) → Dat τ (Elt F) (HIx 3) ℕ UU ℕ (Pipeline.pin pcfgs a p) c)

/-- A pipeline's part of the region's ghost state. -/
abbrev ghost (p : Fin 3) (c : Dev nD) : sProp (MM F) :=
  iprop(Pipeline.cellsGhost (Pipeline.pin (pcfgs (F := F)) a) EP p c ∗ Pipeline.toksInit (Pipeline.pin (pcfgs (F := F)) a) EP p c)

/-- The invariant every pipeline's proof data states: the tables and the buffers no window stages. -/
abbrev inv (p : Fin 3) (c : Dev nD) : sProp (MM F) :=
  iprop(Pipeline.prefHeld (pcfgs (F := F) p).pre c (fun _ => fullShare) (a p).1 ∗ Pipeline.scopedRest (Pipeline.pin (pcfgs (F := F)) a p).spec c)

/-- Pipeline `p` entered before call `n`. -/
def regionSeg (p : Fin 3) (n : ℕ) (kit : Pipeline.PLaunchFacts (nD := nD) (τ := τ) (pcfgs (F := F)) p)
    (hbody : ∀ c, BodyObligationLoose (pdats p c) (defs₀ (F := F)) 𝒱₀ (none : HIx 3) Set.univ)
    (howed : ∀ c t, (pdats p c).owed t = (K (F := F)).Otc c n)
    (hrec : ∀ c t, (pdats p c).recorded t = below (F := F) c n)
    (hΦ : ∀ c t, (pdats p c).Φ t = inv a p c) :
    Pipeline.RegionSeg (Name := ℕ) (U := UU) (pcfgs (F := F)) a pdats (none : HIx 3) (defs₀ (F := F)) 𝒱₀ (K (F := F)).L (K (F := F)).lev p where
  win := kit.win.to₀
  block_pos := kit.block_pos
  stage_whole := kit.stage_whole
  K := PEmpty
  osem k := k.elim
  ho := Pipeline.OwnSemFacts.none _
  hbody := hbody
  hwaits c := Pipeline.cellsWaits_of_cut (Pipeline.pin (pcfgs (F := F)) a) pdats (none : HIx 3) p c 0 ((K (F := F)).Otc c n) (howed c)
    (fun _ _ => Finset.mem_univ _) (fun _ _ => le_rfl)
    (fun g i hg => ⟨Finset.mem_univ _, by have := SparseCore.Cfg.lev_of_Otc_pos hg; exact Nat.lt_of_lt_of_le (Nat.succ_pos _) this⟩)
  pre c := iprop((K (F := F)).tcSt EH c n ∗ (pdats p c).arrays ((pdats p c).arrAt · 0) ∗ Pipeline.prefHeld (pcfgs (F := F) p).pre c (fun _ => fullShare) (a p).1)
  post c := iprop((K (F := F)).tcSt EH c n ∗ (pdats p c).arrays ((pdats p c).arrAt · (Pipeline.pin (pcfgs (F := F)) a p).N)
    ∗ Pipeline.prefHeld (pcfgs (F := F) p).pre c (fun _ => fullShare) (a p).1)
  X _ := iprop(emp)
  Y c := Pipeline.prefHeld (pcfgs (F := F) p).pre c (fun _ => fullShare) (a p).1
  Z c := tcRest c n
  hentry c := by
    rw [Pipeline.ownSems0_none, tcSt_eq]
    iintro ⟨⟨⟨⟨%W, %hW, HO⟩, Hr⟩, HA, HP⟩, -, -⟩
    imodintro
    isplitl [HA]; · iexact HA
    isplitl [HP]; · iexact HP
    isplitl [HO]
    · unfold Dat.owesAt Pipeline.owesWithin Dat.bound
      rw [howed c, hrec c]
      iexists W; isplitr
      · ipureintro; exact fun q hq => Or.inl (hW q hq)
      · iexact HO
    isplitr; · iempintro
    iexact Hr
  hin c := by
    rw [hΦ c]
    iintro ⟨-, HP, HR⟩
    isplitl [HP] <;> iassumption
  hout c := by
    rw [hΦ c, Pipeline.ownSems0_none]
    iintro ⟨HP, HR⟩
    isplitl [HP]; · iexact HP
    isplitr; · iempintro
    iexact HR
  hexit c := by
    rw [tcSt_eq]
    unfold Dat.owesAt Pipeline.owesWithin Dat.bound
    rw [howed c, hrec c]
    iintro ⟨HA, ⟨%W, %hW, HO⟩, HP, HZ⟩
    imodintro
    isplitl [HO HZ]
    · isplitl [HO]
      · iexists W; isplitr
        · ipureintro
          intro q hq
          rcases hW hq with h | ⟨w, s, h⟩
          · exact h
          · rw [h]; exact Nat.zero_le _
        · iexact HO
      · iexact HZ
    isplitl [HA] <;> iassumption

instance : EP.LandsIn (upEmb : UEmb _ (MM F)) := by unfold EP; infer_instance

variable [∀ e, Nonempty (Elt F e)]

/-- The region's step in `@main`: from the state before call `n`, the arrays as they come and the pipeline's
    ghost state, to the arrays as the pipeline leaves them. -/
theorem wp_region (p : Fin 3) (n : ℕ) (kit : Pipeline.PLaunchFacts (nD := nD) (τ := τ) (pcfgs (F := F)) p)
    (hbody : ∀ c, BodyObligationLoose (pdats p c) (defs₀ (F := F)) 𝒱₀ (none : HIx 3) Set.univ)
    (howed : ∀ c t, (pdats p c).owed t = (K (F := F)).Otc c n)
    (hrec : ∀ c t, (pdats p c).recorded t = below (F := F) c n)
    (hΦ : ∀ c t, (pdats p c).Φ t = inv a p c) (c : Dev nD) {Q : PUnit → sProp (MM F)} :
    iprop(boundary (SparseCore.T c) ∗ (K (F := F)).tcSt EH c n ∗ levAts (K (F := F)).L (K (F := F)).lev ∗ ghost a p c
        ∗ (pdats p c).arrays ((pdats p c).arrAt · 0) ∗ Pipeline.prefHeld (pcfgs (F := F) p).pre c (fun _ => fullShare) (a p).1
        ∗ (iprop(boundary (SparseCore.T c) ∗ (K (F := F)).tcSt EH c n ∗ (pdats p c).arrays ((pdats p c).arrAt · (Pipeline.pin (pcfgs (F := F)) a p).N)
          ∗ Pipeline.prefHeld (pcfgs (F := F) p).pre c (fun _ => fullShare) (a p).1) -∗ Q ⟨⟩))
      ⊢ wp frame (wpE ((K (F := F)).defs (D (F := F))) 𝒱 (SparseCore.T c) none) Set.univ
          (Prog.lift (.customCall (SparseCore.inner (Pipeline.entry p)) ())) Q := by
  refine BIBase.Entails.trans ?_ ((K (F := F)).wp_liftProg D 𝒱 (SparseCore.T c) Set.univ none (Prog.op (.customCall (Pipeline.entry p) ()) Prog.ret) Q)
  refine BIBase.Entails.trans ?_ ((regionSeg a pdats p n kit hbody howed hrec hΦ).wp (pcfgs (F := F)) a pdats none (cellOf_inj a) EP (defs₀ (F := F)) 𝒱₀ (K (F := F)).L (K (F := F)).lev c none
    (fun _ h => nomatch h) Prog.ret Q)
  dsimp only [regionSeg]
  iintro ⟨Hb, Ht, Hl, ⟨Hg, Hk'⟩, HA, HP, Hk⟩
  isplitl [Hk]
  · iintro ⟨Hb, Ht, HA, HP⟩
    rw [wp_ret]; imodintro
    iapply Hk
    isplitl [Hb]; · iexact Hb
    isplitl [Ht]; · iexact Ht
    isplitl [HA] <;> iassumption
  isplitl [Hb]; · iexact Hb
  isplitl [Ht HA HP]
  · isplitl [Ht]; · iexact Ht
    isplitl [HA] <;> iassumption
  isplitl [Hl]; · iexact Hl
  isplitl [Hg] <;> iassumption

end Seg

end Cert.Proof
-- ==== Proof.Reg0.lean ====
/-
  The router: its body on staging and scratch buffers owned at contents (the prefix counts by
  an invariant of its loop over row blocks), its proof data, and the arrays it leaves.
-/
module

public import proofs.«01_k».proof.Proof.Region
public import proofs.«01_k».proof.Proof.Gen.KernelIdeal.Points
public import Idealize.ShloMosaic.Lib.Pipeline.ValueKit

@[expose] public section

noncomputable section

namespace Cert.Proof

open Cert.KernelIdeal Cert.KernelIdeal.Gen
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligationLoose)

variable {F : FTy → Type} [FloatOps F]

namespace Router

theorem hz2 : ∀ a : Fin 2, (![0, 0] : Fin 2 → ℕ) a = 0 := by decide

/-! ## What it computes -/

/-- Row block `n` of the choices' one-hot sum. -/
def blockRows (v : Vec F S2048x8 .f32) (n : ℕ) : Vec F S512x8 .f32 :=
  fun j => v (ValueIdx.ix2 ⟨(512 * n + (j 0).val) % 2048, Nat.mod_lt _ (by decide)⟩ (j 1))

/-- The counts before row block `n`. -/
def carry (v : Vec F S2048x8 .f32) : ℕ → FVec F S1x8 .f32
  | 0 => k0_pay15
  | n + 1 => k0_pay17 (carry v n) (blockRows v n)

/-- The counts before each row. -/
def pre (v : Vec F S2048x8 .f32) : Vec F S2048x8 .f32 :=
  fun j => k0_pay16 (carry v ((j 0).val / 512)) (blockRows v ((j 0).val / 512)) (ValueIdx.ix2 ⟨(j 0).val % 512, Nat.mod_lt _ (by decide)⟩ (j 1))

/-- The lane numbers. -/
def lanes : IVec S2048x8 32 := iota .tc S2048x8 32 [1] iota_S2048x8_d1_w32

section Values
variable (x : Vec F S2048x1024 .f32) (w : Vec F S1024x8 .f32)

def hot : Vec F S2048x8 .f32 := k0_pay14 (k0_pay13 x w)
def slot0 : IVec S2048x1 32 := k0_pay22 (F := F) lanes (k0_pay9 x w) (pre (hot x w))
def slot1 : IVec S2048x1 32 := k0_pay1 (k0_pay12 x w) (k0_pay19 (F := F) lanes (k0_pay12 x w) (pre (hot x w))) k0_pay23
def keepB0 : IVec S2048x1 1 := k0_pay20 (F := F) lanes (k0_pay9 x w) (pre (hot x w))
def keepB1 : IVec S2048x1 1 := k0_pay21 (F := F) lanes (k0_pay12 x w) (pre (hot x w))
def keep0 : IVec S2048x1 32 := k0_pay2 (keepB0 x w)
def keep1 : IVec S2048x1 32 := k0_pay3 (keepB1 x w)
def wt0 : FVec F S2048x1 .f32 := k0_pay4 (k0_pay8 x w) (keepB0 x w)
def wt1 : FVec F S2048x1 .f32 := k0_pay5 (k0_pay11 x w) (keepB1 x w)
def cnt : IVec S1x8 32 := k0_pay6 (carry (hot x w) 4)
end Values

/-! ## The loop over row blocks -/

section Body
variable (d : Dev nD) (arg9 arg10 : Memref sig .tc .vmem S2048x8 .f32)

def invL (v : Vec F S2048x8 .f32) (k : ℕ) (acc : FVec F S1x8 .f32) : sProp (MM F) :=
  iprop(⌜acc = carry v k⌝ ∗ owns (d : Thread nD τ) arg9 fullShare v
    ∗ ∃ Y : Vec F S2048x8 .f32, ⌜∀ j, (j 0).val < 512 * k → Y j = pre v j⌝ ∗ owns (d : Thread nD τ) arg10 fullShare Y)

theorem trips0 : Scf.trips k0_t1_loop.lb k0_t1_loop.ub k0_t1_loop.st = 4 := by decide +kernel

variable (k : Fin k0_t1_loop.trips)

abbrev blk (k : Fin k0_t1_loop.trips) : Rect S2048x8 := Rect.unit (s := S2048x8) (k0_off1 k) S512x8.size (k0_off1_inb k)

theorem blk_emb0 (i : (blk k).shape.Idx) : ((blk k).emb i 0).val = 512 * k.val + (i 0).val := by
  show k0_off1 k 0 + 1 * (i 0).val = _
  rw [k0_off1_eq]; simp
theorem blk_emb1 (i : (blk k).shape.Idx) : ((blk k).emb i 1).val = (i 1).val := by
  show k0_off1 k 1 + 1 * (i 1).val = _
  rw [k0_off1_eq]; simp
theorem k_lt : k.val < 4 := Nat.lt_of_lt_of_le k.isLt (le_of_eq trips0)

theorem read_blk (v : Vec F S2048x8 .f32) : (fun j => v ((blk k).emb j)) = blockRows v k.val := by
  funext j
  unfold blockRows
  congr 1
  funext b; apply Fin.ext
  have hk := k_lt k
  have hj : (j 0).val < 512 := (j 0).isLt
  fin_cases b
  · show ((blk k).emb j 0).val = (512 * k.val + (j 0).val) % 2048
    rw [blk_emb0, Nat.mod_eq_of_lt (by omega)]
  · exact blk_emb1 k j

theorem mem_blk (j : S2048x8.Idx) (h1 : 512 * k.val ≤ (j 0).val) (h2 : (j 0).val < 512 * k.val + 512) :
    (blk k).emb (ValueIdx.ix2 (⟨(j 0).val - 512 * k.val, by omega⟩ : Fin 512) (j 1) : S512x8.Idx) = j := by
  funext b; apply Fin.ext
  fin_cases b
  · refine (blk_emb0 k _).trans ?_
    show 512 * k.val + ((j 0).val - 512 * k.val) = (j 0).val
    omega
  · exact blk_emb1 k _

theorem overlay_blk (v Y : Vec F S2048x8 .f32) (hY : ∀ j, (j 0).val < 512 * k.val → Y j = pre v j) (j : S2048x8.Idx)
    (hj : (j 0).val < 512 * (k.val + 1)) : (blk k).overlay Y (k0_pay16 (carry v k.val) (blockRows v k.val)) j = pre v j := by
  by_cases h : (j 0).val < 512 * k.val
  · rw [Rect.overlay_of_not_mem, hY j h]
    intro hm
    rw [← Rect.map_emb_univ, Finset.mem_map] at hm
    obtain ⟨i, -, hi⟩ := hm
    have h0 := blk_emb0 k i
    rw [hi] at h0
    omega
  · have hm := mem_blk k j (by omega) (by omega)
    generalize hi : (ValueIdx.ix2 (⟨(j 0).val - 512 * k.val, by omega⟩ : Fin 512) (j 1) : S512x8.Idx) = i at hm
    rw [← hm, Rect.overlay_emb, hm]
    unfold pre
    rw [show (j 0).val / 512 = k.val by omega, ← hi]
    congr 2
    apply Fin.ext
    show (j 0).val - 512 * k.val = (j 0).val % 512
    omega

theorem trip (v : Vec F S2048x8 .f32) (acc : FVec F S1x8 .f32)
    (arg0 : Memref sig .tc .vmem S2048x1024 .f32) (harg0 : arg0.IsWhole) (arg1 : Memref sig .tc .vmem S1024x8 .f32) (harg1 : arg1.IsWhole)
    (arg2 : Memref sig .tc .vmem S2048x1 .i32) (harg2 : arg2.IsWhole) (arg3 : Memref sig .tc .vmem S2048x1 .i32) (harg3 : arg3.IsWhole)
    (arg4 : Memref sig .tc .vmem S2048x1 .i32) (harg4 : arg4.IsWhole) (arg5 : Memref sig .tc .vmem S2048x1 .i32) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S1x8 .i32) (harg8 : arg8.IsWhole) (harg9 : arg9.IsWhole) (harg10 : arg10.IsWhole)
    (v13 : IVec S2048x8 32) (v21 v33 : IVec S2048x1 32) (v42 : FVec F S2048x8 .f32) (v43 : Vec F S2048x8 .f32) :
    invL d arg9 arg10 v k.val acc
      ⊢ wp frame (wpE (defs₀ (F := F)) 𝒱₀ (d : Thread nD τ) none) Set.univ
          (k0_t1_body arg0 harg0 arg1 harg1 arg2 harg2 arg3 harg3 arg4 harg4 arg5 harg5 arg6 harg6 arg7 harg7 arg8 harg8 arg9 harg9 arg10 harg10 v13 v21 v33 v42 v43 k acc)
          (invL d arg9 arg10 v (k.val + 1)) := by
  unfold k0_t1_body invL
  simp only [Prog.lift, Prog.bind_op, Prog.bind_ret]
  iintro ⟨%ha, H9, %Y, %hY, H10⟩
  iapply (wp_loadX (F := F) (d : Thread nD τ)) $$ H9
  iintro H9
  iapply (wp_loadX (F := F) (d : Thread nD τ)) $$ H10
  iintro H10
  iapply (wp_storeX (F := F) (d : Thread nD τ)) $$ H10
  iintro H10
  rw [wp_pure]; imodintro
  rw [show (fun j => v ((Rect.unit (s := S2048x8) (k0_off1 k) S512x8.size (k0_off1_inb k)).emb j)) = blockRows v k.val from read_blk k v, ha]
  isplitr
  · ipureintro; rfl
  isplitl [H9]; · iexact H9
  iexists _; isplitr
  · ipureintro; exact fun j hj => overlay_blk k v Y hY j hj
  iexact H10
end Body

/-! ## The body -/

theorem body (d : Dev nD)
    (arg0 : Memref sig .tc .vmem S2048x1024 .f32) (harg0 : arg0.IsWhole) (arg1 : Memref sig .tc .vmem S1024x8 .f32) (harg1 : arg1.IsWhole)
    (arg2 : Memref sig .tc .vmem S2048x1 .i32) (harg2 : arg2.IsWhole) (arg3 : Memref sig .tc .vmem S2048x1 .i32) (harg3 : arg3.IsWhole)
    (arg4 : Memref sig .tc .vmem S2048x1 .i32) (harg4 : arg4.IsWhole) (arg5 : Memref sig .tc .vmem S2048x1 .i32) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S1x8 .i32) (harg8 : arg8.IsWhole) (arg9 : Memref sig .tc .vmem S2048x8 .f32) (harg9 : arg9.IsWhole)
    (arg10 : Memref sig .tc .vmem S2048x8 .f32) (harg10 : arg10.IsWhole)
    (x : Vec F S2048x1024 .f32) (w : Vec F S1024x8 .f32) (X2 X3 X4 X5 : IVec S2048x1 32) (X6 X7 : Vec F S2048x1 .f32) (X8 : IVec S1x8 32)
    (X9 X10 : Vec F S2048x8 .f32) {Q : PUnit → sProp (MM F)} :
    iprop((owns (d : Thread nD τ) arg0 fullShare x ∗ owns (d : Thread nD τ) arg1 fullShare w
        ∗ owns (d : Thread nD τ) arg2 fullShare X2 ∗ owns (d : Thread nD τ) arg3 fullShare X3 ∗ owns (d : Thread nD τ) arg4 fullShare X4
        ∗ owns (d : Thread nD τ) arg5 fullShare X5 ∗ owns (d : Thread nD τ) arg6 fullShare X6 ∗ owns (d : Thread nD τ) arg7 fullShare X7
        ∗ owns (d : Thread nD τ) arg8 fullShare X8 ∗ owns (d : Thread nD τ) arg9 fullShare X9 ∗ owns (d : Thread nD τ) arg10 fullShare X10)
      ∗ (iprop(owns (d : Thread nD τ) arg0 fullShare x ∗ owns (d : Thread nD τ) arg1 fullShare w
        ∗ owns (d : Thread nD τ) arg2 fullShare (slot0 x w) ∗ owns (d : Thread nD τ) arg3 fullShare (slot1 x w) ∗ owns (d : Thread nD τ) arg4 fullShare (keep0 x w)
        ∗ owns (d : Thread nD τ) arg5 fullShare (keep1 x w) ∗ owns (d : Thread nD τ) arg6 fullShare (wt0 x w) ∗ owns (d : Thread nD τ) arg7 fullShare (wt1 x w)
        ∗ owns (d : Thread nD τ) arg8 fullShare (cnt x w) ∗ (∃ f, owns (d : Thread nD τ) arg9 fullShare f) ∗ (∃ f, owns (d : Thread nD τ) arg10 fullShare f)) -∗ Q ⟨⟩))
      ⊢ wp frame (wpE (defs₀ (F := F)) 𝒱₀ (d : Thread nD τ) none) Set.univ
          (cc0__router_body arg0 harg0 arg1 harg1 arg2 harg2 arg3 harg3 arg4 harg4 arg5 harg5 arg6 harg6 arg7 harg7 arg8 harg8 arg9 harg9 arg10 harg10) Q := by
  rw [cc0__router_body_eq_skeleton]
  unfold cc0__router_body_skel
  simp only [k0_part1_eq_skeleton, k0_part2_eq_skeleton]
  unfold k0_part1_skel k0_part2_skel
  simp only [Prog.lift, Prog.bind_op, Prog.bind_ret]
  iintro ⟨⟨H0, H1, H2, H3, H4, H5, H6, H7, H8, H9, H10⟩, Hk⟩
  iapply (wp_loadW (F := F) (d : Thread nD τ) hz2) $$ H0
  iintro H0
  iapply (wp_loadW (F := F) (d : Thread nD τ) hz2) $$ H1
  iintro H1
  iapply (wp_loadW (F := F) (d : Thread nD τ) hz2) $$ H9
  iintro H9
  simp only [Prog.bind_op, Prog.bind_ret, pure_bind, bind_assoc]
  iapply (wp_storeW (F := F) (d : Thread nD τ) hz2) $$ H9
  iintro H9
  simp only [Prog.bind_op, Prog.bind_ret, pure_bind, bind_assoc]
  iapply (Scf.wp_for_bind frame (wpE (defs₀ (F := F)) 𝒱₀ (d : Thread nD τ) none) Set.univ _ _ _ k0_t1_ok _ _
    (invL d arg9 arg10 (hot x w)) (fun k acc => trip d arg9 arg10 k (hot x w) acc arg0 harg0 arg1 harg1 arg2 harg2 arg3 harg3 arg4 harg4 arg5 harg5 arg6 harg6 arg7 harg7 arg8 harg8 harg9 harg10 _ _ _ _ _)) $$ [H9 H10]
  · unfold invL
    isplitr; · ipureintro; rfl
    isplitl [H9]; · iexact H9
    iexists X10; isplitr
    · ipureintro; intro j hj; exact absurd hj (by omega)
    iexact H10
  iintro %acc HI
  unfold invL
  icases HI with ⟨%ha, H9, %Y, %hY, H10⟩
  rw [show Scf.trips k0_t1_loop.lb k0_t1_loop.ub k0_t1_loop.st = 4 from trips0] at ha hY
  have hY' : Y = pre (hot x w) := funext fun j => hY j (by have : (j 0).val < 2048 := (j 0).isLt; omega)
  subst hY' ha
  simp only [Prog.bind_op, Prog.bind_ret, pure_bind, bind_assoc]
  iapply (wp_loadW (F := F) (d : Thread nD τ) hz2) $$ H10
  iintro H10
  iapply (wp_loadW (F := F) (d : Thread nD τ) hz2) $$ H2
  iintro H2
  iapply (wp_storeW (F := F) (d : Thread nD τ) hz2) $$ H2
  iintro H2
  simp only [Prog.bind_op, Prog.bind_ret, pure_bind, bind_assoc]
  iapply (wp_loadW (F := F) (d : Thread nD τ) hz2) $$ H3
  iintro H3
  iapply (wp_storeW (F := F) (d : Thread nD τ) hz2) $$ H3
  iintro H3
  iapply (wp_loadW (F := F) (d : Thread nD τ) hz2) $$ H4
  iintro H4
  iapply (wp_storeW (F := F) (d : Thread nD τ) hz2) $$ H4
  iintro H4
  iapply (wp_loadW (F := F) (d : Thread nD τ) hz2) $$ H5
  iintro H5
  iapply (wp_storeW (F := F) (d : Thread nD τ) hz2) $$ H5
  iintro H5
  iapply (wp_loadW (F := F) (d : Thread nD τ) hz2) $$ H6
  iintro H6
  iapply (wp_storeW (F := F) (d : Thread nD τ) hz2) $$ H6
  iintro H6
  iapply (wp_loadW (F := F) (d : Thread nD τ) hz2) $$ H7
  iintro H7
  iapply (wp_storeW (F := F) (d : Thread nD τ) hz2) $$ H7
  iintro H7
  iapply (wp_loadW (F := F) (d : Thread nD τ) hz2) $$ H8
  iintro H8
  iapply (wp_storeW (F := F) (d : Thread nD τ) hz2) $$ H8
  iintro H8
  rw [wp_pure]; imodintro
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iexists _; iexact H10

/-! ## The proof data -/

section Data
variable (x : Vec F S2048x1024 .f32) (w : Vec F S1024x8 .f32)

/-- The arrays as they come, the results' at what they held; the body's values after it. -/
def dat (o2 o3 o4 o5 : IVec S2048x1 32) (o6 o7 : Vec F S2048x1 .f32) (o8 : IVec S1x8 32) (a : (p : Fin 3) → (pcfgs (F := F) p).Adm) (d : Dev nD) :
    Dat τ (Elt F) (HIx 3) ℕ UU ℕ cfg0 d where
  A v := match v with
    | ⟨0, _⟩ => x
    | ⟨1, _⟩ => w
    | ⟨2, _⟩ => o2
    | ⟨3, _⟩ => o3
    | ⟨4, _⟩ => o4
    | ⟨5, _⟩ => o5
    | ⟨6, _⟩ => o6
    | ⟨7, _⟩ => o7
    | ⟨8, _⟩ => o8
  after v _ := match v with
    | ⟨0, _⟩ => x
    | ⟨1, _⟩ => w
    | ⟨2, _⟩ => slot0 x w
    | ⟨3, _⟩ => slot1 x w
    | ⟨4, _⟩ => keep0 x w
    | ⟨5, _⟩ => keep1 x w
    | ⟨6, _⟩ => wt0 x w
    | ⟨7, _⟩ => wt1 x w
    | ⟨8, _⟩ => cnt x w
  Φ _ := inv a 0 d
  q _ := fullShare
  owed _ := (K (F := F)).Otc d 0
  recorded _ := below (F := F) d 0

variable (o2 o3 o4 o5 : IVec S2048x1 32) (o6 o7 : Vec F S2048x1 .f32) (o8 : IVec S1x8 32) (a : (p : Fin 3) → (pcfgs (F := F) p).Adm) (d : Dev nD)

theorem before0 (t : Fin cfg0.N) (y) : (dat x w o2 o3 o4 o5 o6 o7 o8 a d).before (0 : Fin 9) t y = x := by
  unfold Dat.before; rw [if_pos (fetch0_0 t)]
  funext j
  show x ((win0_0.blk t).view.emb j) = x j
  congr 1
  funext b; apply Fin.ext
  rw [show t = t0_0 from Fin.ext (by have h := lt_of_lt_of_eq t.isLt N_0; have h' := lt_of_lt_of_eq t0_0.isLt N_0; omega)]
  fin_cases b
  · show 0 + 1 * (j 0).val = (j 0).val
    omega
  · show 0 + 1 * (j 1).val = (j 1).val
    omega
theorem before1 (t : Fin cfg0.N) (y) : (dat x w o2 o3 o4 o5 o6 o7 o8 a d).before (1 : Fin 9) t y = w := by
  unfold Dat.before; rw [if_pos (fetch0_1 t)]
  funext j
  show w ((win0_1.blk t).view.emb j) = w j
  congr 1
  funext b; apply Fin.ext
  rw [show t = t0_0 from Fin.ext (by have h := lt_of_lt_of_eq t.isLt N_0; have h' := lt_of_lt_of_eq t0_0.isLt N_0; omega)]
  fin_cases b
  · show 0 + 1 * (j 0).val = (j 0).val
    omega
  · show 0 + 1 * (j 1).val = (j 1).val
    omega

theorem owns_of (b : Ref sig .tc) (f : Buf (Elt F) ((d : Thread nD τ).loc b)) :
    (((d : Thread nD τ).loc b ↦{fullShare} f) : sProp (MM F)) ⊢ owns (d : Thread nD τ) (Memref.whole b) fullShare f := by
  rw [owns_whole_eq]
  iintro H
  iexists f; isplitr
  · ipureintro; rfl
  iexact H
theorem of_owns (b : Ref sig .tc) (f : b.ty.Contents (Elt F)) :
    (owns (d : Thread nD τ) (Memref.whole b) fullShare f : sProp (MM F)) ⊢ iprop(∃ g : Buf (Elt F) ((d : Thread nD τ).loc b), (d : Thread nD τ).loc b ↦{fullShare} g) := by
  rw [owns_whole_eq]
  iintro ⟨%g, -, H⟩
  iexists g; iexact H

theorem obl : BodyObligationLoose (dat x w o2 o3 o4 o5 o6 o7 o8 a d) (defs₀ (F := F)) 𝒱₀ (none : HIx 3) Set.univ := fun t => by
  refine (Entails.of_eq (congrArg _ (congrArg _ (bigSep_W0 _)))).trans ?_
  refine BIBase.Entails.trans ?_ (wp_mono frame _ _ fun _ => Entails.of_eq (congrArg _ (congrArg _ (bigSep_W0 _).symm)))
  simp only
  rw [show (dat x w o2 o3 o4 o5 o6 o7 o8 a d).Φ t.succ = inv a 0 d from rfl, show (dat x w o2 o3 o4 o5 o6 o7 o8 a d).Φ t.castSucc = inv a 0 d from rfl,
    show (dat x w o2 o3 o4 o5 o6 o7 o8 a d).owesAt (none : HIx 3) t.succ = (dat x w o2 o3 o4 o5 o6 o7 o8 a d).owesAt (none : HIx 3) t.castSucc from rfl]
  unfold inv
  rw [show (Pipeline.scopedRest (Pipeline.pin (pcfgs (F := F)) a 0).spec d : sProp (MM F)) = _ from scopedRest0_eq d]
  iintro ⟨⟨HP, ⟨%f9, H9⟩, ⟨%f10, H10⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before0, before1]
  iapply (body (F := F) d (win0_0.stage (cfg0.slots t 0)) (hstage0_0 0) (win0_1.stage (cfg0.slots t 1)) (hstage0_1 0) (win0_2.stage (cfg0.slots t 2)) (hstage0_2 0) (win0_3.stage (cfg0.slots t 3)) (hstage0_3 0) (win0_4.stage (cfg0.slots t 4)) (hstage0_4 0) (win0_5.stage (cfg0.slots t 5)) (hstage0_5 0) (win0_6.stage (cfg0.slots t 6)) (hstage0_6 0) (win0_7.stage (cfg0.slots t 7)) (hstage0_7 0) (win0_8.stage (cfg0.slots t 8)) (hstage0_8 0) (Memref.whole cc0_scratch0) (Memref.isWhole_whole _) (Memref.whole cc0_scratch1) (Memref.isWhole_whole _)
    x w _ _ _ _ _ _ _ f9 f10)
  isplitl [H0 H1 H2 H3 H4 H5 H6 H7 H8 H9 H10]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · iapply (owns_of d cc0_scratch0 f9) $$ H9
    · iapply (owns_of d cc0_scratch1 f10) $$ H10
  iintro ⟨H0, H1, H2, H3, H4, H5, H6, H7, H8, ⟨%g9, H9⟩, ⟨%g10, H10⟩⟩
  isplitl [HP HR H9 H10]
  · isplitl [HP]; · iexact HP
    isplitl [H9]; · iapply (of_owns d cc0_scratch0 g9) $$ H9
    isplitl [H10]; · iapply (of_owns d cc0_scratch1 g10) $$ H10
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8
/-- The arrays it leaves. -/
theorem result :
    (dat x w o2 o3 o4 o5 o6 o7 o8 a d).arrAt (2 : Fin 9) cfg0.N = slot0 x w ∧ (dat x w o2 o3 o4 o5 o6 o7 o8 a d).arrAt (3 : Fin 9) cfg0.N = slot1 x w
      ∧ (dat x w o2 o3 o4 o5 o6 o7 o8 a d).arrAt (4 : Fin 9) cfg0.N = keep0 x w ∧ (dat x w o2 o3 o4 o5 o6 o7 o8 a d).arrAt (5 : Fin 9) cfg0.N = keep1 x w
      ∧ (dat x w o2 o3 o4 o5 o6 o7 o8 a d).arrAt (6 : Fin 9) cfg0.N = wt0 x w ∧ (dat x w o2 o3 o4 o5 o6 o7 o8 a d).arrAt (7 : Fin 9) cfg0.N = wt1 x w
      ∧ (dat x w o2 o3 o4 o5 o6 o7 o8 a d).arrAt (8 : Fin 9) cfg0.N = cnt x w := by
  refine ⟨?_, ?_, ?_, ?_, ?_, ?_, ?_⟩
  · exact (dat x w o2 o3 o4 o5 o6 o7 o8 a d).arrAt_eq_of_after_last (2 : Fin 9) t0_0 (by decide +kernel) _ fun j => rfl
  · exact (dat x w o2 o3 o4 o5 o6 o7 o8 a d).arrAt_eq_of_after_last (3 : Fin 9) t0_0 (by decide +kernel) _ fun j => rfl
  · exact (dat x w o2 o3 o4 o5 o6 o7 o8 a d).arrAt_eq_of_after_last (4 : Fin 9) t0_0 (by decide +kernel) _ fun j => rfl
  · exact (dat x w o2 o3 o4 o5 o6 o7 o8 a d).arrAt_eq_of_after_last (5 : Fin 9) t0_0 (by decide +kernel) _ fun j => rfl
  · exact (dat x w o2 o3 o4 o5 o6 o7 o8 a d).arrAt_eq_of_after_last (6 : Fin 9) t0_0 (by decide +kernel) _ fun j => rfl
  · exact (dat x w o2 o3 o4 o5 o6 o7 o8 a d).arrAt_eq_of_after_last (7 : Fin 9) t0_0 (by decide +kernel) _ fun j => rfl
  · exact (dat x w o2 o3 o4 o5 o6 o7 o8 a d).arrAt_eq_of_after_last (8 : Fin 9) t0_0 (by decide +kernel) _ fun j => rfl

theorem kept (n : ℕ) : (dat x w o2 o3 o4 o5 o6 o7 o8 a d).arrAt (0 : Fin 9) n = x ∧ (dat x w o2 o3 o4 o5 o6 o7 o8 a d).arrAt (1 : Fin 9) n = w :=
  ⟨(dat x w o2 o3 o4 o5 o6 o7 o8 a d).arrAt_in _ rfl n, (dat x w o2 o3 o4 o5 o6 o7 o8 a d).arrAt_in _ rfl n⟩
end Data

end Router

end Cert.Proof
-- ==== Proof.Reg3.lean ====
/-
  The experts' feed-forward kernel: its body on staging buffers owned at contents and the table of counts
  held, its proof data (the accumulator at each grid point), and the array it leaves.
-/
module

public import proofs.«01_k».proof.Proof.Region
public import proofs.«01_k».proof.Proof.Gen.KernelIdeal.Points
public import Idealize.ShloMosaic.Lib.Pipeline.ValueKit
public import Idealize.ShloMosaic.Lib.Pipeline.FrameBody

@[expose] public section

noncomputable section

namespace Cert.Proof

open Cert.KernelIdeal Cert.KernelIdeal.Gen
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligationLoose)

variable {F : FTy → Type} [FloatOps F]

namespace Ffn

theorem hz3 : ∀ a : Fin 3, (![0, 0, 0] : Fin 3 → ℕ) a = 0 := by decide

/-! ## The body -/

/-- Four blocks of 256 rows. -/
theorem rows_inb (n : ℕ) (hn : n ≤ 768) : ∀ a, (![0, n, 0] : Fin 3 → ℕ) a + S1x256x1024.size a ≤ S1x1024x1024.size a := by
  intro a
  fin_cases a
  · exact (by decide : 0 + S1x256x1024.size 0 ≤ S1x1024x1024.size 0)
  · show n + 256 ≤ 1024
    omega
  · exact (by decide : 0 + S1x256x1024.size 2 ≤ S1x1024x1024.size 2)

abbrev rows (n : ℕ) (hn : n ≤ 768) : Rect S1x1024x1024 := Rect.unit (s := S1x1024x1024) ![0, n, 0] S1x256x1024.size (rows_inb n hn)

/-- A block of rows of the accumulator, added to under its condition. -/
def addRows (n : ℕ) (hn : n ≤ 768) (c : BitVec 1) (w1 : Vec F S1x1024x512 .f32) (w2 : Vec F S1x512x1024 .f32) (x A : Vec F S1x1024x1024 .f32) : Vec F S1x1024x1024 .f32 :=
  if c = 1#1 then (rows n hn).overlay A (k3_pay4 w1 w2 (fun j => x ((rows n hn).emb j)) (fun j => A ((rows n hn).emb j))) else A

/-- One grid point's additions, at the expert's count. -/
def step (cnt : BitVec 32) (w1 : Vec F S1x1024x512 .f32) (w2 : Vec F S1x512x1024 .f32) (x A : Vec F S1x1024x1024 .f32) : Vec F S1x1024x1024 .f32 :=
  addRows 768 (by decide) (k3_cond5 cnt) w1 w2 x (addRows 512 (by decide) (k3_cond4 cnt) w1 w2 x (addRows 256 (by decide) (k3_cond3 cnt) w1 w2 x
    (addRows 0 (by decide) (k3_cond2 cnt) w1 w2 x A)))

/-- The other three printings of the block's payload. -/
theorem pay5_eq : k3_pay5 (F := F) = k3_pay4 := rfl
theorem pay6_eq : k3_pay6 (F := F) = k3_pay4 := rfl
theorem pay7_eq : k3_pay7 (F := F) = k3_pay4 := rfl

theorem wp_rows (d : Dev nD) {arg3 arg6 : Memref sig .tc .vmem S1x1024x1024 .f32} (n : ℕ) (hn : n ≤ 768) (c : BitVec 1)
    (w1 : Vec F S1x1024x512 .f32) (w2 : Vec F S1x512x1024 .f32) (x A : Vec F S1x1024x1024 .f32)
    {l3 : arg3.view.LoadsAt (rows n hn).toLoadRect} {l6 l6' : arg6.view.LoadsAt (rows n hn).toLoadRect}
    {hx : (arg6.access (rows n hn)).Stores Finset.univ} {hm : (Finset.univ : Finset (rows n hn).shape.Idx) = Finset.univ ∨ ∀ a, (rows n hn).stride a = 1}
    {k : Prog (TpuEff nD τ sig (Elt F) Λ₀ .tc) PUnit} {Q : PUnit → sProp (MM F)} :
    iprop(owns (d : Thread nD τ) arg3 fullShare x ∗ owns (d : Thread nD τ) arg6 fullShare A)
      ⊢ iprop((iprop(owns (d : Thread nD τ) arg3 fullShare x ∗ owns (d : Thread nD τ) arg6 fullShare (addRows n hn c w1 w2 x A))
          -∗ wp frame (wpE (defs₀ (F := F)) 𝒱₀ (d : Thread nD τ) none) Set.univ k Q)
        -∗ wp frame (wpE (defs₀ (F := F)) 𝒱₀ (d : Thread nD τ) none) Set.univ
            (if _h : c = 1#1 then
              .op (.load arg3 (rows n hn).toLoadRect l3) fun v23 => .op (.load arg6 (rows n hn).toLoadRect l6) fun v41 =>
              .op (.load arg6 (rows n hn).toLoadRect l6') fun _ => .op (.store arg6 (rows n hn) (k3_pay4 w1 w2 v23 v41) Finset.univ hx hm) fun _ => k
            else k) Q) := by
  iintro ⟨H3, H6⟩ Hk
  by_cases h : c = 1#1
  · rw [dif_pos h]
    iapply (wp_loadX (F := F) (d : Thread nD τ)) $$ H3
    iintro H3
    iapply (wp_loadX (F := F) (d : Thread nD τ)) $$ H6
    iintro H6
    iapply (wp_loadX (F := F) (d : Thread nD τ)) $$ H6
    iintro H6
    iapply (wp_storeX (F := F) (d : Thread nD τ)) $$ H6
    iintro H6
    iapply Hk
    isplitl [H3]; · iexact H3
    unfold addRows; rw [if_pos h]
    iexact H6
  · rw [dif_neg h]
    iapply Hk
    isplitl [H3]; · iexact H3
    unfold addRows; rw [if_neg h]
    iexact H6

theorem wp_init (d : Dev nD) {arg6 : Memref sig .tc .vmem S1x1024x1024 .f32} (c : BitVec 1) (A : Vec F S1x1024x1024 .f32)
    {l6 : arg6.view.LoadsAt (Rect.unit (s := S1x1024x1024) ![0, 0, 0] S1x1024x1024.size inb_S1x1024x1024_S1x1024x1024_0_0_0).toLoadRect}
    {hx : (arg6.access (Rect.unit (s := S1x1024x1024) ![0, 0, 0] S1x1024x1024.size inb_S1x1024x1024_S1x1024x1024_0_0_0)).Stores Finset.univ}
    {hm : (Finset.univ : Finset (Rect.unit (s := S1x1024x1024) ![0, 0, 0] S1x1024x1024.size inb_S1x1024x1024_S1x1024x1024_0_0_0).shape.Idx) = Finset.univ
      ∨ ∀ a, (Rect.unit (s := S1x1024x1024) ![0, 0, 0] S1x1024x1024.size inb_S1x1024x1024_S1x1024x1024_0_0_0).stride a = 1}
    {k : Prog (TpuEff nD τ sig (Elt F) Λ₀ .tc) PUnit} {Q : PUnit → sProp (MM F)} :
    (owns (d : Thread nD τ) arg6 fullShare A : sProp (MM F))
      ⊢ iprop((owns (d : Thread nD τ) arg6 fullShare (if c = 1#1 then k3_pay1 else A) -∗ wp frame (wpE (defs₀ (F := F)) 𝒱₀ (d : Thread nD τ) none) Set.univ k Q)
        -∗ wp frame (wpE (defs₀ (F := F)) 𝒱₀ (d : Thread nD τ) none) Set.univ
            (if _h : c = 1#1 then
              .op (.load arg6 (Rect.unit (s := S1x1024x1024) ![0, 0, 0] S1x1024x1024.size inb_S1x1024x1024_S1x1024x1024_0_0_0).toLoadRect l6) fun _ =>
              .op (.store arg6 (Rect.unit (s := S1x1024x1024) ![0, 0, 0] S1x1024x1024.size inb_S1x1024x1024_S1x1024x1024_0_0_0) k3_pay1 Finset.univ hx hm) fun _ => k
            else k) Q) := by
  iintro H6 Hk
  by_cases h : c = 1#1
  · rw [dif_pos h, if_pos h]
    iapply (wp_loadW (F := F) (d : Thread nD τ) hz3) $$ H6
    iintro H6
    iapply (wp_storeW (F := F) (d : Thread nD τ) hz3) $$ H6
    iintro H6
    iapply Hk $$ H6
  · rw [dif_neg h, if_neg h]
    iapply Hk $$ H6

/-- The count the body reads. -/
abbrev tbAt (tb : IVec S8 32) (i : grid3.Coords) : BitVec 32 := tb (ValueIdx.ix1 (⟨(i 0).val, (i 0).isLt⟩ : Fin 8))

theorem tb_at (i : grid3.Coords) (tb : IVec S8 32) :
    tb ((Rect.unit (s := S8) (k3_off1 i) S1.size (k3_off1_inb i)).emb (Shape.Idx.first (numel1_S1.symm ▸ Nat.one_pos))) = tbAt tb i := by
  congr 1
  funext b; apply Fin.ext
  fin_cases b
  show k3_off1 i 0 + 1 * 0 = (i 0).val
  rw [k3_off1_eq]; rfl

theorem body (d : Dev nD) (i : grid3.Coords) (arg2 : Memref sig .tc .smem S8 .i32) (harg2 : arg2.IsWhole) (arg3 : Memref sig .tc .vmem S1x1024x1024 .f32) (harg3 : arg3.IsWhole)
    (arg4 : Memref sig .tc .vmem S1x1024x512 .f32) (harg4 : arg4.IsWhole) (arg5 : Memref sig .tc .vmem S1x512x1024 .f32) (harg5 : arg5.IsWhole)
    (arg6 : Memref sig .tc .vmem S1x1024x1024 .f32) (harg6 : arg6.IsWhole)
    (tb : IVec S8 32) (x : Vec F S1x1024x1024 .f32) (w1 : Vec F S1x1024x512 .f32) (w2 : Vec F S1x512x1024 .f32) (A : Vec F S1x1024x1024 .f32) {Q : PUnit → sProp (MM F)} :
    iprop((owns (d : Thread nD τ) arg2 fullShare tb ∗ owns (d : Thread nD τ) arg3 fullShare x ∗ owns (d : Thread nD τ) arg4 fullShare w1
        ∗ owns (d : Thread nD τ) arg5 fullShare w2 ∗ owns (d : Thread nD τ) arg6 fullShare A)
      ∗ (iprop(owns (d : Thread nD τ) arg2 fullShare tb ∗ owns (d : Thread nD τ) arg3 fullShare x ∗ owns (d : Thread nD τ) arg4 fullShare w1
        ∗ owns (d : Thread nD τ) arg5 fullShare w2
        ∗ owns (d : Thread nD τ) arg6 fullShare (step (tbAt tb i) w1 w2 x (if k3_cond1 i = 1#1 then k3_pay1 else A))) -∗ Q ⟨⟩))
      ⊢ wp frame (wpE (defs₀ (F := F)) 𝒱₀ (d : Thread nD τ) none) Set.univ
          (cc3__ffn_body i arg2 harg2 arg3 harg3 arg4 harg4 arg5 harg5 arg6 harg6) Q := by
  rw [cc3__ffn_body_eq_skeleton]
  unfold cc3__ffn_body_skel
  unfold smemLoad smemLoadElt
  simp only [Prog.lift, Prog.bind_op, Prog.bind_ret, pay5_eq, pay6_eq, pay7_eq]
  iintro ⟨⟨H2, H3, H4, H5, H6⟩, Hk⟩
  iapply (wp_init d (k3_cond1 i) A) $$ H6
  iintro H6
  generalize (if k3_cond1 i = 1#1 then k3_pay1 (F := F) else A) = A0
  iapply (wp_loadX (F := F) (d : Thread nD τ)) $$ H2
  iintro H2
  beta_reduce
  rw [tb_at i tb]
  iapply (wp_loadW (F := F) (d : Thread nD τ) hz3) $$ H4
  iintro H4
  iapply (wp_loadW (F := F) (d : Thread nD τ) hz3) $$ H5
  iintro H5
  iapply (wp_rows d 0 (by decide) (k3_cond2 (tbAt tb i)) w1 w2 x A0) $$ [H3 H6]
  · isplitl [H3] <;> iassumption
  iintro ⟨H3, H6⟩
  iapply (wp_rows d 256 (by decide) (k3_cond3 (tbAt tb i)) w1 w2 x _) $$ [H3 H6]
  · isplitl [H3] <;> iassumption
  iintro ⟨H3, H6⟩
  iapply (wp_rows d 512 (by decide) (k3_cond4 (tbAt tb i)) w1 w2 x _) $$ [H3 H6]
  · isplitl [H3] <;> iassumption
  iintro ⟨H3, H6⟩
  iapply (wp_rows d 768 (by decide) (k3_cond5 (tbAt tb i)) w1 w2 x _) $$ [H3 H6]
  · isplitl [H3] <;> iassumption
  iintro ⟨H3, H6⟩
  rw [wp_pure]; imodintro
  iapply Hk
  isplitl [H2]; · iexact H2
  isplitl [H3]; · iexact H3
  isplitl [H4]; · iexact H4
  isplitl [H5]; · iexact H5
  iexact H6

/-! ## The accumulator at each grid point -/

section Acc
variable (x : Vec F S8x1024x1024 .f32) (w1 : Vec F S8x1024x4096 .f32) (w2 : Vec F S8x4096x1024 .f32) (tb : IVec S8 32)

/-- The blocks at grid point `n`: expert `n / 8`, columns `n % 8`. -/
def bX (n : ℕ) : Vec F S1x1024x1024 .f32 := fun j => x (ValueIdx.ix3 ⟨n / 8 % 8, Nat.mod_lt _ (by decide)⟩ (j 1) (j 2))
def bW1 (n : ℕ) : Vec F S1x1024x512 .f32 := fun j => w1 (ValueIdx.ix3 ⟨n / 8 % 8, Nat.mod_lt _ (by decide)⟩ (j 1)
  ⟨512 * (n % 8) + (j 2).val, by have := Nat.mod_lt n (show 0 < 8 by decide); have : (j 2).val < 512 := (j 2).isLt; omega⟩)
def bW2 (n : ℕ) : Vec F S1x512x1024 .f32 := fun j => w2 (ValueIdx.ix3 ⟨n / 8 % 8, Nat.mod_lt _ (by decide)⟩
  ⟨512 * (n % 8) + (j 1).val, by have := Nat.mod_lt n (show 0 < 8 by decide); have : (j 1).val < 512 := (j 1).isLt; omega⟩ (j 2))
def cntAt (n : ℕ) : BitVec 32 := tb (ValueIdx.ix1 ⟨n / 8 % 8, Nat.mod_lt _ (by decide)⟩)

/-- One point's additions onto `A`. -/
def stepAt (n : ℕ) (A : Vec F S1x1024x1024 .f32) : Vec F S1x1024x1024 .f32 := step (cntAt tb n) (bW1 w1 n) (bW2 w2 n) (bX x n) A

/-- The accumulator after point `n`. -/
def acc : ℕ → Vec F S1x1024x1024 .f32
  | 0 => stepAt x w1 w2 tb 0 k3_pay1
  | n + 1 => stepAt x w1 w2 tb (n + 1) (if (n + 1) % 8 = 0 then k3_pay1 else acc n)

/-- What the kernel leaves: each expert's accumulator after its last point. -/
def out : Vec F S8x1024x1024 .f32 := fun j => acc x w1 w2 tb (8 * (j 0).val + 7) (ValueIdx.ix3 0 (j 1) (j 2))
end Acc

theorem coords3 : ∀ t : Fin grid3.N, (grid3.coords t 0).val = t.val / 8 ∧ (grid3.coords t 1).val = t.val % 8 := by decide +kernel
theorem cond1_iff : ∀ t : Fin grid3.N, k3_cond1 (grid3.coords t) = 1#1 ↔ t.val % 8 = 0 := by decide +kernel

theorem word_at (pf : pre3.Contents (Elt F)) (t : Fin grid3.N) : pf.atD 0 (k3_off1 (grid3.coords t)) = cntAt (pf 0) t.val := by
  have ht : t.val < 64 := lt_of_lt_of_eq t.isLt N_3
  obtain ⟨h0, h1⟩ := coords3 t
  have hh : ∀ b : Fin 1, k3_off1 (grid3.coords t) b + 1 ≤ S8.size b := fun b => by
    have := k3_off1_inb (grid3.coords t) b
    fin_cases b; exact this
  refine (dif_pos hh).trans ?_
  unfold cntAt
  congr 1
  funext b; apply Fin.ext
  have hb : b = (0 : Fin 1) := Subsingleton.elim (α := Fin 1) b 0
  subst hb
  show k3_off1 (grid3.coords t) 0 = t.val / 8 % 8
  rw [k3_off1_eq]
  show (grid3.coords t 0).val = _
  omega

theorem idle_step (x : Vec F S8x1024x1024 .f32) (w1 : Vec F S8x1024x4096 .f32) (w2 : Vec F S8x4096x1024 .f32) (pf : pre3.Contents (Elt F)) (t : Fin grid3.N)
    (h : idle3 pf 3 (grid3.coords t) = true) : t.val % 8 ≠ 0 ∧ ∀ A, stepAt x w1 w2 (pf 0) t.val A = A := by
  have hv := word_at pf t
  simp only [Bool.and_eq_true, Bool.not_eq_true', beq_eq_false_iff_ne, hv] at h
  obtain ⟨⟨⟨⟨c1, c2⟩, c3⟩, c4⟩, c5⟩ := h
  refine ⟨fun h8 => c1 ((cond1_iff t).2 h8), fun A => ?_⟩
  unfold stepAt step addRows
  rw [if_neg c2, if_neg c3, if_neg c4, if_neg c5]

/-! ## The proof data -/

section Data
variable (x : Vec F S8x1024x1024 .f32) (w1 : Vec F S8x1024x4096 .f32) (w2 : Vec F S8x4096x1024 .f32) (o : Vec F S8x1024x1024 .f32)
  (a : (p : Fin 3) → (pcfgs (F := F) p).Adm) (d : Dev nD)

/-- The counts the kernel prefetches. -/
abbrev tbl : IVec S8 32 := (a 1).1 (0 : Fin 1)

def dat : Dat τ (Elt F) (HIx 3) ℕ UU ℕ (cfg3 (a 1)) d where
  A w := match w with
    | ⟨0, _⟩ => x
    | ⟨1, _⟩ => w1
    | ⟨2, _⟩ => w2
    | ⟨3, _⟩ => o
  after w t := match w with
    | ⟨0, _⟩ => bX x t.val
    | ⟨1, _⟩ => bW1 w1 t.val
    | ⟨2, _⟩ => bW2 w2 t.val
    | ⟨3, _⟩ => acc x w1 w2 (tbl a) t.val
  Φ _ := inv a 1 d
  q _ := fullShare
  owed _ := (K (F := F)).Otc d 2
  recorded _ := below (F := F) d 2

theorem ofNat_coord (n : ℕ) (h : n < 64) : (BitVec.ofNat 32 n).toNat = n := by
  rw [BitVec.toNat_ofNat]; exact Nat.mod_eq_of_lt (by omega)

theorem blk0 (t : Fin (cfg3 (F := F) (a 1)).N) : (((cfg3 (F := F) (a 1)).win (0 : Fin 4)).blk t).view.read (Elt F) x = bX x t.val := by
  funext j
  have ht : t.val < 64 := lt_of_lt_of_eq t.isLt N_3
  obtain ⟨h0, h1⟩ := coords3 t
  show x ((((cfg3 (F := F) (a 1)).win (0 : Fin 4)).blk t).view.emb j) = _
  unfold bX
  congr 1
  funext b; apply Fin.ext
  have hj : (j 0).val < 1 := (j 0).isLt
  fin_cases b
  · show (BitVec.ofNat 32 (grid3.coords t 0).val).toNat * 1 + 1 * (j 0).val = t.val / 8 % 8
    rw [h0, ofNat_coord _ (by omega)]; omega
  · show (0#32).toNat * 1024 + 1 * (j 1).val = (j 1).val
    simp
  · show (0#32).toNat * 1024 + 1 * (j 2).val = (j 2).val
    simp
theorem blk1 (t : Fin (cfg3 (F := F) (a 1)).N) : (((cfg3 (F := F) (a 1)).win (1 : Fin 4)).blk t).view.read (Elt F) w1 = bW1 w1 t.val := by
  funext j
  have ht : t.val < 64 := lt_of_lt_of_eq t.isLt N_3
  obtain ⟨h0, h1⟩ := coords3 t
  show w1 ((((cfg3 (F := F) (a 1)).win (1 : Fin 4)).blk t).view.emb j) = _
  unfold bW1
  congr 1
  funext b; apply Fin.ext
  have hj : (j 0).val < 1 := (j 0).isLt
  fin_cases b
  · show (BitVec.ofNat 32 (grid3.coords t 0).val).toNat * 1 + 1 * (j 0).val = t.val / 8 % 8
    rw [h0, ofNat_coord _ (by omega)]; omega
  · show (0#32).toNat * 1024 + 1 * (j 1).val = (j 1).val
    simp
  · show (BitVec.ofNat 32 (grid3.coords t 1).val).toNat * 512 + 1 * (j 2).val = 512 * (t.val % 8) + (j 2).val
    rw [h1, ofNat_coord _ (by omega)]; omega
theorem blk2 (t : Fin (cfg3 (F := F) (a 1)).N) : (((cfg3 (F := F) (a 1)).win (2 : Fin 4)).blk t).view.read (Elt F) w2 = bW2 w2 t.val := by
  funext j
  have ht : t.val < 64 := lt_of_lt_of_eq t.isLt N_3
  obtain ⟨h0, h1⟩ := coords3 t
  show w2 ((((cfg3 (F := F) (a 1)).win (2 : Fin 4)).blk t).view.emb j) = _
  unfold bW2
  congr 1
  funext b; apply Fin.ext
  have hj : (j 0).val < 1 := (j 0).isLt
  fin_cases b
  · show (BitVec.ofNat 32 (grid3.coords t 0).val).toNat * 1 + 1 * (j 0).val = t.val / 8 % 8
    rw [h0, ofNat_coord _ (by omega)]; omega
  · show (BitVec.ofNat 32 (grid3.coords t 1).val).toNat * 512 + 1 * (j 1).val = 512 * (t.val % 8) + (j 1).val
    rw [h1, ofNat_coord _ (by omega)]; omega
  · show (0#32).toNat * 1024 + 1 * (j 2).val = (j 2).val
    simp

theorem before0 (t : Fin (cfg3 (F := F) (a 1)).N) (y) : (dat x w1 w2 o a d).before (0 : Fin 4) t y = bX x t.val :=
  ((dat x w1 w2 o a d).before_in_eq_fetched (0 : Fin 4) rfl (fun _ => rfl) (fun _ _ _ => rfl) (fun t => (blk0 x a t).symm) t y).trans (blk0 x a t)
theorem before1 (t : Fin (cfg3 (F := F) (a 1)).N) (y) : (dat x w1 w2 o a d).before (1 : Fin 4) t y = bW1 w1 t.val :=
  ((dat x w1 w2 o a d).before_in_eq_fetched (1 : Fin 4) rfl (fun _ => rfl) (fun _ _ _ => rfl) (fun t => (blk1 w1 a t).symm) t y).trans (blk1 w1 a t)
theorem before2 (t : Fin (cfg3 (F := F) (a 1)).N) (y) : (dat x w1 w2 o a d).before (2 : Fin 4) t y = bW2 w2 t.val :=
  ((dat x w1 w2 o a d).before_in_eq_fetched (2 : Fin 4) rfl (fun _ => rfl) (fun _ _ _ => rfl) (fun t => (blk2 w2 a t).symm) t y).trans (blk2 w2 a t)

/-- The output's block is written back at each expert's last point. -/
theorem flush3 : ∀ t : Fin (cfg3 (F := F) (a 1)).N, ((cfg3 (F := F) (a 1)).win (3 : Fin 4)).flush t = decide (t.val % 8 = 7) := by
  have h : ∀ t : Fin grid3.N, (true && (decide (t.val + 1 = grid3.N)
      || decide (∃ h : t.val + 1 < grid3.N, cc3_transform_3 (grid3.coords ⟨t.val + 1, h⟩) ≠ cc3_transform_3 (grid3.coords t)))) = decide (t.val % 8 = 7) := by
    decide +kernel
  exact h

/-- A point idle for the output leaves the accumulator. -/
theorem idle_false (t : Fin (cfg3 (F := F) (a 1)).N) (h : (cfg3 (F := F) (a 1)).idle (3 : Fin 4) (grid3.coords t) = true) :
    t.val % 8 ≠ 0 ∧ ∀ A, stepAt x w1 w2 (tbl a) t.val A = A := idle_step x w1 w2 (a 1).1 t h

theorem acc_step (n : ℕ) (h : n % 8 ≠ 0) : acc x w1 w2 (tbl a) n = stepAt x w1 w2 (tbl a) n (acc x w1 w2 (tbl a) (n - 1)) := by
  cases n with
  | zero => exact absurd rfl h
  | succ n => rw [acc, if_neg h]; rfl

theorem acc_init (n : ℕ) (h : n % 8 = 0) : acc x w1 w2 (tbl a) n = stepAt x w1 w2 (tbl a) n k3_pay1 := by
  cases n with
  | zero => rfl
  | succ n => rw [acc, if_pos h]

/-- Within an expert's points the output's buffer holds the accumulator of the point before. -/
theorem before3 (n : ℕ) : ∀ (t : Fin (cfg3 (F := F) (a 1)).N), t.val = n → n % 8 ≠ 0 → ∀ y,
    (dat x w1 w2 o a d).before (3 : Fin 4) t y = acc x w1 w2 (tbl a) (n - 1) := by
  induction n with
  | zero => intro t _ h; exact absurd rfl h
  | succ n ih =>
    intro t ht h y
    have hN : t.val < 64 := lt_of_lt_of_eq t.isLt N_3
    rw [(dat x w1 w2 o a d).before_of_pos (3 : Fin 4) t (by omega) rfl y]
    generalize hu : (⟨t.val - 1, Nat.lt_of_le_of_lt (Nat.sub_le _ _) t.isLt⟩ : Fin (cfg3 (F := F) (a 1)).N) = u
    have hu' : u.val = n := by rw [← hu]; show t.val - 1 = n; omega
    rw [if_neg (by rw [flush3 a u, hu']; simp; omega)]
    unfold Dat.left
    cases hi : (cfg3 (F := F) (a 1)).idle (3 : Fin 4) ((cfg3 (F := F) (a 1)).grid.coords u) with
    | true =>
      obtain ⟨h8, hs⟩ := idle_false x w1 w2 a u hi
      rw [hu'] at h8 hs
      rw [ih u hu' h8 y]
      show _ = acc x w1 w2 (tbl a) n
      rw [acc_step x w1 w2 a n h8, hs]
    | false =>
      show acc x w1 w2 (tbl a) u.val = _
      rw [hu']; rfl

theorem tbl_owns : (Pipeline.prefHeld (pcfgs (F := F) 1).pre d (fun _ => fullShare) (a 1).1 : sProp (MM F)) ⊢ owns (d : Thread nD τ) (Memref.whole main_v9) fullShare (tbl a) := by
  rw [owns_whole_eq]
  refine BIBase.Entails.trans (Entails.of_eq (show _ = (((d : Thread nD τ).loc main_v9 ↦{fullShare} tbl a : sProp (MM F))) from ?_)) ?_
  · exact bigSep_univ_eq_bigSepL [(0 : Fin 1)] (by decide) (by decide) (fun k : Fin 1 => (((d : Thread nD τ).loc (pre3.ref k)) ↦{fullShare} (a 1).1 k : sProp (MM F)))
  iintro H
  iexists tbl a; isplitr
  · ipureintro; rfl
  iexact H
theorem owns_tbl : (owns (d : Thread nD τ) (Memref.whole main_v9) fullShare (tbl a) : sProp (MM F)) ⊢ Pipeline.prefHeld (pcfgs (F := F) 1).pre d (fun _ => fullShare) (a 1).1 := by
  rw [owns_whole_eq]
  refine BIBase.Entails.trans ?_ (Entails.of_eq (show (((d : Thread nD τ).loc main_v9 ↦{fullShare} tbl a : sProp (MM F))) = _ from ?_))
  · iintro ⟨%f, %hf, H⟩
    subst hf
    iexact H
  · exact (bigSep_univ_eq_bigSepL [(0 : Fin 1)] (by decide) (by decide) (fun k : Fin 1 => (((d : Thread nD τ).loc (pre3.ref k)) ↦{fullShare} (a 1).1 k : sProp (MM F)))).symm

theorem left_eq (t : Fin (cfg3 (F := F) (a 1)).N) (y) :
    step (tbAt (tbl a) (grid3.coords t)) (bW1 w1 t.val) (bW2 w2 t.val) (bX x t.val)
        (if k3_cond1 (grid3.coords t) = 1#1 then k3_pay1 else (dat x w1 w2 o a d).before (3 : Fin 4) t y) = acc x w1 w2 (tbl a) t.val := by
  have ht : t.val < 64 := lt_of_lt_of_eq t.isLt N_3
  have hc : tbAt (tbl a) (grid3.coords t) = cntAt (tbl a) t.val := by
    show tbl a _ = tbl a _
    rw [show (⟨(grid3.coords t 0).val, (grid3.coords t 0).isLt⟩ : Fin 8) = ⟨t.val / 8 % 8, Nat.mod_lt _ (by decide)⟩ from Fin.ext (by
      show (grid3.coords t 0).val = t.val / 8 % 8
      rw [(coords3 t).1]; omega)]
  rw [hc]
  by_cases h8 : t.val % 8 = 0
  · rw [if_pos ((cond1_iff t).2 h8), acc_init x w1 w2 a t.val h8]; rfl
  · rw [if_neg (fun h => h8 ((cond1_iff t).1 h)), before3 x w1 w2 o a d t.val t rfl h8 y, acc_step x w1 w2 a t.val h8]; rfl

theorem obl : BodyObligationLoose (dat x w1 w2 o a d) (defs₀ (F := F)) 𝒱₀ (none : HIx 3) Set.univ := fun t => by
  refine (Entails.of_eq (congrArg _ (congrArg _ (bigSep_W3 _)))).trans ?_
  refine BIBase.Entails.trans ?_ (wp_mono frame _ _ fun _ => Entails.of_eq (congrArg _ (congrArg _ (bigSep_W3 _).symm)))
  simp only
  rw [show (dat x w1 w2 o a d).Φ t.succ = inv a 1 d from rfl, show (dat x w1 w2 o a d).Φ t.castSucc = inv a 1 d from rfl,
    show (dat x w1 w2 o a d).owesAt (none : HIx 3) t.succ = (dat x w1 w2 o a d).owesAt (none : HIx 3) t.castSucc from rfl]
  unfold inv
  iintro ⟨⟨HP, HR⟩, Ho, ⟨%d0, H0⟩, ⟨%d1, H1⟩, ⟨%d2, H2⟩, ⟨%d3, H3⟩⟩
  rw [before0, before1, before2]
  ihave HT := (tbl_owns a d) $$ HP
  iapply (body (F := F) d (grid3.coords t) (Memref.whole main_v9) (Memref.isWhole_whole _) (spec3_0.stage ((cfg3 (F := F) (a 1)).slots t 0)) (hstage3_0 (((cfg3 (F := F) (a 1)).slots t 0).cast nbuf3_0))
    (spec3_1.stage ((cfg3 (F := F) (a 1)).slots t 1)) (hstage3_1 (((cfg3 (F := F) (a 1)).slots t 1).cast nbuf3_1))
    (spec3_2.stage ((cfg3 (F := F) (a 1)).slots t 2)) (hstage3_2 (((cfg3 (F := F) (a 1)).slots t 2).cast nbuf3_2))
    (spec3_3.stage ((cfg3 (F := F) (a 1)).slots t 3)) (hstage3_3 (((cfg3 (F := F) (a 1)).slots t 3).cast nbuf3_3))
    (tbl a) (bX x t.val) (bW1 w1 t.val) (bW2 w2 t.val) ((dat x w1 w2 o a d).before (3 : Fin 4) t d3))
  isplitl [HT H0 H1 H2 H3]
  · isplitl [HT]; · iexact HT
    isplitl [H0]; · iexact H0
    isplitl [H1]; · iexact H1
    isplitl [H2]; · iexact H2
    iexact H3
  iintro ⟨HT, H0, H1, H2, H3⟩
  ihave HP := (owns_tbl a d) $$ HT
  isplitl [HP HR]; · isplitl [HP] <;> iassumption
  isplitl [Ho]; · iexact Ho
  isplitl [H0]; · iexact H0
  isplitl [H1]; · iexact H1
  isplitl [H2]; · iexact H2
  rw [left_eq]
  cases hi : idle3 (F := F) (a 1).1 3 ((pcfg3.gridAt (a 1).1).coords t) with
  | true =>
    cases hf : (pcfg3.win (a 1) (3 : Fin 4)).flush t with
    | false =>
      iexists d3
      obtain ⟨h8, hs⟩ := idle_false x w1 w2 a t hi
      rw [before3 x w1 w2 o a d t.val t rfl h8 d3, show acc x w1 w2 (tbl a) (t.val - 1) = acc x w1 w2 (tbl a) t.val from by rw [acc_step x w1 w2 a t.val h8, hs]]
      iexact H3
    | true => iexact H3
  | false => iexact H3

theorem emb3 (t : Fin (cfg3 (F := F) (a 1)).N) (y : S1x1024x1024.Idx) :
    (((cfg3 (F := F) (a 1)).win (3 : Fin 4)).blk t).view.emb y = (ValueIdx.ix3 (⟨(t.val / 8 + (y 0).val) % 8, Nat.mod_lt _ (by decide)⟩ : Fin 8) (y 1) (y 2) : S8x1024x1024.Idx) := by
  have ht : t.val < 64 := lt_of_lt_of_eq t.isLt N_3
  have hy : (y 0).val < 1 := (y 0).isLt
  funext b; apply Fin.ext
  fin_cases b
  · show (BitVec.ofNat 32 (grid3.coords t 0).val).toNat * 1 + 1 * (y 0).val = (t.val / 8 + (y 0).val) % 8
    rw [(coords3 t).1, ofNat_coord _ (by omega)]; omega
  · show (0#32).toNat * 1024 + 1 * (y 1).val = (y 1).val
    simp
  · show (0#32).toNat * 1024 + 1 * (y 2).val = (y 2).val
    simp

/-- The array it leaves. -/
theorem result : (dat x w1 w2 o a d).arrAt (3 : Fin 4) (cfg3 (F := F) (a 1)).N = out x w1 w2 (tbl a) := by
  have hcov : ∀ i : S8x1024x1024.Idx, ∃ t : Fin (cfg3 (F := F) (a 1)).N, ((cfg3 (F := F) (a 1)).win (3 : Fin 4)).flush t = true
      ∧ i ∈ (((cfg3 (F := F) (a 1)).win (3 : Fin 4)).blk t).view.set := fun i => by
    have hi : (i 0).val < 8 := (i 0).isLt
    refine ⟨⟨8 * (i 0).val + 7, lt_of_lt_of_eq (by omega) N_3.symm⟩, ?_, ?_⟩
    · rw [flush3]; exact decide_eq_true (by show (8 * (i 0).val + 7) % 8 = 7; omega)
    · generalize ht : (⟨8 * (i 0).val + 7, lt_of_lt_of_eq (by omega) N_3.symm⟩ : Fin (cfg3 (F := F) (a 1)).N) = t
      have ht' : t.val = 8 * (i 0).val + 7 := by rw [← ht]
      have he : (((cfg3 (F := F) (a 1)).win (3 : Fin 4)).blk t).view.emb (ValueIdx.ix3 (0 : Fin 1) (i 1) (i 2) : S1x1024x1024.Idx) = i := by
        refine (emb3 a _ _).trans ?_
        funext b; apply Fin.ext
        fin_cases b
        · show (t.val / 8 + 0) % 8 = (i 0).val
          omega
        · rfl
        · rfl
      exact Finset.mem_map.2 ⟨_, Finset.mem_univ _, he⟩
  refine (dat x w1 w2 o a d).arrAt_eq_of_emb (3 : Fin 4) _ (fun t hf y => ?_) hcov
  have ht : t.val < 64 := lt_of_lt_of_eq t.isLt N_3
  have hy : (y 0).val < 1 := (y 0).isLt
  rw [flush3] at hf
  have h7 : t.val % 8 = 7 := of_decide_eq_true hf
  show acc x w1 w2 (tbl a) t.val y = out x w1 w2 (tbl a) ((((cfg3 (F := F) (a 1)).win (3 : Fin 4)).blk t).view.emb y)
  rw [emb3 a t y]
  unfold out
  congr 1
  · show t.val = 8 * ((t.val / 8 + (y 0).val) % 8) + 7
    omega
  · funext b; apply Fin.ext
    fin_cases b
    · show (y 0).val = 0
      omega
    · rfl
    · rfl

theorem kept (n : ℕ) : (dat x w1 w2 o a d).arrAt (0 : Fin 4) n = x ∧ (dat x w1 w2 o a d).arrAt (1 : Fin 4) n = w1 ∧ (dat x w1 w2 o a d).arrAt (2 : Fin 4) n = w2 :=
  ⟨(dat x w1 w2 o a d).arrAt_in _ rfl n, (dat x w1 w2 o a d).arrAt_in _ rfl n, (dat x w1 w2 o a d).arrAt_in _ rfl n⟩

end Data

end Ffn

end Cert.Proof
-- ==== Proof.Reg5.lean ====
/-
  The weighted sum: its body on staging buffers owned at contents, its proof data at the arrays'
  contents, and the array it leaves.
-/
module

public import proofs.«01_k».proof.Proof.Region
public import proofs.«01_k».proof.Proof.Gen.KernelIdeal.Points
public import Idealize.ShloMosaic.Lib.Pipeline.ValueKit

@[expose] public section

noncomputable section

namespace Cert.Proof

open Cert.KernelIdeal Cert.KernelIdeal.Gen
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligationLoose)

variable {F : FTy → Type} [FloatOps F]

namespace Wsum

theorem hz2 : ∀ a : Fin 2, (![0, 0] : Fin 2 → ℕ) a = 0 := by decide

/-- The body: the two weighted rows summed. -/

theorem body (d : Dev nD) (i : grid5.Coords)
    (arg1 : Memref sig .tc .vmem S512x1024 .f32) (harg1 : arg1.IsWhole) (arg2 : Memref sig .tc .vmem S512x1024 .f32) (harg2 : arg2.IsWhole)
    (arg3 : Memref sig .tc .vmem S512x1 .f32) (harg3 : arg3.IsWhole) (arg4 : Memref sig .tc .vmem S512x1 .f32) (harg4 : arg4.IsWhole)
    (arg5 : Memref sig .tc .vmem S512x1024 .f32) (harg5 : arg5.IsWhole)
    (X1 X2 X5 : Vec F S512x1024 .f32) (X3 X4 : Vec F S512x1 .f32) {Q : PUnit → sProp (MM F)} :
    iprop((owns (d : Thread nD τ) arg1 fullShare X1 ∗ owns (d : Thread nD τ) arg2 fullShare X2 ∗ owns (d : Thread nD τ) arg3 fullShare X3
        ∗ owns (d : Thread nD τ) arg4 fullShare X4 ∗ owns (d : Thread nD τ) arg5 fullShare X5)
      ∗ (iprop(owns (d : Thread nD τ) arg1 fullShare X1 ∗ owns (d : Thread nD τ) arg2 fullShare X2 ∗ owns (d : Thread nD τ) arg3 fullShare X3
        ∗ owns (d : Thread nD τ) arg4 fullShare X4 ∗ owns (d : Thread nD τ) arg5 fullShare (k5_pay1 X3 X1 X4 X2)) -∗ Q ⟨⟩))
      ⊢ wp frame (wpE (defs₀ (F := F)) 𝒱₀ (d : Thread nD τ) none) Set.univ
          (cc5__wsum_body i arg1 harg1 arg2 harg2 arg3 harg3 arg4 harg4 arg5 harg5) Q := by
  rw [cc5__wsum_body_eq_skeleton]
  unfold cc5__wsum_body_skel
  simp only [Prog.lift, Prog.bind_op, Prog.bind_ret]
  iintro ⟨⟨H1, H2, H3, H4, H5⟩, Hk⟩
  iapply (wp_loadW (F := F) (d : Thread nD τ) hz2) $$ H3
  iintro H3
  iapply (wp_loadW (F := F) (d : Thread nD τ) hz2) $$ H1
  iintro H1
  iapply (wp_loadW (F := F) (d : Thread nD τ) hz2) $$ H4
  iintro H4
  iapply (wp_loadW (F := F) (d : Thread nD τ) hz2) $$ H2
  iintro H2
  iapply (wp_loadW (F := F) (d : Thread nD τ) hz2) $$ H5
  iintro H5
  iapply (wp_storeW (F := F) (d : Thread nD τ) hz2) $$ H5
  iintro H5
  rw [wp_pure]; imodintro
  iapply Hk
  isplitl [H1]; · iexact H1
  isplitl [H2]; · iexact H2
  isplitl [H3]; · iexact H3
  isplitl [H4]; · iexact H4
  iexact H5

/-! ## The proof data -/

variable (y0 y1 : Vec F S2048x1024 .f32) (w0 w1 : Vec F S2048x1 .f32) (o : Vec F S2048x1024 .f32)

/-- The windows' blocks at a point. -/
def bY0 (t : Fin cfg5.N) : Vec F S512x1024 .f32 := (win5_0.blk t).view.read (Elt F) y0
def bY1 (t : Fin cfg5.N) : Vec F S512x1024 .f32 := (win5_1.blk t).view.read (Elt F) y1
def bW0 (t : Fin cfg5.N) : Vec F S512x1 .f32 := (win5_2.blk t).view.read (Elt F) w0
def bW1 (t : Fin cfg5.N) : Vec F S512x1 .f32 := (win5_3.blk t).view.read (Elt F) w1

/-- The arrays as they come, the result's at what it held; a block each after the body. -/
def dat (a : (p : Fin 3) → (pcfgs (F := F) p).Adm) (d : Dev nD) : Dat τ (Elt F) (HIx 3) ℕ UU ℕ cfg5 d where
  A w := match w with
    | ⟨0, _⟩ => y0
    | ⟨1, _⟩ => y1
    | ⟨2, _⟩ => w0
    | ⟨3, _⟩ => w1
    | ⟨4, _⟩ => o
  after w t := match w with
    | ⟨0, _⟩ => bY0 y0 t
    | ⟨1, _⟩ => bY1 y1 t
    | ⟨2, _⟩ => bW0 w0 t
    | ⟨3, _⟩ => bW1 w1 t
    | ⟨4, _⟩ => k5_pay1 (bW0 w0 t) (bY0 y0 t) (bW1 w1 t) (bY1 y1 t)
  Φ _ := inv a 2 d
  q _ := fullShare
  owed _ := (K (F := F)).Otc d 3
  recorded _ := below (F := F) d 3

theorem before0 (a) (d : Dev nD) (t : Fin cfg5.N) (x) : (dat y0 y1 w0 w1 o a d).before (0 : Fin 5) t x = bY0 y0 t := by
  unfold Dat.before; rw [if_pos (fetch5_0 t)]; rfl
theorem before1 (a) (d : Dev nD) (t : Fin cfg5.N) (x) : (dat y0 y1 w0 w1 o a d).before (1 : Fin 5) t x = bY1 y1 t := by
  unfold Dat.before; rw [if_pos (fetch5_1 t)]; rfl
theorem before2 (a) (d : Dev nD) (t : Fin cfg5.N) (x) : (dat y0 y1 w0 w1 o a d).before (2 : Fin 5) t x = bW0 w0 t := by
  unfold Dat.before; rw [if_pos (fetch5_2 t)]; rfl
theorem before3 (a) (d : Dev nD) (t : Fin cfg5.N) (x) : (dat y0 y1 w0 w1 o a d).before (3 : Fin 5) t x = bW1 w1 t := by
  unfold Dat.before; rw [if_pos (fetch5_3 t)]; rfl

theorem obl (a : (p : Fin 3) → (pcfgs (F := F) p).Adm) (d : Dev nD) :
    BodyObligationLoose (dat y0 y1 w0 w1 o a d) (defs₀ (F := F)) 𝒱₀ (none : HIx 3) Set.univ := fun t => by
  refine (Entails.of_eq (congrArg _ (congrArg _ (bigSep_W5 _)))).trans ?_
  refine BIBase.Entails.trans ?_ (wp_mono frame _ _ fun _ => Entails.of_eq (congrArg _ (congrArg _ (bigSep_W5 _).symm)))
  simp only
  rw [show (dat y0 y1 w0 w1 o a d).Φ t.succ = (dat y0 y1 w0 w1 o a d).Φ t.castSucc from rfl,
    show (dat y0 y1 w0 w1 o a d).owesAt (none : HIx 3) t.succ = (dat y0 y1 w0 w1 o a d).owesAt (none : HIx 3) t.castSucc from rfl]
  iintro ⟨HΦ, Ho, ⟨%d0, H0⟩, ⟨%d1, H1⟩, ⟨%d2, H2⟩, ⟨%d3, H3⟩, ⟨%d4, H4⟩⟩
  rw [before0, before1, before2, before3]
  iapply (body (F := F) d (grid5.coords t) (win5_0.stage (cfg5.slots t 0)) (hstage5_0 ((cfg5.slots t 0).cast nbuf5_0)) (win5_1.stage (cfg5.slots t 1)) (hstage5_1 ((cfg5.slots t 1).cast nbuf5_1))
    (win5_2.stage (cfg5.slots t 2)) (hstage5_2 ((cfg5.slots t 2).cast nbuf5_2)) (win5_3.stage (cfg5.slots t 3)) (hstage5_3 ((cfg5.slots t 3).cast nbuf5_3))
    (win5_4.stage (cfg5.slots t 4)) (hstage5_4 ((cfg5.slots t 4).cast nbuf5_4)) (bY0 y0 t) (bY1 y1 t) _ (bW0 w0 t) (bW1 w1 t))
  isplitl [H0 H1 H2 H3 H4]
  · isplitl [H0]; · iexact H0
    isplitl [H1]; · iexact H1
    isplitl [H2]; · iexact H2
    isplitl [H3]; · iexact H3
    iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-! ## The array it leaves -/

theorem pay_apply (v0 v6 : Vec F S512x1 .f32) (v2 v8 : Vec F S512x1024 .f32) (y : S512x1024.Idx) :
    k5_pay1 v0 v2 v6 v8 y = FloatOps.addf (FloatOps.mulf (v0 (ValueIdx.ix2 (y 0) 0)) (v2 y)) (FloatOps.mulf (v6 (ValueIdx.ix2 (y 0) 0)) (v8 y)) := by
  have hb : ∀ v : Vec F S512x1 .f32, broadcastTo S512x1024 v broadcasts_S512x1_S512x1024 y = v (ValueIdx.ix2 (y 0) 0) := fun v => by
    refine broadcastTo_apply v _ y _ fun a => ?_
    fin_cases a <;> rfl
  unfold k5_pay1
  simp only [shapeCast_self]
  show FloatOps.addf (FloatOps.mulf (broadcastTo S512x1024 v0 broadcasts_S512x1_S512x1024 y) (v2 y)) (FloatOps.mulf (broadcastTo S512x1024 v6 broadcasts_S512x1_S512x1024 y) (v8 y)) = _
  rw [hb, hb]

/-- The rows weighted and summed. -/
def out : Vec F S2048x1024 .f32 :=
  fun j => FloatOps.addf (FloatOps.mulf (w0 (ValueIdx.ix2 (j 0) 0)) (y0 j)) (FloatOps.mulf (w1 (ValueIdx.ix2 (j 0) 0)) (y1 j))

theorem bW0_apply (t : Fin cfg5.N) (y : S512x1024.Idx) : bW0 w0 t (ValueIdx.ix2 (y 0) 0) = w0 (ValueIdx.ix2 ((win5_4.blk t).view.emb y 0) 0) := by
  show w0 ((win5_2.blk t).view.emb (ValueIdx.ix2 (y 0) 0)) = _
  congr 1
  funext b; apply Fin.ext
  fin_cases b
  · rfl
  · rfl

theorem result (a : (p : Fin 3) → (pcfgs (F := F) p).Adm) (d : Dev nD) :
    (dat y0 y1 w0 w1 o a d).arrAt (4 : Fin 5) cfg5.N = out y0 y1 w0 w1 := by
  refine (dat y0 y1 w0 w1 o a d).arrAt_eq_of_covers (4 : Fin 5) _ (by decide +kernel) fun t hf y => ?_
  blk_simp
  show k5_pay1 (bW0 w0 t) (bY0 y0 t) (bW1 w1 t) (bY1 y1 t) y = _
  refine (pay_apply _ _ _ _ _).trans ?_
  rw [bW0_apply w0 t y, show bW1 w1 t (ValueIdx.ix2 (y 0) 0) = w1 (ValueIdx.ix2 ((win5_4.blk t).view.emb y 0) 0) from bW0_apply w1 t y]
  rfl

/-- The inputs stay as they came. -/
theorem kept (a : (p : Fin 3) → (pcfgs (F := F) p).Adm) (d : Dev nD) (n : ℕ) :
    (dat y0 y1 w0 w1 o a d).arrAt (0 : Fin 5) n = y0 ∧ (dat y0 y1 w0 w1 o a d).arrAt (1 : Fin 5) n = y1
      ∧ (dat y0 y1 w0 w1 o a d).arrAt (2 : Fin 5) n = w0 ∧ (dat y0 y1 w0 w1 o a d).arrAt (3 : Fin 5) n = w1 :=
  ⟨(dat y0 y1 w0 w1 o a d).arrAt_in _ rfl n, (dat y0 y1 w0 w1 o a d).arrAt_in _ rfl n, (dat y0 y1 w0 w1 o a d).arrAt_in _ rfl n, (dat y0 y1 w0 w1 o a d).arrAt_in _ rfl n⟩

end Wsum

end Cert.Proof
-- ==== Proof.Steps.lean ====
/-
  Two steps a tile takes, each issued and then waited for: a copy between two arrays' windows, and a
  gather of rows by a list. Each from elements that may be more than its windows' own.
-/
module

public import proofs.«01_k».proof.Proof.Common

@[expose] public section

noncomputable section

namespace Cert.Proof

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- The waits recorded so far: those there were at the start, and some at no call's index. -/
abbrev OwesFrom (c : Thread nD τ) (O : CellTallies nD τ sig (HIx 3)) (W : Waits sig (HIx 3)) : sProp (MM F) :=
  iprop(∃ W', ⌜∀ p ∈ W', p ∈ W ∨ p.2 = none⌝ ∗ owes c O W')

theorem owesFrom_refl (c : Thread nD τ) (O : CellTallies nD τ sig (HIx 3)) (W : Waits sig (HIx 3)) :
    (owes c O W : sProp (MM F)) ⊢ OwesFrom c O W := by
  iintro H; iexists W; isplitr
  · ipureintro; exact fun p hp => .inl hp
  · iexact H

theorem owesFrom_insert {c : Thread nD τ} {O : CellTallies nD τ sig (HIx 3)} {W W' : Waits sig (HIx 3)} {sm : SemLoc sig}
    (h : ∀ p ∈ W', p ∈ W ∨ p.2 = none) :
    (owes c O (insert (sm, (none : HIx 3)) W') : sProp (MM F)) ⊢ OwesFrom c O W := by
  iintro H; iexists _; isplitr
  rotate_left
  · iexact H
  · ipureintro; intro p hp
    rcases Finset.mem_insert.mp hp with hp | hp
    · exact .inr (hp ▸ rfl)
    · exact h p hp

section
variable (c : Thread nD τ) {α : Type} {Q : α → sProp (MM F)}

/-- A copy and its wait. -/
theorem wp_copy {sp sp' spw spw' : Space} {s sw : Shape} {e ew : EltTy} {src : Memref sig c.2.kind sp s e} {dst : Memref sig c.2.kind sp' s e} {sm : DmaSem sig}
    {srcw : Memref sig c.2.kind spw sw ew} {dstw : Memref sig c.2.kind spw' s e} {h1 : src.view.WordExact} {h2 : dst.view.WordExact}
    {h3 : DmaTarget.Typed (nD := nD) sp (.dma sm) (.here dst)} {h4 : srcw.view.WordExact} {h5 : dstw.view.WordExact}
    {k : PUnit → Prog (TpuEff nD τ sig (Elt F) Λ₀ c.2) α} {q : PosShare TreeShare}
    {Ss : Finset (Idx (src.view.loc c))} {Sd : Finset (Idx (dst.view.loc c))}
    {fs : Buf (Elt F) (src.view.loc c)} {fd : Buf (Elt F) (dst.view.loc c)} {O : CellTallies nD τ sig (HIx 3)} {W : Waits sig (HIx 3)}
    (hSs : src.view.set ⊆ Ss) (hSd : dst.view.set ⊆ Sd) (hp : 0 < dst.view.dmaCredit) (hw : dstw.view.dmaCredit = dst.view.dmaCredit) :
    iprop((src.view.loc c ↦[Ss]{q} fs) ∗ (dst.view.loc c ↦[Sd]{fullShare} fd) ∗ semVal (c, .dma sm) 0
        ∗ Transfers.MayWaits c (none : HIx 3) O ∗ OwesFrom c O W)
      ⊢ iprop((iprop((src.view.loc c ↦[Ss]{q} fs)
            ∗ (dst.view.loc c ↦[Sd]{fullShare} dst.view.write (Elt F) fd (src.view.read (Elt F) fs) Finset.univ)
            ∗ semVal (c, .dma sm) 0 ∗ OwesFrom c O W) -∗ wp frame (wpE (defs₀ (F := F)) 𝒱₀ c none) Set.univ (k ⟨⟩) Q)
          -∗ wp frame (wpE (defs₀ (F := F)) 𝒱₀ c none) Set.univ
              (.op (.enqueueDma src (.here dst) (.dma sm) h1 h2 h3) fun _ => .op (.waitDma2 sm srcw dstw h4 h5) k) Q) := by
  iintro ⟨Hs, Hd, Hv, #Hmw, %W', %hW', HO⟩ Hk
  ihave Hs' := (pointsTo_split_subset (q := q) (f := fs) hSs).1 $$ Hs
  icases Hs' with ⟨Hs, Hsr⟩
  iapply (Transfers.wp_dmaLocal countersEmb 𝒱₀ c none (none : HIx 3) dst.view.dmaCredit rfl hp hSd) $$ [Hs Hd Hv]
  · isplitl [Hs]; · iexact Hs
    isplitl [Hd]; · iexact Hd
    iexact Hv
  iintro Hfl
  iapply (Transfers.wp_waitLocalO countersEmb 𝒱₀ c none (none : HIx 3) hw) $$ [Hfl HO]
  · isplitl [Hfl]; · iexact Hfl
    isplitl [HO]; · iexact HO
    iapply (Transfers.MayWaits.elim (SemLoc.dma sm)) $$ Hmw
  iintro ⟨⟨Hd, Hs⟩, Hv, HO⟩
  iapply Hk
  isplitl [Hs Hsr]
  · iapply (pointsTo_split_subset (q := q) (f := fs) hSs).2
    isplitl [Hs] <;> iassumption
  isplitl [Hd]; · iexact Hd
  isplitl [Hv]; · iexact Hv
  iapply (owesFrom_insert hW') $$ HO

/-- A gather of rows and its wait. -/
theorem wp_gather {sp spw spw' : Space} {s₀ s si sw : Shape} {e ew : EltTy} {a : ℕ} {src : Memref sig c.2.kind sp s₀ e} {dst : Memref sig c.2.kind .vmem s e}
    {hg : s₀.Gathers a s} {offs : Memref sig c.2.kind .vmem si .i32} {hn : si.numel = s.size hg.axis'} {sm : DmaSem sig}
    {hpk : c.2.kind = .scVector} {hsrc : src.view.WordExact} {he : e.bits = 32} {hsp : sp = .hbm ∨ sp = .shared} {hr : s₀.StreamRows a}
    {srcw : Memref sig c.2.kind spw sw ew} {dstw : Memref sig c.2.kind spw' s e} {h4 : srcw.view.WordExact} {h5 : dstw.view.WordExact}
    {k : PUnit → Prog (TpuEff nD τ sig (Elt F) Λ₀ c.2) α} {q qo : PosShare TreeShare}
    {Ss : Finset (Idx (src.view.loc c))} {Sd : Finset (Idx (dst.view.loc c))}
    {fs : Buf (Elt F) (src.view.loc c)} {fd : Buf (Elt F) (dst.view.loc c)} {fo : Buf (Elt F) (offs.view.loc c)}
    {O : CellTallies nD τ sig (HIx 3)} {W : Waits sig (HIx 3)}
    (hSs : src.view.set ⊆ Ss) (hSd : dst.view.set ⊆ Sd) (hs : 0 < s.numel)
    (hN : ∑ j, (dst.slice (s.rowRect hg.axis' j) (s.stride_rowRect hg.axis' j)).view.dmaCredit = dst.view.dmaCredit)
    (hw : dstw.view.dmaCredit = dst.view.dmaCredit) (hin : ∀ x, (offs.view.read (Elt F) fo x).toNat < s₀.size hg.axis) :
    iprop((src.view.loc c ↦[Ss]{q} fs) ∗ (dst.view.loc c ↦[Sd]{fullShare} fd) ∗ (offs.view.loc c ↦[offs.view.set]{qo} fo) ∗ semVal (c, .dma sm) 0
        ∗ Transfers.MayWaits c (none : HIx 3) O ∗ OwesFrom c O W)
      ⊢ iprop((iprop((src.view.loc c ↦[Ss]{q} fs)
            ∗ (dst.view.loc c ↦[Sd]{fullShare} dst.view.write (Elt F) fd
                (SparseCore.gatherPayload hg (src.view.read (Elt F) fs) (SparseCore.rows (offs.view.read (Elt F) fo) hn hin)) Finset.univ)
            ∗ (offs.view.loc c ↦[offs.view.set]{qo} fo)
            ∗ semVal (c, .dma sm) 0 ∗ OwesFrom c O W) -∗ wp frame (wpE (defs₀ (F := F)) 𝒱₀ c none) Set.univ (k ⟨⟩) Q)
          -∗ wp frame (wpE (defs₀ (F := F)) 𝒱₀ c none) Set.univ
              (SparseCore.enqueueIndirectGather hpk src dst hg offs hn sm hsrc he hsp hr >>= fun _ => .op (.waitDma2 sm srcw dstw h4 h5) k) Q) := by
  iintro ⟨Hs, Hd, Ho, Hv, #Hmw, %W', %hW', HO⟩ Hk
  ihave Hs' := (pointsTo_split_subset (q := q) (f := fs) hSs).1 $$ Hs
  icases Hs' with ⟨Hs, Hsr⟩
  ihave Hd' := (pointsTo_split_subset (q := fullShare) (f := fd) hSd).1 $$ Hd
  icases Hd' with ⟨Hd, Hdr⟩
  iapply (SparseCore.wp_indirectGatherLocal countersEmb 𝒱₀ c none (none : HIx 3) dst.view.dmaCredit hN hs hin) $$ [Hs Hd Ho Hv]
  · isplitl [Hs]; · iexact Hs
    isplitl [Hd]; · iexact Hd
    isplitl [Ho]; · iexact Ho
    iexact Hv
  iintro Hfl
  iapply (Transfers.wp_waitLocalO countersEmb 𝒱₀ c none (none : HIx 3) hw) $$ [Hfl HO]
  · isplitl [Hfl]; · iexact Hfl
    isplitl [HO]; · iexact HO
    iapply (Transfers.MayWaits.elim (SemLoc.dma sm)) $$ Hmw
  iintro ⟨⟨Hd, Hs, Ho⟩, Hv, HO⟩
  iapply Hk
  isplitl [Hs Hsr]
  · iapply (pointsTo_split_subset (q := q) (f := fs) hSs).2
    isplitl [Hs] <;> iassumption
  isplitl [Hd Hdr]
  · iapply (pointsTo_split_subset (q := fullShare) hSd).2
    isplitl [Hd]; · iexact Hd
    iapply (Entails.of_eq (SparseCore.pointsTo_rest_write c fd _)) $$ Hdr
  isplitl [Ho]; · iexact Ho
  isplitl [Hv]; · iexact Hv
  iapply (owesFrom_insert hW') $$ HO

end

/-! ## A tile's own semaphores and buffers: some of them taken out, the rest beside -/

/-- The semaphores of the tile's own other than `l`. -/
def restSems (d : Dev nD) (c : Fin τ.nSC) (j : Fin τ.nSub) (l : Finset (SemLoc sig)) : sProp (MM F) :=
  bigSep (SparseCore.Cfg.ownCells (SparseCore.V d c j) \ l.map (Function.Embedding.sectR (SparseCore.V d c j) _)) fun g => semVal g 0
/-- The buffers of the tile's own other than `l`. -/
def restBufs (d : Dev nD) (c : Fin τ.nSC) (j : Fin τ.nSub) (l : Finset (Ref sig .scVector)) : sProp (MM F) :=
  bigSep (SparseCore.Cfg.ownRefs (τ := τ) (.scVector c j) \ l.map ⟨_, Proc.devRef_injective (Proc.scVector c j : Proc τ)⟩)
    fun b => iprop(∃ f, ((d, b) : Loc nD τ sig) ↦{fullShare} f)

theorem scopedSems_take (d : Dev nD) (c : Fin τ.nSC) (j : Fin τ.nSub) (l : Finset (SemLoc sig)) (h : ∀ s ∈ l, s.isScoped .scVector = true) :
    (scopedSems0 (SparseCore.V d c j) : sProp (MM F)) = iprop((bigSep l fun s => semVal (SparseCore.V d c j, s) 0)
      ∗ restSems d c j l) := by
  rw [SparseCore.Cfg.scopedSems0_V (Val := Elt F) d c j]
  unfold SparseCore.Cfg.ownSems0
  have hl : l.map (Function.Embedding.sectR (SparseCore.V d c j : Thread nD τ) (SemLoc sig)) ⊆ SparseCore.Cfg.ownCells (SparseCore.V d c j) := fun g hg => by
    obtain ⟨s, hs, rfl⟩ := Finset.mem_map.mp hg
    exact SparseCore.Cfg.mem_ownCells.mpr ⟨rfl, h s hs⟩
  conv_lhs => rw [← Finset.union_sdiff_of_subset hl]
  rw [BI.bigSep_union Finset.disjoint_sdiff, SparseCore.bigSep_map]
  rfl

theorem scopedBufs_take (d : Dev nD) (c : Fin τ.nSC) (j : Fin τ.nSub) (l : Finset (Ref sig .scVector))
    (h : ∀ b ∈ l, ((Proc.scVector c j : Proc τ).devRef b).owner = .proc (.scVector c j)) :
    (scopedBufs (SparseCore.V d c j) : sProp (MM F)) = iprop((bigSep l fun b => iprop(∃ f, (SparseCore.V d c j).loc b ↦{fullShare} f))
      ∗ restBufs d c j l) := by
  rw [(K (F := F)).scopedBufs_V facts d c j]
  unfold SparseCore.Cfg.ownBufs
  have hl : l.map ⟨_, Proc.devRef_injective (Proc.scVector c j : Proc τ)⟩ ⊆ SparseCore.Cfg.ownRefs (τ := τ) (sig := sig) (.scVector c j) := fun g hg => by
    obtain ⟨s, hs, rfl⟩ := Finset.mem_map.mp hg
    exact SparseCore.Cfg.mem_ownRefs_of_owner (h s hs)
  conv_lhs => rw [show (SparseCore.V d c j : Thread nD τ).2 = .scVector c j from rfl, ← Finset.union_sdiff_of_subset hl]
  rw [BI.bigSep_union Finset.disjoint_sdiff, SparseCore.bigSep_map]
  rfl

end Cert.Proof

end
-- ==== Proof.Rows.lean ====
/-
  What the windows a tile writes hold: columns of gathered rows, and blocks of rows of an array.
-/
module

public import proofs.«01_k».proof.Proof.Steps

@[expose] public section

noncomputable section

namespace Cert.Proof

open Cert.KernelIdeal Cert.KernelIdeal.Gen
open Idealize.ShloMosaic
open Idealize.ShloMosaic.ValueIdx (ix1 ix2)

variable {F : FTy → Type} [FloatOps F]

variable {κ κ' : Kind} {sp sp' : Space}

/-- Columns below `c` hold the gathered rows; the next 128 are gathered; so do columns below `c + 128`. -/
theorem cols_step {n : ℕ} [NeZero n] (vd : View sig κ sp S64x1024 .f32) (vs : View sig κ' sp' ⟨2, ![n, 1024]⟩ .f32) {offd offs : Fin 2 → ℕ}
    (inbd : ∀ a, offd a + S64x128.size a ≤ S64x1024.size a)
    (inbs : ∀ a, offs a + (⟨2, ![n, 128]⟩ : Shape).size a ≤ (⟨2, ![n, 1024]⟩ : Shape).size a) (c : ℕ) (hd : offd = ![0, c]) (hs : offs = ![0, c])
    (fd : vd.ty.Contents (Elt F)) (fs : vs.ty.Contents (Elt F)) (I : S64.Idx → Elt F .i32)
    (hg : (⟨2, ![n, 128]⟩ : Shape).Gathers 0 S64x128) (hn : S64.numel = S64x128.size hg.axis')
    (hin : ∀ x, (I x).toNat < (⟨2, ![n, 128]⟩ : Shape).size hg.axis)
    (h : ∀ j : S64x1024.Idx, (j 1).val < c → vd.read (Elt F) fd j = rowsBy (vs.read (Elt F) fs) I j) :
    ∀ j : S64x1024.Idx, (j 1).val < c + 128 →
      vd.read (Elt F) ((vd.slice (Rect.unit offd S64x128.size inbd)).write (Elt F) fd
        (SparseCore.gatherPayload (F := F) (e := .f32) hg ((vs.slice (Rect.unit (s := ⟨2, ![n, 1024]⟩) offs (⟨2, ![n, 128]⟩ : Shape).size inbs)).read (Elt F) fs) (SparseCore.rows (F := F) I hn hin)) Finset.univ) j
        = rowsBy (vs.read (Elt F) fs) I j := by
  subst hd hs
  intro j hj
  by_cases hc : (j 1).val < c
  · rw [View.read_slice_write_of_not_mem, h j hc]
    rw [Rect.map_emb_univ]
    exact Rect.not_mem_set_of_axis _ j 1 c 128 rfl rfl rfl (.inl hc)
  · have h1 : (j 1).val - c < 128 := by omega
    have e : (Rect.unit (s := S64x1024) ![0, c] S64x128.size inbd).emb (ix2 (n0 := 64) (n1 := 128) (j 0) ⟨(j 1).val - c, h1⟩) = j := by
      apply Rect.emb_eq_of_coords
      intro a
      match a with
      | ⟨0, _⟩ => show (j 0).val = 0 + 1 * (j 0).val; omega
      | ⟨1, _⟩ => show (j 1).val = c + 1 * ((j 1).val - c); omega
    conv_lhs => rw [← e]
    rw [View.read_slice_write_emb _ _ _ (Finset.mem_univ _)]
    show vs.read (Elt F) fs ((Rect.unit (s := ⟨2, ![n, 1024]⟩) ![0, c] (⟨2, ![n, 128]⟩ : Shape).size inbs).emb (hg.idx (SparseCore.rows (F := F) I hn hin) _)) = vs.read (Elt F) fs _
    congr 1
    apply Rect.emb_eq_of_coords
    intro a
    match a with
    | ⟨0, _⟩ =>
      have hk : ∀ p : S64.numel = 64, S64.rowMajor.symm (Fin.cast p.symm (j 0 : Fin 64)) = ix1 (n := 64) (j 0) := fun p => by
        refine (Equiv.symm_apply_eq _).mpr (Fin.ext ?_)
        rw [Shape.rowMajor_val_one]; rfl
      have hz := Shape.Gathers.idx_axis hg (SparseCore.rows (F := F) I hn hin) (ix2 (n0 := 64) (n1 := 128) (j 0) ⟨(j 1).val - c, h1⟩)
      have hlt : (I (ix1 (n := 64) (j 0))).toNat < n := hin (ix1 (n := 64) (j 0))
      have hz' : (hg.idx (SparseCore.rows (F := F) I hn hin) (ix2 (n0 := 64) (n1 := 128) (j 0) ⟨(j 1).val - c, h1⟩) hg.axis).val = (I (ix1 (n := 64) (j 0))).toNat := by
        refine (congrArg Fin.val hz).trans ?_
        exact congrArg (fun x => (I x).toNat) (hk hn)
      show (I (ix1 (n := 64) (j 0))).toNat % n = 0 + 1 * (hg.idx _ _ hg.axis).val
      refine (Nat.mod_eq_of_lt hlt).trans (hz'.symm.trans ?_)
      omega
    | ⟨1, _⟩ =>
      have hz := Shape.Gathers.idx_of_ne hg (SparseCore.rows (F := F) I hn hin) (ix2 (n0 := 64) (n1 := 128) (j 0) ⟨(j 1).val - c, h1⟩) ⟨1, Nat.one_lt_two⟩ Nat.one_ne_zero
      show (j 1).val = c + 1 * (hg.idx _ _ ⟨1, Nat.one_lt_two⟩).val
      have hz' : (hg.idx (SparseCore.rows (F := F) I hn hin) (ix2 (n0 := 64) (n1 := 128) (j 0) ⟨(j 1).val - c, h1⟩) ⟨1, Nat.one_lt_two⟩).val = (j 1).val - c := hz
      rw [hz']
      omega

/-- A block of 64 rows written, the rows from `o` on: what was known of the rows below `o` stands, the block's rows hold
    the payload. -/
theorem rows_step {n : ℕ} (vd : View sig κ sp ⟨2, ![n, 1024]⟩ .f32) {off : Fin 2 → ℕ}
    (inb : ∀ a, off a + S64x1024.size a ≤ (⟨2, ![n, 1024]⟩ : Shape).size a) (o : ℕ) (ho : off = ![o, 0])
    (fd : vd.ty.Contents (Elt F)) (w : S64x1024.Idx → Elt F .f32) (G : (⟨2, ![n, 1024]⟩ : Shape).Idx → Elt F .f32) (lo : ℕ)
    (h : ∀ j : (⟨2, ![n, 1024]⟩ : Shape).Idx, lo ≤ (j 0).val → (j 0).val < o → vd.read (Elt F) fd j = G j)
    (hw : ∀ (a : Fin 64) (b : Fin 1024) (hlt : o + a.val < n), w (ix2 a b) = G (ix2 ⟨o + a.val, hlt⟩ b)) :
    ∀ j : (⟨2, ![n, 1024]⟩ : Shape).Idx, lo ≤ (j 0).val → (j 0).val < o + 64 →
      vd.read (Elt F) ((vd.slice (Rect.unit (s := ⟨2, ![n, 1024]⟩) off S64x1024.size inb)).write (Elt F) fd w Finset.univ) j = G j := by
  subst ho
  intro j hlo hj
  by_cases hc : (j 0).val < o
  · rw [View.read_slice_write_of_not_mem, h j hlo hc]
    rw [Rect.map_emb_univ]
    exact Rect.not_mem_set_of_axis _ j 0 o 64 rfl rfl rfl (.inl hc)
  · have h1 : (j 0).val - o < 64 := by omega
    have e : (Rect.unit (s := ⟨2, ![n, 1024]⟩) ![o, 0] S64x1024.size inb).emb (ix2 (n0 := 64) (n1 := 1024) ⟨(j 0).val - o, h1⟩ (j 1)) = j := by
      apply Rect.emb_eq_of_coords
      intro a
      match a with
      | ⟨0, _⟩ => show (j 0).val = o + 1 * ((j 0).val - o); omega
      | ⟨1, _⟩ => show (j 1).val = 0 + 1 * (j 1).val; omega
    conv_lhs => rw [← e]
    rw [View.read_slice_write_emb _ _ _ (Finset.mem_univ _)]
    have hlt : o + ((j 0).val - o) < n := by have := (j 0).isLt; change (j 0).val < n at this; omega
    refine (hw ⟨(j 0).val - o, h1⟩ (j 1) hlt).trans (congrArg G ?_)
    have hz : (⟨o + ((j 0).val - o), hlt⟩ : Fin n) = j 0 := by apply Fin.ext; show o + ((j 0).val - o) = (j 0).val; omega
    exact (congrArg (fun x => ix2 x (j 1)) hz).trans (ValueIdx.eq_ix2 j).symm

end Cert.Proof

end
-- ==== Proof.TileInv.lean ====
/-
  The inverse-map call's task. One tile does it all: the map starts at `j mod 2048`, then for each of
  the two choices the tokens go through in order, sixteen lanes at a time, a kept token writing its
  number at its slot. The other thirty-one tiles return at once.
-/
module

public import proofs.«01_k».proof.Proof.Rows
public import proofs.«01_k».proof.Proof.Steps

@[expose] public section

noncomputable section

namespace Cert.Proof

open Cert.KernelIdeal Cert.KernelIdeal.Gen
open Idealize.ShloMosaic
open Idealize.ShloMosaic.SparseCore (S V)
open Idealize.ShloMosaic.SparseCore.Cfg (HIx)
open Idealize.ShloMosaic.ValueIdx (ix1 ix2)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- Token `t` of a list of 2048 words. -/
abbrev tok (s : S2048.Idx → BitVec 32) (t : ℕ) : BitVec 32 := s (ix1 (Fin.ofNat 2048 t))

/-- The map after the first `n` tokens have gone through: a kept token's number at its slot. -/
def scat (slots keeps : S2048.Idx → BitVec 32) (f : S8192.Idx → BitVec 32) : ℕ → S8192.Idx → BitVec 32
  | 0 => f
  | n + 1 => fun j => if IntOp.cmpi .sgt (tok keeps n) 0#32 = 1 ∧ (j 0).val = (tok slots n).toNat then BitVec.ofNat 32 n else scat slots keeps f n j

/-- What the map starts at. -/
def inv0 : S8192.Idx → BitVec 32 := fun j => BitVec.ofNat 32 ((j 0).val % 2048)

/-- What the map ends at. -/
def invOf (s0 s1 k0 k1 : S2048.Idx → BitVec 32) : S8192.Idx → BitVec 32 := scat s1 k1 (scat s0 k0 inv0 2048) 2048

theorem scat_lt (slots keeps : S2048.Idx → BitVec 32) (f : S8192.Idx → BitVec 32) (hf : ∀ j, (f j).toNat < 2048) :
    ∀ n ≤ 2048, ∀ j, (scat slots keeps f n j).toNat < 2048
  | 0, _, j => hf j
  | n + 1, hn, j => by
    unfold scat
    split
    · rw [BitVec.toNat_ofNat]; omega
    · exact scat_lt slots keeps f hf n (by omega) j

theorem invOf_lt (s0 s1 k0 k1 : S2048.Idx → BitVec 32) (j : S8192.Idx) : (invOf s0 s1 k0 k1 j).toNat < 2048 :=
  scat_lt _ _ _ (scat_lt _ _ _ (fun j => by unfold inv0; rw [BitVec.toNat_ofNat]; omega) _ le_rfl) _ le_rfl j

theorem foldl_finRange {X : Type} (n : ℕ) (step : X → Fin n → X) (G : ℕ → X) (h : ∀ k : Fin n, step (G k.val) k = G (k.val + 1)) :
    (List.finRange n).foldl step (G 0) = G n := by
  induction n with
  | zero => rfl
  | succ n ih =>
    rw [List.finRange_succ_last, List.foldl_append, List.foldl_map, ih (fun x k => step x k.castSucc) (fun k => h k.castSucc)]
    exact h (Fin.last n)

/-- Sixteen lanes of the scatter are sixteen tokens of `scat`. -/
theorem storeIdx_scat (slots keeps : S2048.Idx → BitVec 32) (f : S8192.Idx → BitVec 32) (k : ℕ)
    (v11 : S16.Idx → BitVec 32) (h11 : ∀ a : Fin 16, v11 (ix1 a) = tok slots (16 * k + a.val))
    (w : S16.Idx → BitVec 32) (hw : ∀ a : Fin 16, w (ix1 a) = BitVec.ofNat 32 (16 * k + a.val))
    (p : S16.Idx → BitVec 1) (hp : ∀ a : Fin 16, p (ix1 a) = IntOp.cmpi .sgt (tok keeps (16 * k + a.val)) 0#32)
    (h : ∀ a x, ((![v11] : Fin 1 → IVec S16 32) a x).toNat < S8192.size a) :
    storeIdx (F := F) (e := .i32) (s := S8192) (scat slots keeps f (16 * k)) ![v11] w p false h = scat slots keeps f (16 * (k + 1)) := by
  unfold storeIdx
  refine foldl_finRange 16 _ (fun m => scat slots keeps f (16 * k + m)) (fun a => ?_)
  have ea : (Shape.ofLane (d := ![16]) a : S16.Idx) = ix1 a := by
    funext b; match b with | ⟨0, _⟩ => rfl
  show (if p (Shape.ofLane (d := ![16]) a) = 1 then _ else _) = _
  rw [ea, hp]
  by_cases hc : IntOp.cmpi .sgt (tok keeps (16 * k + a.val)) 0#32 = 1
  · rw [if_pos hc]
    funext j
    by_cases hj : (j 0).val = (v11 (ix1 a)).toNat
    · refine (if_pos (fun b => by match b with | ⟨0, _⟩ => exact hj)).trans ?_
      show w _ = scat slots keeps f (16 * k + a.val + 1) j
      unfold scat
      rw [hw, if_pos ⟨hc, (by rw [← h11]; exact hj)⟩]
    · refine (if_neg (fun hb => hj (hb 0))).trans ?_
      show _ = scat slots keeps f (16 * k + a.val + 1) j
      conv_rhs => unfold scat
      rw [if_neg (fun hx => hj (by rw [h11]; exact hx.2))]
  · rw [if_neg hc]
    funext j
    show _ = scat slots keeps f (16 * k + (a.val + 1)) j
    rw [← Nat.add_assoc]
    conv_rhs => unfold scat
    rw [if_neg (fun hx => hc hx.1)]

namespace Inv

abbrev s0V : Memref sig .scVector .hbm S2048 .i32 := Memref.whole main_v2_scv
abbrev s1V : Memref sig .scVector .hbm S2048 .i32 := Memref.whole main_v3_scv
abbrev k0V : Memref sig .scVector .hbm S2048 .i32 := Memref.whole main_v4_scv
abbrev k1V : Memref sig .scVector .hbm S2048 .i32 := Memref.whole main_v5_scv
abbrev oV : Memref sig .scVector .hbm S8192 .i32 := Memref.whole main_v6_scv
abbrev mV : Memref sig .scVector .vmem S8192 .i32 := Memref.whole cc1_scratch0
abbrev aV : Memref sig .scVector .vmem S2048 .i32 := Memref.whole cc1_scratch1
abbrev bV : Memref sig .scVector .vmem S2048 .i32 := Memref.whole cc1_scratch2

variable (d : Dev nD) (L : grid1.Coords)

abbrev thr : Thread nD τ := V d ((L 0).castLE hcore1) ((L 1).castLE hsub1)
abbrev cell (s : DmaSems sig S_) : GSem nD τ sig := (thr d L, .dma s.sem)

theorem trips1 : k1_t1_loop.trips = 512 := by decide
theorem trips2 : k1_t2_loop.trips = 128 := by decide
theorem trips3 : k1_t3_loop.trips = 128 := by decide

/-- The tile that works is the first of the first SparseCore. -/
theorem cond_iff (L : grid1.Coords) : k1_cond1 L = 1#1 ↔ 2 * (L 1).val + (L 0).val = 0 := by
  have h0 : (L 0).val < 2 := (L 0).isLt
  have h1 : (L 1).val < 16 := (L 1).isLt
  have key : ∀ a : Fin 2, ∀ b : Fin 16,
      (Scalar.cmpi .ne (Scalar.extui (Scalar.cmpi .eq (Scalar.addi (Scalar.muli (BitVec.ofNat 32 b.val) 2#32) (BitVec.ofNat 32 a.val)) 0#32)) 0#32 = 1#1)
        ↔ 2 * b.val + a.val = 0 := by decide
  exact key ⟨_, h0⟩ ⟨_, h1⟩

theorem iota_lane (a : Fin 16) : (iota .scVector S16 32 [0] iota_S16_d0_w32_scVector) (ix1 a) = BitVec.ofNat 32 a.val := by
  show BitVec.ofNat 32 (0 * 16 + a.val) = _
  rw [Nat.zero_mul, Nat.zero_add]

theorem lane_word (k : ℕ) (a : Fin 16) :
    BitVec.ofNat 32 a.val + (0#32 + (0#32 + BitVec.ofNat 32 k * 1#32) * 16#32) = BitVec.ofNat 32 (16 * k + a.val) := by
  apply BitVec.eq_of_toNat_eq
  simp only [BitVec.toNat_add, BitVec.toNat_mul, BitVec.toNat_ofNat]
  have := a.isLt
  omega

theorem pay1_apply (k : Fin k1_t1_loop.trips) (a : Fin 16) : k1_pay1 k (ix1 a) = BitVec.ofNat 32 ((16 * k.val + a.val) % 2048) := by
  have hk : k.val < 512 := lt_of_lt_of_eq k.isLt trips1
  show ((iota .scVector S16 32 [0] iota_S16_d0_w32_scVector) (ix1 a) + (0#32 + (0#32 + BitVec.ofNat 32 k.val * 1#32) * 16#32)) &&& 2047#32 = _
  rw [iota_lane, lane_word]
  apply BitVec.eq_of_toNat_eq
  rw [BitVec.toNat_and]
  have : (2047#32).toNat = 2 ^ 11 - 1 := rfl
  rw [this, Nat.and_two_pow_sub_one_eq_mod, BitVec.toNat_ofNat, BitVec.toNat_ofNat]
  have := a.isLt
  omega

theorem pay2_apply (k : Fin k1_t2_loop.trips) (a : Fin 16) : k1_pay2 k (ix1 a) = BitVec.ofNat 32 (16 * k.val + a.val) := by
  show (iota .scVector S16 32 [0] iota_S16_d0_w32_scVector) (ix1 a) + (0#32 + (0#32 + BitVec.ofNat 32 k.val * 1#32) * 16#32) = _
  rw [iota_lane, lane_word]

theorem pay4_apply (k : Fin k1_t3_loop.trips) (a : Fin 16) : k1_pay4 k (ix1 a) = BitVec.ofNat 32 (16 * k.val + a.val) := by
  show (iota .scVector S16 32 [0] iota_S16_d0_w32_scVector) (ix1 a) + (0#32 + (0#32 + BitVec.ofNat 32 k.val * 1#32) * 16#32) = _
  rw [iota_lane, lane_word]

/-- Sixteen consecutive words of a list. -/
theorem lanes_apply (off : Fin 1 → ℕ) (inb : ∀ a, off a + S16.size a ≤ S2048.size a) (o : ℕ) (ho : off = ![o]) (s : S2048.Idx → BitVec 32) (a : Fin 16) :
    s ((Rect.unit (s := S2048) off S16.size inb).emb (ix1 a)) = tok s (o + a.val) := by
  subst ho
  show _ = s _
  congr 1
  have : o + 16 ≤ 2048 := inb 0
  have ha := a.isLt
  apply Rect.emb_eq_of_coords
  intro b
  match b with
  | ⟨0, _⟩ => show (o + a.val) % 2048 = o + 1 * a.val; omega

/-- Before trip `k` of the first loop: words below `16 k` of the map are set. -/
def invZ (k : ℕ) (_ : Unit) : sProp (MM F) :=
  iprop(∃ f : S8192.Idx → BitVec 32, ⌜∀ j : S8192.Idx, (j 0).val < 16 * k → f j = inv0 j⌝ ∗ ((mV).view.loc (thr d L) ↦{fullShare} f))

theorem zero_trip (h1 : k1_cond1 L = 1#1) (k : Fin k1_t1_loop.trips) (u : Unit) :
    invZ (F := F) d L k.val u ⊢ wp frame (wpE (defs₀ (F := F)) 𝒱₀ (thr d L) none) Set.univ
      (k1_t1_body L s0V (Memref.isWhole_whole _) s1V (Memref.isWhole_whole _) k0V (Memref.isWhole_whole _) k1V (Memref.isWhole_whole _)
            oV (Memref.isWhole_whole _) mV (Memref.isWhole_whole _) aV (Memref.isWhole_whole _) bV (Memref.isWhole_whole _) cc1_scratch3
            cc1_scoped0 cc1_scoped1 cc1_scoped2 cc1_scoped3 cc1_scoped4 h1 k u)
      (invZ d L (k.val + 1)) := by
  unfold invZ k1_t1_body
  iintro ⟨%f, %hf, Hm⟩
  iapply (wp_load 𝒱₀ (thr d L) none Set.univ (m := mV) (S := Finset.univ) (Finset.subset_univ _)) $$ Hm; iintro Hm
  simp only [Prog.bind]
  iapply (wp_store 𝒱₀ (thr d L) none Set.univ (m := mV) (r := Rect.unit (s := S8192) (k1_off1 k) S16.size (k1_off1_inb L k h1)) (f := f) (Mk := Finset.univ) (S := Finset.univ) (Finset.subset_univ _)) $$ Hm; iintro Hm
  simp only [Prog.bind]; sl_step
  iexists _; isplitr
  rotate_left
  · iexact Hm
  · ipureintro
    intro j hj
    by_cases hc : (j 0).val < 16 * k.val
    · refine Eq.trans ?_ (hf j hc)
      refine View.read_slice_write_of_not_mem (v := (mV).view) (Val := Elt F) _ _ _ _ ?_
      rw [Rect.map_emb_univ]
      exact Rect.not_mem_set_of_axis _ j 0 (16 * k.val) 16 (congrFun (k1_off1_eq k) 0) rfl rfl (.inl hc)
    · have hlt : (j 0).val - 16 * k.val < 16 := by omega
      have e : (Rect.unit (s := S8192) (k1_off1 k) S16.size (k1_off1_inb L k h1)).emb (ix1 (n := 16) ⟨(j 0).val - 16 * k.val, hlt⟩) = j := by
        apply Rect.emb_eq_of_coords
        intro a
        match a with
        | ⟨0, _⟩ => show (j 0).val = k1_off1 k 0 + 1 * ((j 0).val - 16 * k.val); rw [k1_off1_eq]; show (j 0).val = 16 * k.val + 1 * ((j 0).val - 16 * k.val); omega
      refine Eq.trans (congrArg _ e.symm) ?_
      refine Eq.trans (View.read_slice_write_emb (v := (mV).view) (Val := Elt F) _ _ _ (Finset.mem_univ _)) ?_
      rw [pay1_apply]
      show BitVec.ofNat 32 ((16 * k.val + ((j 0).val - 16 * k.val)) % 2048) = BitVec.ofNat 32 ((j 0).val % 2048)
      congr 2; omega

/-- Before trip `k` of a scatter loop: the map with the first `16 k` tokens through. -/
def invS (sl ke : S2048.Idx → BitVec 32) (f : S8192.Idx → BitVec 32) (k : ℕ) (_ : Unit) : sProp (MM F) :=
  iprop(((aV).view.loc (thr d L) ↦{fullShare} sl) ∗ ((bV).view.loc (thr d L) ↦{fullShare} ke) ∗ ((mV).view.loc (thr d L) ↦{fullShare} scat sl ke f (16 * k)))

theorem chk1_of (v : S16.Idx → BitVec 32) (h : ∀ x, (v x).toNat < 8192) : k1_chk1 L v := fun _ a x => by match a with | ⟨0, _⟩ => exact h x
theorem chk2_of (v : S16.Idx → BitVec 32) (h : ∀ x, (v x).toNat < 8192) : k1_chk2 L v := fun _ a x => by match a with | ⟨0, _⟩ => exact h x

theorem pts_whole (g : S8192.Idx → BitVec 32) :
    (((mV).access (.whole S8192)).loc (thr d L) ↦[((mV).access (.whole S8192)).set]{fullShare} g : sProp (MM F)) = ((mV).view.loc (thr d L) ↦{fullShare} g) := by
  rw [show ((mV).access (.whole S8192)).set = Finset.univ from Memref.set_access_whole (cc1_scratch0 : Ref sig .scVector)]

variable (sl ke : S2048.Idx → BitVec 32) (f : S8192.Idx → BitVec 32) (hs : ∀ y, (sl y).toNat < 8192)
include hs

theorem scat_t2 (h1 : k1_cond1 L = 1#1) (k : Fin k1_t2_loop.trips) (u : Unit) :
    invS (F := F) d L sl ke f k.val u ⊢ wp frame (wpE (defs₀ (F := F)) 𝒱₀ (thr d L) none) Set.univ
      (k1_t2_body L s0V (Memref.isWhole_whole _) s1V (Memref.isWhole_whole _) k0V (Memref.isWhole_whole _) k1V (Memref.isWhole_whole _)
            oV (Memref.isWhole_whole _) mV (Memref.isWhole_whole _) aV (Memref.isWhole_whole _) bV (Memref.isWhole_whole _) cc1_scratch3
            cc1_scoped0 cc1_scoped1 cc1_scoped2 cc1_scoped3 cc1_scoped4 h1 k u)
      (invS d L sl ke f (k.val + 1)) := by
  unfold invS k1_t2_body
  iintro ⟨Ha, Hb, Hm⟩
  iapply (wp_load 𝒱₀ (thr d L) none Set.univ (m := aV) (S := Finset.univ) (Finset.subset_univ _)) $$ Ha; iintro Ha
  simp only [Prog.bind]
  iapply (wp_assume 𝒱₀ (thr d L) none Set.univ (chk1_of L _ fun _ => hs _))
  simp only [Prog.bind]
  iapply (wp_load 𝒱₀ (thr d L) none Set.univ (m := bV) (S := Finset.univ) (Finset.subset_univ _)) $$ Hb; iintro Hb
  simp only [Prog.bind]
  ihave Hm := (Entails.of_eq (pts_whole (F := F) d L _).symm) $$ Hm
  iapply (SparseCore.wp_vectorStoreIdx 𝒱₀ (thr d L) none Set.univ (base := mV)) $$ Hm; iintro Hm
  ihave Hm := (Entails.of_eq (pts_whole (F := F) d L _)) $$ Hm
  simp only [Prog.bind]; sl_step
  isplitl [Ha]; · iexact Ha
  isplitl [Hb]; · iexact Hb
  iapply (Entails.of_eq (congrArg (fun g : S8192.Idx → BitVec 32 => ((mV).view.loc (thr d L) ↦{fullShare} g : sProp (MM F))) ?_)) $$ Hm
  refine Eq.trans (Memref.write_access_whole_univ (Elt F) cc1_scratch0 _ _) ?_
  refine Eq.trans (congrArg (fun g => storeIdx (F := F) (e := .i32) (s := S8192) g _ _ _ false _) (Memref.read_access_whole (Elt F) cc1_scratch0 _)) ?_
  exact storeIdx_scat (F := F) sl ke f k.val _ (fun a => lanes_apply _ _ _ (k1_off2_eq k) sl a) _ (pay2_apply k) _
    (fun a => congrArg (fun w => IntOp.cmpi .sgt w 0#32) (lanes_apply _ _ _ (k1_off2_eq k) ke a)) _

theorem scat_t3 (h1 : k1_cond1 L = 1#1) (k : Fin k1_t3_loop.trips) (u : Unit) :
    invS (F := F) d L sl ke f k.val u ⊢ wp frame (wpE (defs₀ (F := F)) 𝒱₀ (thr d L) none) Set.univ
      (k1_t3_body L s0V (Memref.isWhole_whole _) s1V (Memref.isWhole_whole _) k0V (Memref.isWhole_whole _) k1V (Memref.isWhole_whole _)
            oV (Memref.isWhole_whole _) mV (Memref.isWhole_whole _) aV (Memref.isWhole_whole _) bV (Memref.isWhole_whole _) cc1_scratch3
            cc1_scoped0 cc1_scoped1 cc1_scoped2 cc1_scoped3 cc1_scoped4 h1 k u)
      (invS d L sl ke f (k.val + 1)) := by
  unfold invS k1_t3_body
  iintro ⟨Ha, Hb, Hm⟩
  iapply (wp_load 𝒱₀ (thr d L) none Set.univ (m := aV) (S := Finset.univ) (Finset.subset_univ _)) $$ Ha; iintro Ha
  simp only [Prog.bind]
  iapply (wp_assume 𝒱₀ (thr d L) none Set.univ (chk2_of L _ fun _ => hs _))
  simp only [Prog.bind]
  iapply (wp_load 𝒱₀ (thr d L) none Set.univ (m := bV) (S := Finset.univ) (Finset.subset_univ _)) $$ Hb; iintro Hb
  simp only [Prog.bind]
  ihave Hm := (Entails.of_eq (pts_whole (F := F) d L _).symm) $$ Hm
  iapply (SparseCore.wp_vectorStoreIdx 𝒱₀ (thr d L) none Set.univ (base := mV)) $$ Hm; iintro Hm
  ihave Hm := (Entails.of_eq (pts_whole (F := F) d L _)) $$ Hm
  simp only [Prog.bind]; sl_step
  isplitl [Ha]; · iexact Ha
  isplitl [Hb]; · iexact Hb
  iapply (Entails.of_eq (congrArg (fun g : S8192.Idx → BitVec 32 => ((mV).view.loc (thr d L) ↦{fullShare} g : sProp (MM F))) ?_)) $$ Hm
  refine Eq.trans (Memref.write_access_whole_univ (Elt F) cc1_scratch0 _ _) ?_
  refine Eq.trans (congrArg (fun g => storeIdx (F := F) (e := .i32) (s := S8192) g _ _ _ false _) (Memref.read_access_whole (Elt F) cc1_scratch0 _)) ?_
  exact storeIdx_scat (F := F) sl ke f k.val _ (fun a => lanes_apply _ _ _ (k1_off3_eq k) sl a) _ (pay4_apply k) _
    (fun a => congrArg (fun w => IntOp.cmpi .sgt w 0#32) (lanes_apply _ _ _ (k1_off3_eq k) ke a)) _

omit hs

theorem sems_eq : (scopedSems0 (thr d L) : sProp (MM F)) = iprop((semVal (cell d L cc1_scoped0) 0 ∗ semVal (cell d L cc1_scoped1) 0 ∗ semVal (cell d L cc1_scoped2) 0 ∗ semVal (cell d L cc1_scoped3) 0 ∗ semVal (cell d L cc1_scoped4) 0)
      ∗ restSems d ((L 0).castLE hcore1) ((L 1).castLE hsub1) {.dma cc1_scoped0.sem, .dma cc1_scoped1.sem, .dma cc1_scoped2.sem, .dma cc1_scoped3.sem, .dma cc1_scoped4.sem}) :=
  (scopedSems_take d _ _ {.dma cc1_scoped0.sem, .dma cc1_scoped1.sem, .dma cc1_scoped2.sem, .dma cc1_scoped3.sem, .dma cc1_scoped4.sem} (by decide)).trans (by
    rw [SparseCore.bigSep_insert' (by decide), SparseCore.bigSep_insert' (by decide), SparseCore.bigSep_insert' (by decide),
      SparseCore.bigSep_insert' (by decide), BI.bigSep_singleton])

theorem bufs_eq : (scopedBufs (thr d L) : sProp (MM F)) = iprop(((∃ f, (mV).view.loc (thr d L) ↦{fullShare} f) ∗ (∃ f, (aV).view.loc (thr d L) ↦{fullShare} f)
      ∗ (∃ f, (bV).view.loc (thr d L) ↦{fullShare} f))
      ∗ restBufs d ((L 0).castLE hcore1) ((L 1).castLE hsub1) {cc1_scratch0, cc1_scratch1, cc1_scratch2}) :=
  (scopedBufs_take d _ _ {cc1_scratch0, cc1_scratch1, cc1_scratch2} (fun b hb => by
    rcases Finset.mem_insert.mp hb with rfl | hb
    · rfl
    rcases Finset.mem_insert.mp hb with rfl | hb
    · rfl
    · rw [Finset.mem_singleton.mp hb]; rfl)).trans (by
    rw [SparseCore.bigSep_insert' (by decide), SparseCore.bigSep_insert' (by decide), BI.bigSep_singleton])

variable (s0 s1 k0 k1 : S2048.Idx → BitVec 32)

/-- What the working tile is handed: the four lists and the map's buffer. -/
abbrev given : sProp (MM F) :=
  iprop((ℓs0 d ↦{fullShare} s0) ∗ (ℓs1 d ↦{fullShare} s1) ∗ (ℓk0 d ↦{fullShare} k0) ∗ (ℓk1 d ↦{fullShare} k1) ∗ ∃ f, ℓinv d ↦{fullShare} f)
/-- What it hands back: the lists, and the buffer at the map. -/
abbrev taken : sProp (MM F) :=
  iprop((ℓs0 d ↦{fullShare} s0) ∗ (ℓs1 d ↦{fullShare} s1) ∗ (ℓk0 d ↦{fullShare} k0) ∗ (ℓk1 d ↦{fullShare} k1) ∗ ℓinv d ↦{fullShare} invOf s0 s1 k0 k1)

variable (O : CellTallies nD τ sig (HIx 3)) (W : Waits sig (HIx 3))

/-- A tile that does not work returns with what it came with. -/
theorem body_idle (h1 : k1_cond1 L ≠ 1#1) (R : sProp (MM F)) :
    iprop(R ∗ owes (thr d L) O W)
      ⊢ wp frame (wpE (defs₀ (F := F)) 𝒱₀ (thr d L) none) Set.univ
          (cc1_k L s0V (Memref.isWhole_whole _) s1V (Memref.isWhole_whole _) k0V (Memref.isWhole_whole _) k1V (Memref.isWhole_whole _)
            oV (Memref.isWhole_whole _) mV (Memref.isWhole_whole _) aV (Memref.isWhole_whole _) bV (Memref.isWhole_whole _) cc1_scratch3
            cc1_scoped0 cc1_scoped1 cc1_scoped2 cc1_scoped3 cc1_scoped4)
          fun _ => iprop(R ∗ OwesFrom (thr d L) O W) := by
  rw [cc1_k_eq_skeleton]
  unfold cc1_k_skel
  rw [dif_neg h1]
  iintro ⟨HR, HO⟩
  ihave HO := (owesFrom_refl (thr d L) O W) $$ HO
  simp only [Prog.bind]; sl_step
  isplitl [HR]; · iexact HR
  iexact HO

set_option maxHeartbeats 800000 in
theorem body (h1 : k1_cond1 L = 1#1) (hO : ∀ g, O g none = 0) (hs0 : ∀ y, (s0 y).toNat < 8192) (hs1 : ∀ y, (s1 y).toNat < 8192) :
    iprop(levAts (K (F := F)).L (K (F := F)).lev ∗ given d s0 s1 k0 k1 ∗ scopedBufs (thr d L) ∗ scopedSems0 (thr d L) ∗ owes (thr d L) O W)
      ⊢ wp frame (wpE (defs₀ (F := F)) 𝒱₀ (thr d L) none) Set.univ
          (cc1_k L s0V (Memref.isWhole_whole _) s1V (Memref.isWhole_whole _) k0V (Memref.isWhole_whole _) k1V (Memref.isWhole_whole _)
            oV (Memref.isWhole_whole _) mV (Memref.isWhole_whole _) aV (Memref.isWhole_whole _) bV (Memref.isWhole_whole _) cc1_scratch3
            cc1_scoped0 cc1_scoped1 cc1_scoped2 cc1_scoped3 cc1_scoped4)
          fun _ => iprop(taken d s0 s1 k0 k1 ∗ scopedBufs (thr d L) ∗ scopedSems0 (thr d L) ∗ OwesFrom (thr d L) O W) := by
  rw [cc1_k_eq_skeleton, sems_eq, bufs_eq]
  unfold cc1_k_skel
  rw [dif_pos h1]
  iintro ⟨#Hlv, ⟨Hs0, Hs1, Hk0, Hk1, %fi, Hi⟩, ⟨⟨⟨%fm, Hm⟩, ⟨%fa, Ha⟩, %fb, Hb⟩, Hbufs⟩, ⟨⟨H0, H1, H2, H3, H4⟩, Hsems⟩, HO⟩
  ihave Hmw := (show levAts (K (F := F)).L (K (F := F)).lev ⊢ Transfers.MayWaits (thr d L) (none : HIx 3) O from
    (K (F := F)).mayWaits_none (thr := thr d L) hO) $$ Hlv
  icases Hmw with #Hmw
  have hwa : ∀ (f w : S2048.Idx → BitVec 32), (aV).view.write (Elt F) f w Finset.univ = w := fun f w => View.write_whole_univ (Val := Elt F) cc1_scratch1 f w
  have hwb : ∀ (f w : S2048.Idx → BitVec 32), (bV).view.write (Elt F) f w Finset.univ = w := fun f w => View.write_whole_univ (Val := Elt F) cc1_scratch2 f w
  have hwo : ∀ (f w : S8192.Idx → BitVec 32), (oV).view.write (Elt F) f w Finset.univ = w := fun f w => View.write_whole_univ (Val := Elt F) main_v6_scv f w
  iapply (Scf.wp_for_bind frame (wpE (defs₀ (F := F)) 𝒱₀ (thr d L) none) Set.univ _ _ _ (k1_t1_ok L h1) _ _
    (invZ d L) (zero_trip d L h1)) $$ [Hm]
  · unfold invZ
    iexists fm; isplitr
    · ipureintro; intro j hj; exact absurd hj (by omega)
    · iexact Hm
  iintro %u1 HI
  unfold invZ
  icases HI with ⟨%fz, %hz, Hm⟩
  have hz' : fz = inv0 := funext fun j => hz j (by rw [show Scf.trips _ _ _ = 512 from trips1]; exact (j 0).isLt)
  subst hz'
  ihave HO := (owesFrom_refl (thr d L) O W) $$ HO
  iapply (wp_copy (thr d L) (q := fullShare) (Ss := Finset.univ) (Sd := Finset.univ) (Finset.subset_univ _) (Finset.subset_univ _) (View.dmaCredit_pos _ (by decide)) rfl) $$ [Hs0 Ha H0 HO]
  · isplitl [Hs0]; · iexact Hs0
    isplitl [Ha]; · iexact Ha
    isplitl [H0]; · iexact H0
    isplitr; · iexact Hmw
    iexact HO
  iintro ⟨Hs0, Ha, H0, HO⟩
  iapply (wp_copy (thr d L) (q := fullShare) (Ss := Finset.univ) (Sd := Finset.univ) (Finset.subset_univ _) (Finset.subset_univ _) (View.dmaCredit_pos _ (by decide)) rfl) $$ [Hk0 Hb H1 HO]
  · isplitl [Hk0]; · iexact Hk0
    isplitl [Hb]; · iexact Hb
    isplitl [H1]; · iexact H1
    isplitr; · iexact Hmw
    iexact HO
  iintro ⟨Hk0, Hb, H1, HO⟩
  iapply (Scf.wp_for_bind frame (wpE (defs₀ (F := F)) 𝒱₀ (thr d L) none) Set.univ _ _ _ (k1_t2_ok L h1) _ _
    (invS d L s0 k0 inv0) (scat_t2 d L s0 k0 inv0 hs0 h1)) $$ [Ha Hb Hm]
  · unfold invS
    isplitl [Ha]; · iapply (Entails.of_eq (congrArg (fun g : S2048.Idx → BitVec 32 => ((aV).view.loc (thr d L) ↦{fullShare} g : sProp (MM F))) (hwa _ _))) $$ Ha
    isplitl [Hb]; · iapply (Entails.of_eq (congrArg (fun g : S2048.Idx → BitVec 32 => ((bV).view.loc (thr d L) ↦{fullShare} g : sProp (MM F))) (hwb _ _))) $$ Hb
    iexact Hm
  iintro %u2 HI
  unfold invS
  icases HI with ⟨Ha, Hb, Hm⟩
  iapply (wp_copy (thr d L) (q := fullShare) (Ss := Finset.univ) (Sd := Finset.univ) (Finset.subset_univ _) (Finset.subset_univ _) (View.dmaCredit_pos _ (by decide)) rfl) $$ [Hs1 Ha H2 HO]
  · isplitl [Hs1]; · iexact Hs1
    isplitl [Ha]; · iexact Ha
    isplitl [H2]; · iexact H2
    isplitr; · iexact Hmw
    iexact HO
  iintro ⟨Hs1, Ha, H2, HO⟩
  iapply (wp_copy (thr d L) (q := fullShare) (Ss := Finset.univ) (Sd := Finset.univ) (Finset.subset_univ _) (Finset.subset_univ _) (View.dmaCredit_pos _ (by decide)) rfl) $$ [Hk1 Hb H3 HO]
  · isplitl [Hk1]; · iexact Hk1
    isplitl [Hb]; · iexact Hb
    isplitl [H3]; · iexact H3
    isplitr; · iexact Hmw
    iexact HO
  iintro ⟨Hk1, Hb, H3, HO⟩
  iapply (Scf.wp_for_bind frame (wpE (defs₀ (F := F)) 𝒱₀ (thr d L) none) Set.univ _ _ _ (k1_t3_ok L h1) _ _
    (invS d L s1 k1 (scat s0 k0 inv0 2048)) (scat_t3 d L s1 k1 (scat s0 k0 inv0 2048) hs1 h1)) $$ [Ha Hb Hm]
  · unfold invS
    isplitl [Ha]; · iapply (Entails.of_eq (congrArg (fun g : S2048.Idx → BitVec 32 => ((aV).view.loc (thr d L) ↦{fullShare} g : sProp (MM F))) (hwa _ _))) $$ Ha
    isplitl [Hb]; · iapply (Entails.of_eq (congrArg (fun g : S2048.Idx → BitVec 32 => ((bV).view.loc (thr d L) ↦{fullShare} g : sProp (MM F))) (hwb _ _))) $$ Hb
    iexact Hm
  iintro %u3 HI
  unfold invS
  icases HI with ⟨Ha, Hb, Hm⟩
  iapply (wp_copy (thr d L) (q := fullShare) (Ss := Finset.univ) (Sd := Finset.univ) (Finset.subset_univ _) (Finset.subset_univ _) (View.dmaCredit_pos _ (by decide)) rfl) $$ [Hm Hi H4 HO]
  · isplitl [Hm]; · iexact Hm
    isplitl [Hi]; · iexact Hi
    isplitl [H4]; · iexact H4
    isplitr; · iexact Hmw
    iexact HO
  iintro ⟨Hm, Hi, H4, HO⟩
  simp only [Prog.bind]; sl_step
  isplitl [Hs0 Hs1 Hk0 Hk1 Hi]
  · isplitl [Hs0]; · iexact Hs0
    isplitl [Hs1]; · iexact Hs1
    isplitl [Hk0]; · iexact Hk0
    isplitl [Hk1]; · iexact Hk1
    iapply (Entails.of_eq (congrArg (fun g : S8192.Idx → BitVec 32 => (ℓinv d ↦{fullShare} g : sProp (MM F))) (hwo _ _))) $$ Hi
  isplitl [Hm Ha Hb Hbufs]
  · isplitl [Hm Ha Hb]
    · isplitl [Hm]
      · iexists _; iexact Hm
      isplitl [Ha]
      · iexists _; iexact Ha
      · iexists _; iexact Hb
    iexact Hbufs
  isplitl [H0 H1 H2 H3 H4 Hsems]
  · isplitl [H0 H1 H2 H3 H4]
    · isplitl [H0]; · iexact H0
      isplitl [H1]; · iexact H1
      isplitl [H2]; · iexact H2
      isplitl [H3] <;> iassumption
    iexact Hsems
  iexact HO

end Inv

end Cert.Proof

end
-- ==== Proof.TileDispatch.lean ====
/-
  The dispatch call's task on one tile: four times, sixty-four entries of the list fetched, the rows
  they name gathered 128 columns at a time, the block written out. What is left in the tile's rows is
  the gather of the rows the list names.
-/
module

public import proofs.«01_k».proof.Proof.Rows

@[expose] public section

noncomputable section

namespace Cert.Proof

open Cert.KernelIdeal Cert.KernelIdeal.Gen
open Idealize.ShloMosaic
open Idealize.ShloMosaic.SparseCore (S V)
open Idealize.ShloMosaic.SparseCore.Cfg (HIx ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

namespace Dispatch

abbrev xV : Memref sig .scVector .hbm S2048x1024 .f32 := Memref.whole main_v0_scv
abbrev iV : Memref sig .scVector .hbm S8192 .i32 := Memref.whole main_v6_scv
abbrev oV : Memref sig .scVector .hbm S8192x1024 .f32 := Memref.whole main_v7_scv
abbrev lV : Memref sig .scVector .vmem S64 .i32 := Memref.whole cc2_scratch0
abbrev rV : Memref sig .scVector .vmem S64x1024 .f32 := Memref.whole cc2_scratch1

variable (d : Dev nD) (L : grid2.Coords)

abbrev thr : Thread nD τ := V d ((L 0).castLE hcore2) ((L 1).castLE hsub2)
/-- The tile's number among the thirty-two. -/
abbrev wid : ℕ := 2 * (L 1).val + (L 0).val

theorem trips1 : k2_t1_loop.trips = 4 := by decide
theorem trips2 : k2_t2_loop.trips = 8 := by decide

abbrev cellG : GSem nD τ sig := (thr d L, .dma cc2_scratch2.sem)
abbrev cellA : GSem nD τ sig := (thr d L, .dma cc2_scoped0.sem)
abbrev cellB : GSem nD τ sig := (thr d L, .dma cc2_scoped1.sem)

variable (q qi : PosShare TreeShare) (x : Buf (Elt F) (ℓx d)) (iv : Buf (Elt F) (ℓinv d))

/-- The list's entries the trip fetches. -/
abbrev listAt (k : Fin k2_t1_loop.trips) : S64.Idx → Elt F .i32 :=
  ((iV).view.slice (Rect.unit (s := S8192) (k2_off1 L k) S64.size (k2_off1_inb L k))).read (Elt F) iv

/-- What the tile's rows end at. -/
abbrev out : Buf (Elt F) (ℓbuf d) := rowsBy (n := 2048) (c := 1024) (r := 8192) x iv

variable (O : CellTallies nD τ sig (HIx 3)) (W : Waits sig (HIx 3))

/-- Before gather `k` of a trip: columns below `128 k` of the row buffer hold the gathered rows. -/
def invG (fo : Buf (Elt F) ((lV).view.loc (thr d L))) (k : ℕ) (_ : Unit) : sProp (MM F) :=
  iprop(Transfers.MayWaits (thr d L) (none : HIx 3) O ∗ ((xV).view.loc (thr d L) ↦{q} x)
    ∗ ((lV).view.loc (thr d L) ↦[(lV).view.set]{fullShare} fo)
    ∗ (∃ f, ⌜∀ j : S64x1024.Idx, (j 1).val < 128 * k → (rV).view.read (Elt F) f j = rowsBy (n := 2048) x ((lV).view.read (Elt F) fo) j⌝
        ∗ ((rV).view.loc (thr d L) ↦{fullShare} f))
    ∗ semVal (cellG d L) 0 ∗ OwesFrom (thr d L) O W)

theorem gather_trip (fo : Buf (Elt F) ((lV).view.loc (thr d L))) (hin : ∀ y, ((lV).view.read (Elt F) fo y).toNat < 2048)
    (k : Fin k2_t2_loop.trips) (u : Unit) :
    invG d L q x O W fo k.val u
      ⊢ wp frame (wpE (defs₀ (F := F)) 𝒱₀ (thr d L) none) Set.univ
          (k2_t2_body L xV (Memref.isWhole_whole _) iV (Memref.isWhole_whole _) oV (Memref.isWhole_whole _) lV (Memref.isWhole_whole _)
            rV (Memref.isWhole_whole _) cc2_scratch2 cc2_scoped0 cc2_scoped1 k u) (invG d L q x O W fo (k.val + 1)) := by
  unfold invG k2_t2_body
  iintro ⟨#Hmw, Hx, Hl, ⟨%f, %hf, Hr⟩, Hg, HO⟩
  iapply (wp_gather (thr d L) (q := q) (qo := fullShare) (Ss := Finset.univ) (Sd := Finset.univ) (Finset.subset_univ _) (Finset.subset_univ _) (by decide)
    (SparseCore.sum_rowCredit_eq_dmaCredit _ _ (fun _ => rfl)) rfl hin) $$ [Hx Hr Hl Hg HO]
  · isplitl [Hx]; · iexact Hx
    isplitl [Hr]; · iexact Hr
    isplitl [Hl]; · iexact Hl
    isplitl [Hg]; · iexact Hg
    isplitr; · iexact Hmw
    iexact HO
  iintro ⟨Hx, Hr, Hl, Hg, HO⟩
  simp only [Prog.bind]; sl_step
  isplitr; · iexact Hmw
  isplitl [Hx]; · iexact Hx
  isplitl [Hl]; · iexact Hl
  isplitl [Hr]
  · iexists _; isplitr
    rotate_left
    · iexact Hr
    · ipureintro
      have := cols_step (F := F) (n := 2048) (rV).view (xV).view (k2_off2_inb k) (k2_off3_inb k) (128 * k.val) (k2_off2_eq k) (k2_off3_eq k) f x
        ((lV).view.read (Elt F) fo) gathers_S2048x128_S64x128 rfl hin hf
      intro j hj
      exact this j (by omega)
  isplitl [Hg]; · iexact Hg
  iexact HO

/-- Before trip `k`: of the tile's rows the first `64 k` hold the gathered rows. -/
def invT (k : ℕ) (_ : Unit) : sProp (MM F) :=
  iprop(Transfers.MayWaits (thr d L) (none : HIx 3) O ∗ ((xV).view.loc (thr d L) ↦{q} x) ∗ ((iV).view.loc (thr d L) ↦{qi} iv)
    ∗ (∃ f, ⌜∀ j : S8192x1024.Idx, 256 * wid L ≤ (j 0).val → (j 0).val < 256 * wid L + 64 * k → (oV).view.read (Elt F) f j = out d x iv j⌝
        ∗ ((oV).view.loc (thr d L) ↦[rowsOf256 (wid L)]{fullShare} f))
    ∗ (∃ fo, (lV).view.loc (thr d L) ↦{fullShare} fo) ∗ (∃ fr, (rV).view.loc (thr d L) ↦{fullShare} fr)
    ∗ semVal (cellG d L) 0 ∗ semVal (cellA d L) 0 ∗ semVal (cellB d L) 0 ∗ OwesFrom (thr d L) O W)

omit [FloatOps F] in
theorem set_block (k : Fin k2_t1_loop.trips) :
    ((oV).slice (Rect.unit (s := S8192x1024) (k2_off4 L k) S64x1024.size (k2_off4_inb L k)) (fun _ => rfl)).view.set ⊆ rowsOf256 (wid L) := by
  show ((oV).view.slice (Rect.unit (s := S8192x1024) (k2_off4 L k) S64x1024.size (k2_off4_inb L k))).set ⊆ _
  intro j hj
  rw [View.set_slice] at hj
  obtain ⟨j', hj', rfl⟩ := Finset.mem_map.mp hj
  have h0 := Rect.mem_set_unit.mp hj' 0
  have hk : k.val < 4 := lt_of_lt_of_eq k.isLt trips1
  rw [k2_off4_eq] at h0
  have h1 : 512 * (L 1).val + 256 * (L 0).val + 64 * k.val ≤ (j' 0).val := h0.1
  have h2 : (j' 0).val < 512 * (L 1).val + 256 * (L 0).val + 64 * k.val + 64 := h0.2
  refine Finset.mem_filter.mpr ⟨Finset.mem_univ _, ?_⟩
  show (j' 0).val / 256 = 2 * (L 1).val + (L 0).val
  omega

/-- Entry `a` of the trip's list, read where the trip fetches it. -/
theorem listAt_apply (k : Fin k2_t1_loop.trips) (a : Fin 64) (h : 512 * (L 1).val + 256 * (L 0).val + 64 * k.val + a.val < 8192) :
    listAt d L iv k (ValueIdx.ix1 a) = iv (ValueIdx.ix1 ⟨512 * (L 1).val + 256 * (L 0).val + 64 * k.val + a.val, h⟩) := by
  show iv ((Rect.unit (s := S8192) (k2_off1 L k) S64.size (k2_off1_inb L k)).emb (ValueIdx.ix1 a)) = _
  congr 1
  apply Rect.emb_eq_of_coords
  intro b
  match b with
  | ⟨0, _⟩ =>
    show 512 * (L 1).val + 256 * (L 0).val + 64 * k.val + a.val = k2_off1 L k 0 + 1 * a.val
    rw [k2_off1_eq]; show _ = 512 * (L 1).val + 256 * (L 0).val + 64 * k.val + 1 * a.val; omega

theorem trip (hiv : ∀ y, (iv y).toNat < 2048) (k : Fin k2_t1_loop.trips) (u : Unit) :
    invT d L q qi x iv O W k.val u
      ⊢ wp frame (wpE (defs₀ (F := F)) 𝒱₀ (thr d L) none) Set.univ
          (k2_t1_body L xV (Memref.isWhole_whole _) iV (Memref.isWhole_whole _) oV (Memref.isWhole_whole _) lV (Memref.isWhole_whole _)
            rV (Memref.isWhole_whole _) cc2_scratch2 cc2_scoped0 cc2_scoped1 k u) (invT d L q qi x iv O W (k.val + 1)) := by
  unfold invT k2_t1_body
  iintro ⟨#Hmw, Hx, Hi, ⟨%f, %hf, Ho⟩, ⟨%fo, Hl⟩, ⟨%fr, Hr⟩, Hg, HA, HB, HO⟩
  iapply (wp_copy (thr d L) (q := qi) (Ss := Finset.univ) (Sd := Finset.univ) (Finset.subset_univ _) (Finset.subset_univ _) (View.dmaCredit_pos _ (by decide)) rfl) $$ [Hi Hl HA HO]
  · isplitl [Hi]; · iexact Hi
    isplitl [Hl]; · iexact Hl
    isplitl [HA]; · iexact HA
    isplitr; · iexact Hmw
    iexact HO
  iintro ⟨Hi, Hl, HA, HO⟩
  have hlist : (lV).view.read (Elt F) ((lV).view.write (Elt F) fo (listAt d L iv k) Finset.univ) = listAt d L iv k := View.read_write_univ _ _
  have hin : ∀ y, ((lV).view.read (Elt F) ((lV).view.write (Elt F) fo (listAt d L iv k) Finset.univ) y).toNat < 2048 := by
    rw [hlist]; intro y; exact hiv _
  iapply (Scf.wp_for_bind frame (wpE (defs₀ (F := F)) 𝒱₀ (thr d L) none) Set.univ _ _ _ k2_t2_ok _ _
    (invG d L q x O W ((lV).view.write (Elt F) fo (listAt d L iv k) Finset.univ))
    (gather_trip d L q x O W _ hin)) $$ [Hx Hl Hr Hg HO]
  · unfold invG
    isplitr; · iexact Hmw
    isplitl [Hx]; · iexact Hx
    isplitl [Hl]
    · rw [show (lV).view.set = Finset.univ from View.set_whole _]; iexact Hl
    isplitl [Hr]
    · iexists fr; isplitr
      · ipureintro; intro j hj; exact absurd hj (by omega)
      · iexact Hr
    isplitl [Hg]; · iexact Hg
    iexact HO
  iintro %u' HI
  unfold invG
  icases HI with ⟨-, Hx, Hl, ⟨%fr', %hr', Hr⟩, Hg, HO⟩
  rw [show (lV).view.set = Finset.univ from View.set_whole _]
  iapply (wp_copy (thr d L) (q := fullShare) (Ss := Finset.univ) (Finset.subset_univ _) (set_block L k) (View.dmaCredit_pos _ (show 0 < S64x1024.numel by decide)) rfl) $$ [Hr Ho HB HO]
  · isplitl [Hr]; · iexact Hr
    isplitl [Ho]; · iexact Ho
    isplitl [HB]; · iexact HB
    isplitr; · iexact Hmw
    iexact HO
  iintro ⟨Hr, Ho, HB, HO⟩
  simp only [Prog.bind]; sl_step
  isplitr; · iexact Hmw
  isplitl [Hx]; · iexact Hx
  isplitl [Hi]; · iexact Hi
  isplitl [Ho]
  · iexists _; isplitr
    rotate_left
    · iexact Ho
    · ipureintro
      have hk : k.val < 4 := lt_of_lt_of_eq k.isLt trips1
      have hL0 : (L 0).val < 2 := (L 0).isLt
      have hL1 : (L 1).val < 16 := (L 1).isLt
      have := rows_step (F := F) (n := 8192) (oV).view (k2_off4_inb L k) (512 * (L 1).val + 256 * (L 0).val + 64 * k.val) (k2_off4_eq L k) f
        ((rV).view.read (Elt F) fr') (out d x iv) (256 * wid L) (fun j h1 h2 => hf j h1 (by simp only [wid]; omega)) (by
          intro a b hlt
          rw [hr' _ (by show b.val < 128 * _; rw [show Scf.trips _ _ _ = 8 from trips2]; have := b.isLt; omega), hlist]
          show x (ValueIdx.ix2 (Fin.ofNat 2048 (listAt d L iv k (ValueIdx.ix1 a)).toNat) b) = x (ValueIdx.ix2 (Fin.ofNat 2048 (iv (ValueIdx.ix1 _)).toNat) b)
          rw [listAt_apply d L iv k a hlt])
      intro j h1 h2
      exact this j h1 (by simp only [wid] at h2; omega)
  isplitl [Hl]; · iexists _; iexact Hl
  isplitl [Hr]; · iexists _; iexact Hr
  isplitl [Hg]; · iexact Hg
  isplitl [HA]; · iexact HA
  isplitl [HB]; · iexact HB
  iexact HO

theorem sems_eq : (scopedSems0 (thr d L) : sProp (MM F)) = iprop((semVal (cellG d L) 0 ∗ semVal (cellA d L) 0 ∗ semVal (cellB d L) 0)
      ∗ restSems d ((L 0).castLE hcore2) ((L 1).castLE hsub2) {.dma cc2_scratch2.sem, .dma cc2_scoped0.sem, .dma cc2_scoped1.sem}) :=
  (scopedSems_take d _ _ {.dma cc2_scratch2.sem, .dma cc2_scoped0.sem, .dma cc2_scoped1.sem} (by decide)).trans (by
    rw [SparseCore.bigSep_insert' (by decide), SparseCore.bigSep_insert' (by decide), BI.bigSep_singleton])

theorem bufs_eq : (scopedBufs (thr d L) : sProp (MM F)) = iprop(((∃ f, (lV).view.loc (thr d L) ↦{fullShare} f) ∗ (∃ f, (rV).view.loc (thr d L) ↦{fullShare} f))
      ∗ restBufs d ((L 0).castLE hcore2) ((L 1).castLE hsub2) {cc2_scratch0, cc2_scratch1}) :=
  (scopedBufs_take d _ _ {cc2_scratch0, cc2_scratch1} (fun b hb => by
    rcases Finset.mem_insert.mp hb with rfl | hb
    · rfl
    · rw [Finset.mem_singleton.mp hb]; rfl)).trans (by
    rw [SparseCore.bigSep_insert' (by decide), BI.bigSep_singleton])

/-- What a tile is handed: a share of the rows, a share of the list, its own rows of the result. -/
abbrev given : sProp (MM F) :=
  iprop((ℓx d ↦{q} x) ∗ (ℓinv d ↦{qi} iv) ∗ ∃ f, ℓbuf d ↦[rowsOf256 (wid L)]{fullShare} f)
/-- What it hands back: the shares, and its rows holding the gathered rows. -/
abbrev taken : sProp (MM F) :=
  iprop((ℓx d ↦{q} x) ∗ (ℓinv d ↦{qi} iv) ∗ ℓbuf d ↦[rowsOf256 (wid L)]{fullShare} out d x iv)

theorem body (hO : ∀ g, O g none = 0) (hiv : ∀ y, (iv y).toNat < 2048) :
    iprop(levAts (K (F := F)).L (K (F := F)).lev ∗ given d L q qi x iv ∗ scopedBufs (thr d L) ∗ scopedSems0 (thr d L) ∗ owes (thr d L) O W)
      ⊢ wp frame (wpE (defs₀ (F := F)) 𝒱₀ (thr d L) none) Set.univ
          (cc2_k L xV (Memref.isWhole_whole _) iV (Memref.isWhole_whole _) oV (Memref.isWhole_whole _) lV (Memref.isWhole_whole _)
            rV (Memref.isWhole_whole _) cc2_scratch2 cc2_scoped0 cc2_scoped1)
          fun _ => iprop(taken d L q qi x iv ∗ scopedBufs (thr d L) ∗ scopedSems0 (thr d L) ∗ OwesFrom (thr d L) O W) := by
  rw [cc2_k_eq_skeleton, sems_eq, bufs_eq]
  unfold cc2_k_skel
  iintro ⟨#Hlv, ⟨Hx, Hi, %f, Ho⟩, ⟨⟨Hl, Hr⟩, Hbufs⟩, ⟨⟨Hg, HA, HB⟩, Hsems⟩, HO⟩
  ihave Hmw := (show levAts (K (F := F)).L (K (F := F)).lev ⊢ Transfers.MayWaits (thr d L) (none : HIx 3) O from
    (K (F := F)).mayWaits_none (thr := thr d L) hO) $$ Hlv
  iapply (Scf.wp_for_bind frame (wpE (defs₀ (F := F)) 𝒱₀ (thr d L) none) Set.univ _ _ _ k2_t1_ok _ _
    (invT d L q qi x iv O W) (trip d L q qi x iv O W hiv)) $$ [Hx Hi Ho Hl Hr Hg HA HB HO Hmw]
  · unfold invT
    isplitl [Hmw]; · iexact Hmw
    isplitl [Hx]; · iexact Hx
    isplitl [Hi]; · iexact Hi
    isplitl [Ho]
    · iexists f; isplitr
      · ipureintro; intro j h1 h2; exact absurd h2 (by omega)
      · iexact Ho
    isplitl [Hl]; · iexact Hl
    isplitl [Hr]; · iexact Hr
    isplitl [Hg]; · iexact Hg
    isplitl [HA]; · iexact HA
    isplitl [HB]; · iexact HB
    iapply (owesFrom_refl (thr d L) O W) $$ HO
  iintro %u HI
  unfold invT
  icases HI with ⟨-, Hx, Hi, ⟨%f', %hf', Ho⟩, Hl, Hr, Hg, HA, HB, HO⟩
  sl_step
  isplitl [Hx Hi Ho]
  · isplitl [Hx]; · iexact Hx
    isplitl [Hi]; · iexact Hi
    iapply (Entails.of_eq (pointsTo_congr (ℓ := ℓbuf d) (I := rowsOf256 (wid L)) (q := fullShare) (f := f') (g := out d x iv) (fun j hj => by
      have hj' : (j 0).val / 256 = wid L := (Finset.mem_filter.mp hj).2
      exact hf' j (by omega) (by rw [show Scf.trips _ _ _ = 4 from trips1]; omega)))) $$ Ho
  isplitl [Hl Hr Hbufs]
  · isplitl [Hl Hr]
    · isplitl [Hl] <;> iassumption
    iexact Hbufs
  isplitl [Hg HA HB Hsems]
  · isplitl [Hg HA HB]
    · isplitl [Hg]; · iexact Hg
      isplitl [HA] <;> iassumption
    iexact Hsems
  iexact HO

end Dispatch

end Cert.Proof

end
-- ==== Proof.TileCombine.lean ====
/-
  The combine call's task on one tile: for each of the two choices, sixty-four slots of the list
  fetched, the rows they name gathered 128 columns at a time, the block written out. What is left in
  the tile's rows of either result is the gather of the rows its list names.
-/
module

public import proofs.«01_k».proof.Proof.TileDispatch

@[expose] public section

noncomputable section

namespace Cert.Proof

open Cert.KernelIdeal Cert.KernelIdeal.Gen
open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

namespace Combine

abbrev zV : Memref sig .scVector .hbm S8192x1024 .f32 := Memref.whole main_v11_scv
abbrev aV : Memref sig .scVector .hbm S2048 .i32 := Memref.whole main_v2_scv
abbrev bV : Memref sig .scVector .hbm S2048 .i32 := Memref.whole main_v3_scv
abbrev uV : Memref sig .scVector .hbm S2048x1024 .f32 := Memref.whole main_v12_0_scv
abbrev wV : Memref sig .scVector .hbm S2048x1024 .f32 := Memref.whole main_v12_1_scv
abbrev lV : Memref sig .scVector .vmem S64 .i32 := Memref.whole cc4_scratch0
abbrev rV : Memref sig .scVector .vmem S64x1024 .f32 := Memref.whole cc4_scratch1

variable (d : Dev nD) (L : grid4.Coords)

abbrev thr : Thread nD τ := V d ((L 0).castLE hcore4) ((L 1).castLE hsub4)
/-- The tile's number among the thirty-two. -/
abbrev wid : ℕ := 2 * (L 1).val + (L 0).val

theorem trips1 : k4_t1_loop.trips = 8 := by decide
theorem trips2 : k4_t2_loop.trips = 8 := by decide

abbrev cell (s : DmaSems sig S_) : GSem nD τ sig := (thr d L, .dma s.sem)

variable (q qi : PosShare TreeShare) (z : Buf (Elt F) (ℓz d)) (sa : Buf (Elt F) (ℓs0 d)) (sb : Buf (Elt F) (ℓs1 d))
variable (O : CellTallies nD τ sig (HIx 3)) (W : Waits sig (HIx 3))

/-- The tile's sixty-four entries of a list. -/
abbrev listOf (s : S2048.Idx → Elt F .i32) : S64.Idx → Elt F .i32 :=
  ((aV).view.slice (Rect.unit (s := S2048) (k4_off1 L) S64.size (k4_off1_inb L))).read (Elt F) s

/-- What a result's rows end at. -/
abbrev out (s : S2048.Idx → Elt F .i32) : S2048x1024.Idx → Elt F .f32 := rowsBy (n := 8192) (c := 1024) (r := 2048) z s

/-- Before gather `k`: columns below `128 k` of the row buffer hold the gathered rows. -/
def invG (fo : Buf (Elt F) ((lV).view.loc (thr d L))) (k : ℕ) (_ : Unit) : sProp (MM F) :=
  iprop(Transfers.MayWaits (thr d L) (none : HIx 3) O ∗ ((zV).view.loc (thr d L) ↦{q} z)
    ∗ ((lV).view.loc (thr d L) ↦[(lV).view.set]{fullShare} fo)
    ∗ (∃ f, ⌜∀ j : S64x1024.Idx, (j 1).val < 128 * k → (rV).view.read (Elt F) f j = rowsBy (n := 8192) z ((lV).view.read (Elt F) fo) j⌝
        ∗ ((rV).view.loc (thr d L) ↦{fullShare} f))
    ∗ semVal (cell d L cc4_scratch2) 0 ∗ OwesFrom (thr d L) O W)

variable (fo : Buf (Elt F) ((lV).view.loc (thr d L))) (hin : ∀ y, ((lV).view.read (Elt F) fo y).toNat < 8192)
include hin

theorem gather_trip1 (k : Fin k4_t1_loop.trips) (u : Unit) :
    invG d L q z O W fo k.val u
      ⊢ wp frame (wpE (defs₀ (F := F)) 𝒱₀ (thr d L) none) Set.univ
          (k4_t1_body L zV (Memref.isWhole_whole _) aV (Memref.isWhole_whole _) bV (Memref.isWhole_whole _) uV (Memref.isWhole_whole _)
            wV (Memref.isWhole_whole _) lV (Memref.isWhole_whole _) rV (Memref.isWhole_whole _) cc4_scratch2 cc4_scoped0 cc4_scoped1 cc4_scoped2 cc4_scoped3 k u)
          (invG d L q z O W fo (k.val + 1)) := by
  unfold invG k4_t1_body
  iintro ⟨#Hmw, Hx, Hl, ⟨%f, %hf, Hr⟩, Hg, HO⟩
  iapply (wp_gather (thr d L) (q := q) (qo := fullShare) (Ss := Finset.univ) (Sd := Finset.univ) (Finset.subset_univ _) (Finset.subset_univ _) (by decide)
    (SparseCore.sum_rowCredit_eq_dmaCredit _ _ (fun _ => rfl)) rfl hin) $$ [Hx Hr Hl Hg HO]
  · isplitl [Hx]; · iexact Hx
    isplitl [Hr]; · iexact Hr
    isplitl [Hl]; · iexact Hl
    isplitl [Hg]; · iexact Hg
    isplitr; · iexact Hmw
    iexact HO
  iintro ⟨Hx, Hr, Hl, Hg, HO⟩
  simp only [Prog.bind]; sl_step
  isplitr; · iexact Hmw
  isplitl [Hx]; · iexact Hx
  isplitl [Hl]; · iexact Hl
  isplitl [Hr]
  · iexists _; isplitr
    rotate_left
    · iexact Hr
    · ipureintro
      have := cols_step (F := F) (n := 8192) (rV).view (zV).view (k4_off2_inb k) (k4_off3_inb k) (128 * k.val) (k4_off2_eq k) (k4_off3_eq k) f z
        ((lV).view.read (Elt F) fo) gathers_S8192x128_S64x128 rfl hin hf
      intro j hj
      exact this j (by omega)
  isplitl [Hg]; · iexact Hg
  iexact HO

theorem gather_trip2 (k : Fin k4_t2_loop.trips) (u : Unit) :
    invG d L q z O W fo k.val u
      ⊢ wp frame (wpE (defs₀ (F := F)) 𝒱₀ (thr d L) none) Set.univ
          (k4_t2_body L zV (Memref.isWhole_whole _) aV (Memref.isWhole_whole _) bV (Memref.isWhole_whole _) uV (Memref.isWhole_whole _)
            wV (Memref.isWhole_whole _) lV (Memref.isWhole_whole _) rV (Memref.isWhole_whole _) cc4_scratch2 cc4_scoped0 cc4_scoped1 cc4_scoped2 cc4_scoped3 k u)
          (invG d L q z O W fo (k.val + 1)) := by
  unfold invG k4_t2_body
  iintro ⟨#Hmw, Hx, Hl, ⟨%f, %hf, Hr⟩, Hg, HO⟩
  iapply (wp_gather (thr d L) (q := q) (qo := fullShare) (Ss := Finset.univ) (Sd := Finset.univ) (Finset.subset_univ _) (Finset.subset_univ _) (by decide)
    (SparseCore.sum_rowCredit_eq_dmaCredit _ _ (fun _ => rfl)) rfl hin) $$ [Hx Hr Hl Hg HO]
  · isplitl [Hx]; · iexact Hx
    isplitl [Hr]; · iexact Hr
    isplitl [Hl]; · iexact Hl
    isplitl [Hg]; · iexact Hg
    isplitr; · iexact Hmw
    iexact HO
  iintro ⟨Hx, Hr, Hl, Hg, HO⟩
  simp only [Prog.bind]; sl_step
  isplitr; · iexact Hmw
  isplitl [Hx]; · iexact Hx
  isplitl [Hl]; · iexact Hl
  isplitl [Hr]
  · iexists _; isplitr
    rotate_left
    · iexact Hr
    · ipureintro
      have := cols_step (F := F) (n := 8192) (rV).view (zV).view (k4_off5_inb k) (k4_off6_inb k) (128 * k.val) (k4_off5_eq k) (k4_off6_eq k) f z
        ((lV).view.read (Elt F) fo) gathers_S8192x128_S64x128 rfl hin hf
      intro j hj
      exact this j (by omega)
  isplitl [Hg]; · iexact Hg
  iexact HO

omit hin
omit [FloatOps F] in
theorem set_block : (Rect.unit (s := S2048x1024) (k4_off4 L) S64x1024.size (k4_off4_inb L)).set ⊆ rowsOf64 (wid L) := by
  intro j hj
  have h0 := Rect.mem_set_unit.mp hj 0
  rw [k4_off4_eq] at h0
  have h1 : 128 * (L 1).val + 64 * (L 0).val ≤ (j 0).val := h0.1
  have h2 : (j 0).val < 128 * (L 1).val + 64 * (L 0).val + 64 := h0.2
  refine Finset.mem_filter.mpr ⟨Finset.mem_univ _, ?_⟩
  show (j 0).val / 64 = 2 * (L 1).val + (L 0).val
  omega
theorem set_u : ((uV).slice (Rect.unit (s := S2048x1024) (k4_off4 L) S64x1024.size (k4_off4_inb L)) (fun _ => rfl)).view.set ⊆ rowsOf64 (wid L) := by
  show ((uV).view.slice (Rect.unit (s := S2048x1024) (k4_off4 L) S64x1024.size (k4_off4_inb L))).set ⊆ _
  intro j hj
  rw [View.set_slice] at hj
  obtain ⟨j', hj', rfl⟩ := Finset.mem_map.mp hj
  exact set_block L hj'
theorem set_w : ((wV).slice (Rect.unit (s := S2048x1024) (k4_off4 L) S64x1024.size (k4_off4_inb L)) (fun _ => rfl)).view.set ⊆ rowsOf64 (wid L) := by
  show ((wV).view.slice (Rect.unit (s := S2048x1024) (k4_off4 L) S64x1024.size (k4_off4_inb L))).set ⊆ _
  intro j hj
  rw [View.set_slice] at hj
  obtain ⟨j', hj', rfl⟩ := Finset.mem_map.mp hj
  exact set_block L hj'

theorem listOf_apply (s : S2048.Idx → Elt F .i32) (a : Fin 64) (h : 128 * (L 1).val + 64 * (L 0).val + a.val < 2048) :
    listOf L s (ValueIdx.ix1 a) = s (ValueIdx.ix1 ⟨128 * (L 1).val + 64 * (L 0).val + a.val, h⟩) := by
  show s ((Rect.unit (s := S2048) (k4_off1 L) S64.size (k4_off1_inb L)).emb (ValueIdx.ix1 a)) = _
  congr 1
  apply Rect.emb_eq_of_coords
  intro b
  match b with
  | ⟨0, _⟩ =>
    show 128 * (L 1).val + 64 * (L 0).val + a.val = k4_off1 L 0 + 1 * a.val
    rw [k4_off1_eq]; show _ = 128 * (L 1).val + 64 * (L 0).val + 1 * a.val; omega

/-- The block written out of a filled row buffer: the tile's rows at the gathered rows. -/
theorem block_ends {κ : Kind} {sp : Space} (v : View sig κ sp S2048x1024 .f32) (s : S2048.Idx → Elt F .i32)
    (fl : Buf (Elt F) ((lV).view.loc (thr d L))) (hl : (lV).view.read (Elt F) fl = listOf L s)
    (fr : Buf (Elt F) ((rV).view.loc (thr d L)))
    (hr : ∀ j : S64x1024.Idx, (j 1).val < 128 * 8 → (rV).view.read (Elt F) fr j = rowsBy (n := 8192) z ((lV).view.read (Elt F) fl) j)
    (f : v.ty.Contents (Elt F)) (j : S2048x1024.Idx) (hj : j ∈ rowsOf64 (wid L)) :
    v.read (Elt F) ((v.slice (Rect.unit (s := S2048x1024) (k4_off4 L) S64x1024.size (k4_off4_inb L))).write (Elt F) f ((rV).view.read (Elt F) fr) Finset.univ) j
      = out d z s j := by
  have hj' : (j 0).val / 64 = 2 * (L 1).val + (L 0).val := (Finset.mem_filter.mp hj).2
  refine rows_step (F := F) (n := 2048) v (k4_off4_inb L) (128 * (L 1).val + 64 * (L 0).val) (k4_off4_eq L) f
    ((rV).view.read (Elt F) fr) (out d z s) (128 * (L 1).val + 64 * (L 0).val) (fun j h1 h2 => absurd h2 (by omega)) ?_ j (by omega) (by omega)
  intro a b hlt
  rw [hr _ (by show b.val < 128 * _; have := b.isLt; omega), hl]
  show z (ValueIdx.ix2 (Fin.ofNat 8192 (listOf L s (ValueIdx.ix1 a)).toNat) b) = z (ValueIdx.ix2 (Fin.ofNat 8192 (s (ValueIdx.ix1 _)).toNat) b)
  rw [listOf_apply L s a hlt]

theorem wrote_u (s : S2048.Idx → Elt F .i32) (g : Buf (Elt F) ((uV).view.loc (thr d L)))
    (hg : ∀ j ∈ rowsOf64 (wid L), (uV).view.read (Elt F) g j = out d z s j) :
    ((uV).view.loc (thr d L) ↦[rowsOf64 (wid L)]{fullShare} g : sProp (MM F)) ⊢ ℓy0 d ↦[rowsOf64 (wid L)]{fullShare} out d z s :=
  Entails.of_eq (pointsTo_congr (ℓ := ℓy0 d) hg)

theorem wrote_w (s : S2048.Idx → Elt F .i32) (g : Buf (Elt F) ((wV).view.loc (thr d L)))
    (hg : ∀ j ∈ rowsOf64 (wid L), (wV).view.read (Elt F) g j = out d z s j) :
    ((wV).view.loc (thr d L) ↦[rowsOf64 (wid L)]{fullShare} g : sProp (MM F)) ⊢ ℓy1 d ↦[rowsOf64 (wid L)]{fullShare} out d z s :=
  Entails.of_eq (pointsTo_congr (ℓ := ℓy1 d) hg)

theorem sems_eq : (scopedSems0 (thr d L) : sProp (MM F)) = iprop((semVal (cell d L cc4_scratch2) 0 ∗ semVal (cell d L cc4_scoped0) 0
      ∗ semVal (cell d L cc4_scoped1) 0 ∗ semVal (cell d L cc4_scoped2) 0 ∗ semVal (cell d L cc4_scoped3) 0)
      ∗ restSems d ((L 0).castLE hcore4) ((L 1).castLE hsub4)
          {.dma cc4_scratch2.sem, .dma cc4_scoped0.sem, .dma cc4_scoped1.sem, .dma cc4_scoped2.sem, .dma cc4_scoped3.sem}) :=
  (scopedSems_take d _ _ {.dma cc4_scratch2.sem, .dma cc4_scoped0.sem, .dma cc4_scoped1.sem, .dma cc4_scoped2.sem, .dma cc4_scoped3.sem} (by decide)).trans (by
    rw [SparseCore.bigSep_insert' (by decide), SparseCore.bigSep_insert' (by decide), SparseCore.bigSep_insert' (by decide),
      SparseCore.bigSep_insert' (by decide), BI.bigSep_singleton])

theorem bufs_eq : (scopedBufs (thr d L) : sProp (MM F)) = iprop(((∃ f, (lV).view.loc (thr d L) ↦{fullShare} f) ∗ (∃ f, (rV).view.loc (thr d L) ↦{fullShare} f))
      ∗ restBufs d ((L 0).castLE hcore4) ((L 1).castLE hsub4) {cc4_scratch0, cc4_scratch1}) :=
  (scopedBufs_take d _ _ {cc4_scratch0, cc4_scratch1} (fun b hb => by
    rcases Finset.mem_insert.mp hb with rfl | hb
    · rfl
    · rw [Finset.mem_singleton.mp hb]; rfl)).trans (by
    rw [SparseCore.bigSep_insert' (by decide), BI.bigSep_singleton])

/-- What a tile is handed: shares of the rows and of both lists, its own rows of the two results. -/
abbrev given : sProp (MM F) :=
  iprop((ℓz d ↦{q} z) ∗ (ℓs0 d ↦{qi} sa) ∗ (ℓs1 d ↦{qi} sb)
    ∗ (∃ f, ℓy0 d ↦[rowsOf64 (wid L)]{fullShare} f) ∗ ∃ f, ℓy1 d ↦[rowsOf64 (wid L)]{fullShare} f)
/-- What it hands back: the shares, and its rows holding the gathered rows. -/
abbrev taken : sProp (MM F) :=
  iprop((ℓz d ↦{q} z) ∗ (ℓs0 d ↦{qi} sa) ∗ (ℓs1 d ↦{qi} sb)
    ∗ (ℓy0 d ↦[rowsOf64 (wid L)]{fullShare} out d z sa) ∗ ℓy1 d ↦[rowsOf64 (wid L)]{fullShare} out d z sb)

set_option maxHeartbeats 400000 in
theorem body (hO : ∀ g, O g none = 0) (ha : ∀ y, (sa y).toNat < 8192) (hb : ∀ y, (sb y).toNat < 8192) :
    iprop(levAts (K (F := F)).L (K (F := F)).lev ∗ given d L q qi z sa sb ∗ scopedBufs (thr d L) ∗ scopedSems0 (thr d L) ∗ owes (thr d L) O W)
      ⊢ wp frame (wpE (defs₀ (F := F)) 𝒱₀ (thr d L) none) Set.univ
          (cc4_k L zV (Memref.isWhole_whole _) aV (Memref.isWhole_whole _) bV (Memref.isWhole_whole _) uV (Memref.isWhole_whole _)
            wV (Memref.isWhole_whole _) lV (Memref.isWhole_whole _) rV (Memref.isWhole_whole _) cc4_scratch2 cc4_scoped0 cc4_scoped1 cc4_scoped2 cc4_scoped3)
          fun _ => iprop(taken d L q qi z sa sb ∗ scopedBufs (thr d L) ∗ scopedSems0 (thr d L) ∗ OwesFrom (thr d L) O W) := by
  rw [cc4_k_eq_skeleton, sems_eq, bufs_eq]
  unfold cc4_k_skel
  iintro ⟨#Hlv, ⟨Hx, Ha, Hb, ⟨%fu, Hu⟩, %fw, Hw⟩, ⟨⟨⟨%fl, Hl⟩, %fr, Hr⟩, Hbufs⟩, ⟨⟨Hg, H0, H1, H2, H3⟩, Hsems⟩, HO⟩
  ihave Hmw := (show levAts (K (F := F)).L (K (F := F)).lev ⊢ Transfers.MayWaits (thr d L) (none : HIx 3) O from
    (K (F := F)).mayWaits_none (thr := thr d L) hO) $$ Hlv
  icases Hmw with #Hmw
  have hset : (lV).view.set = Finset.univ := View.set_whole _
  have hread : ∀ (fo : Buf (Elt F) ((lV).view.loc (thr d L))) (s : S2048.Idx → Elt F .i32),
      (lV).view.read (Elt F) ((lV).view.write (Elt F) fo (listOf L s) Finset.univ) = listOf L s := fun fo s => View.read_write_univ _ _
  have hin : ∀ (fo : Buf (Elt F) ((lV).view.loc (thr d L))) (s : S2048.Idx → Elt F .i32), (∀ y, (s y).toNat < 8192) →
      ∀ y, ((lV).view.read (Elt F) ((lV).view.write (Elt F) fo (listOf L s) Finset.univ) y).toNat < 8192 := by
    intro fo s hs; rw [hread]; intro y; exact hs _
  -- the first choice
  ihave HO := (owesFrom_refl (thr d L) O W) $$ HO
  iapply (wp_copy (thr d L) (q := qi) (Ss := Finset.univ) (Sd := Finset.univ) (Finset.subset_univ _) (Finset.subset_univ _) (View.dmaCredit_pos _ (by decide)) rfl) $$ [Ha Hl H0 HO]
  · isplitl [Ha]; · iexact Ha
    isplitl [Hl]; · iexact Hl
    isplitl [H0]; · iexact H0
    isplitr; · iexact Hmw
    iexact HO
  iintro ⟨Ha, Hl, H0, HO⟩
  iapply (Scf.wp_for_bind frame (wpE (defs₀ (F := F)) 𝒱₀ (thr d L) none) Set.univ _ _ _ k4_t1_ok _ _
    (invG d L q z O W ((lV).view.write (Elt F) fl (listOf L sa) Finset.univ))
    (gather_trip1 d L q z O W _ (hin _ sa ha))) $$ [Hx Hl Hr Hg HO]
  · unfold invG
    rw [hset]
    isplitr; · iexact Hmw
    isplitl [Hx]; · iexact Hx
    isplitl [Hl]; · iexact Hl
    isplitl [Hr]
    · iexists fr; isplitr
      · ipureintro; intro j hj; exact absurd hj (by omega)
      · iexact Hr
    isplitl [Hg]; · iexact Hg
    iexact HO
  iintro %u1 HI
  unfold invG
  rw [hset]
  icases HI with ⟨-, Hx, Hl, ⟨%fr1, %hr1, Hr⟩, Hg, HO⟩
  iapply (wp_copy (thr d L) (q := fullShare) (Ss := Finset.univ) (Finset.subset_univ _) (set_u L) (View.dmaCredit_pos _ (show 0 < S64x1024.numel by decide)) rfl) $$ [Hr Hu H1 HO]
  · isplitl [Hr]; · iexact Hr
    isplitl [Hu]; · iexact Hu
    isplitl [H1]; · iexact H1
    isplitr; · iexact Hmw
    iexact HO
  iintro ⟨Hr, Hu, H1, HO⟩
  -- the second
  iapply (wp_copy (thr d L) (q := qi) (Ss := Finset.univ) (Sd := Finset.univ) (Finset.subset_univ _) (Finset.subset_univ _) (View.dmaCredit_pos _ (by decide)) rfl) $$ [Hb Hl H2 HO]
  · isplitl [Hb]; · iexact Hb
    isplitl [Hl]; · iexact Hl
    isplitl [H2]; · iexact H2
    isplitr; · iexact Hmw
    iexact HO
  iintro ⟨Hb, Hl, H2, HO⟩
  iapply (Scf.wp_for_bind frame (wpE (defs₀ (F := F)) 𝒱₀ (thr d L) none) Set.univ _ _ _ k4_t2_ok _ _
    (invG d L q z O W ((lV).view.write (Elt F) ((lV).view.write (Elt F) fl (listOf L sa) Finset.univ) (listOf L sb) Finset.univ))
    (gather_trip2 d L q z O W _ (hin _ sb hb))) $$ [Hx Hl Hr Hg HO]
  · unfold invG
    rw [hset]
    isplitr; · iexact Hmw
    isplitl [Hx]; · iexact Hx
    isplitl [Hl]; · iexact Hl
    isplitl [Hr]
    · iexists fr1; isplitr
      · ipureintro; intro j hj; exact absurd hj (by omega)
      · iexact Hr
    isplitl [Hg]; · iexact Hg
    iexact HO
  iintro %u2 HI
  unfold invG
  rw [hset]
  icases HI with ⟨-, Hx, Hl, ⟨%fr2, %hr2, Hr⟩, Hg, HO⟩
  iapply (wp_copy (thr d L) (q := fullShare) (Ss := Finset.univ) (Finset.subset_univ _) (set_w L) (View.dmaCredit_pos _ (show 0 < S64x1024.numel by decide)) rfl) $$ [Hr Hw H3 HO]
  · isplitl [Hr]; · iexact Hr
    isplitl [Hw]; · iexact Hw
    isplitl [H3]; · iexact H3
    isplitr; · iexact Hmw
    iexact HO
  iintro ⟨Hr, Hw, H3, HO⟩
  simp only [Prog.bind]; sl_step
  isplitl [Hx Ha Hb Hu Hw]
  · isplitl [Hx]; · iexact Hx
    isplitl [Ha]; · iexact Ha
    isplitl [Hb]; · iexact Hb
    isplitl [Hu]
    · iapply (wrote_u d L z sa _ fun j hj => block_ends d L z (uV).view sa _ (hread _ sa) fr1 hr1 fu j hj) $$ Hu
    · iapply (wrote_w d L z sb _ fun j hj => block_ends d L z (wV).view sb _ (hread _ sb) fr2 hr2 fw j hj) $$ Hw
  isplitl [Hl Hr Hbufs]
  · isplitl [Hl Hr]
    · isplitl [Hl]
      · iexists _; iexact Hl
      · iexists _; iexact Hr
    iexact Hbufs
  isplitl [Hg H0 H1 H2 H3 Hsems]
  · isplitl [Hg H0 H1 H2 H3]
    · isplitl [Hg]; · iexact Hg
      isplitl [H0]; · iexact H0
      isplitl [H1]; · iexact H1
      isplitl [H2] <;> iassumption
    iexact Hsems
  iexact HO

end Combine

end Cert.Proof

end
-- ==== Proof.Calls.lean ====
/-
  The three SparseCore calls: what each hands its SparseCores and its tiles, what comes back, each tile's
  obligation, and how a call's operands split into the tiles' and its results join.
-/
module

public import proofs.«01_k».proof.Proof.TileInv
public import proofs.«01_k».proof.Proof.TileDispatch
public import proofs.«01_k».proof.Proof.TileCombine

@[expose] public section

noncomputable section

namespace Cert.Proof

open Cert.KernelIdeal Cert.KernelIdeal.Gen
open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## Rows by the tile that writes them -/

section Keys
variable {ℓ : Loc nD τ sig} (key : Idx ℓ → ℕ) (hk : ∀ j, key j < 32) (q : PosShare TreeShare) (f : Buf (Elt F) ℓ)

/-- A core's rows. -/
abbrev coreSet (c : ℕ) : Finset (Idx ℓ) := Finset.univ.filter fun j => key j % 2 = c
/-- A tile's rows. -/
abbrev tileSet (w : ℕ) : Finset (Idx ℓ) := Finset.univ.filter fun j => key j = w

theorem split_cores : (ℓ ↦{q} f : sProp (MM F)) = bigSep Finset.univ fun c : Fin 2 => ℓ ↦[coreSet key c.val]{q} f := by
  rw [← pointsTo_biUnion Finset.univ (ℓ := ℓ) (fun c : Fin 2 => coreSet key c.val)]
  · congr 1
    ext j
    simp only [Finset.mem_univ, Finset.mem_biUnion, Finset.mem_filter, true_and, true_iff]
    exact ⟨⟨key j % 2, Nat.mod_lt _ (by decide)⟩, rfl⟩
  · intro a _ b _ hab
    rw [Finset.disjoint_filter]
    intro j _ h1 h2
    exact hab (Fin.ext (h1.symm.trans h2))

include hk in
theorem split_tiles (c : Fin 2) : (ℓ ↦[coreSet key c.val]{q} f : sProp (MM F)) = bigSep Finset.univ fun i : Fin 16 => ℓ ↦[tileSet key (2 * i.val + c.val)]{q} f := by
  have hc := c.isLt
  rw [← pointsTo_biUnion Finset.univ (ℓ := ℓ) (fun i : Fin 16 => tileSet key (2 * i.val + c.val))]
  · congr 1
    ext j
    simp only [Finset.mem_univ, Finset.mem_biUnion, Finset.mem_filter, true_and]
    constructor
    · intro h
      have := hk j
      refine ⟨⟨key j / 2, by omega⟩, ?_⟩
      show key j = 2 * (key j / 2) + c.val
      omega
    · rintro ⟨i, h⟩
      omega
  · intro a _ b _ hab
    rw [Finset.disjoint_filter]
    intro j _ h1 h2
    exact hab (Fin.ext (by omega))

theorem some_held (I : Finset (Idx ℓ)) : (ℓ ↦[I]{fullShare} f : sProp (MM F)) ⊢ iprop(∃ f, ℓ ↦[I]{fullShare} f) := by
  iintro H; iexists f; iexact H

theorem to_cores : (ℓ ↦{fullShare} f : sProp (MM F)) ⊢ bigSep Finset.univ fun c : Fin 2 => iprop(∃ f, ℓ ↦[coreSet key c.val]{fullShare} f) :=
  (Entails.of_eq (split_cores key fullShare f)).trans (bigSep_mono fun _ _ => some_held f _)

include hk in
theorem to_tiles (c : Fin 2) : (ℓ ↦[coreSet key c.val]{fullShare} f : sProp (MM F))
    ⊢ bigSep Finset.univ fun i : Fin 16 => iprop(∃ f, ℓ ↦[tileSet key (2 * i.val + c.val)]{fullShare} f) :=
  (Entails.of_eq (split_tiles key hk fullShare f c)).trans (bigSep_mono fun _ _ => some_held f _)
end Keys

/-- The read share of SparseCore `c`, and of its tile `i`. -/
abbrev qc (c : Fin 2) : PosShare TreeShare := leaf 1 fullShare c
abbrev qt (c : Fin 2) (i : Fin 16) : PosShare TreeShare := leaf 4 (qc c) i

theorem emp_all {I : Type} (s : Finset I) : (bigSep s fun _ => iprop(emp)) = (iprop(emp) : sProp (MM F)) := bigSep_emp_const s

theorem held_cores {ℓ : Loc nD τ sig} (f : Buf (Elt F) ℓ) : (ℓ ↦{fullShare} f : sProp (MM F)) = bigSep Finset.univ fun c : Fin 2 => ℓ ↦{qc c} f :=
  held_leaves Finset.univ f 1 fullShare
theorem held_tiles {ℓ : Loc nD τ sig} (f : Buf (Elt F) ℓ) (c : Fin 2) : (ℓ ↦{qc c} f : sProp (MM F)) = bigSep Finset.univ fun i : Fin 16 => ℓ ↦{qt c i} f :=
  held_leaves Finset.univ f 4 (qc c)

def key256 (j : S8192x1024.Idx) : ℕ := (j 0).val / 256
def key64 (j : S2048x1024.Idx) : ℕ := (j 0).val / 64
theorem key256_lt (j : S8192x1024.Idx) : key256 j < 32 := by have : (j 0).val < 8192 := (j 0).isLt; unfold key256; omega
theorem key64_lt (j : S2048x1024.Idx) : key64 j < 32 := by have : (j 0).val < 2048 := (j 0).isLt; unfold key64; omega

/-! ## What the calls carry -/

section Calls
variable (x : Vec F S2048x1024 .f32) (s0 s1 k0 k1 : IVec S2048 32) (z : Vec F S8192x1024 .f32)

abbrev co1 (c : Fin 2) (i : Fin 16) : grid1.Coords := fun | 0 => c | 1 => i | ⟨_ + 2, h⟩ => absurd h (Nat.not_lt.2 (Nat.le_add_left _ _))
abbrev co2 (c : Fin 2) (i : Fin 16) : grid2.Coords := fun | 0 => c | 1 => i | ⟨_ + 2, h⟩ => absurd h (Nat.not_lt.2 (Nat.le_add_left _ _))
abbrev co4 (c : Fin 2) (i : Fin 16) : grid4.Coords := fun | 0 => c | 1 => i | ⟨_ + 2, h⟩ => absurd h (Nat.not_lt.2 (Nat.le_add_left _ _))

/-- The map of the dispatched rows. -/
abbrev imap : IVec S8192 32 := invOf s0 s1 k0 k1

/-- The first call: one tile does all of it. -/
def go0 (d : Dev nD) (c : Fin 2) (i : Fin 16) : sProp (MM F) := if 2 * i.val + c.val = 0 then Inv.given d s0 s1 k0 k1 else iprop(emp)
def td0 (d : Dev nD) (c : Fin 2) (i : Fin 16) : sProp (MM F) := if 2 * i.val + c.val = 0 then Inv.taken d s0 s1 k0 k1 else iprop(emp)
def st0 (d : Dev nD) (c : Fin 2) : sProp (MM F) := if c.val = 0 then Inv.given d s0 s1 k0 k1 else iprop(emp)
def dn0 (d : Dev nD) (c : Fin 2) : sProp (MM F) := if c.val = 0 then Inv.taken d s0 s1 k0 k1 else iprop(emp)

/-- The second: rows of the tokens, by the map. -/
def go1 (d : Dev nD) (c : Fin 2) (i : Fin 16) : sProp (MM F) := Dispatch.given d (co2 c i) (qt c i) (qt c i) x (imap s0 s1 k0 k1)
def td1 (d : Dev nD) (c : Fin 2) (i : Fin 16) : sProp (MM F) := Dispatch.taken d (co2 c i) (qt c i) (qt c i) x (imap s0 s1 k0 k1)
def st1 (d : Dev nD) (c : Fin 2) : sProp (MM F) :=
  iprop((ℓx d ↦{qc c} x) ∗ (ℓinv d ↦{qc c} imap s0 s1 k0 k1) ∗ ∃ f, ℓbuf d ↦[coreSet (ℓ := ℓbuf d) key256 c.val]{fullShare} f)
def dn1 (d : Dev nD) (c : Fin 2) : sProp (MM F) :=
  iprop((ℓx d ↦{qc c} x) ∗ (ℓinv d ↦{qc c} imap s0 s1 k0 k1) ∗ ℓbuf d ↦[coreSet (ℓ := ℓbuf d) key256 c.val]{fullShare} Dispatch.out d x (imap s0 s1 k0 k1))

/-- The third: rows of the experts' results, by each token's two slots. -/
def go2 (d : Dev nD) (c : Fin 2) (i : Fin 16) : sProp (MM F) := Combine.given d (co4 c i) (qt c i) (qt c i) z s0 s1
def td2 (d : Dev nD) (c : Fin 2) (i : Fin 16) : sProp (MM F) := Combine.taken d (co4 c i) (qt c i) (qt c i) z s0 s1
def st2 (d : Dev nD) (c : Fin 2) : sProp (MM F) :=
  iprop((ℓz d ↦{qc c} z) ∗ (ℓs0 d ↦{qc c} s0) ∗ (ℓs1 d ↦{qc c} s1)
    ∗ (∃ f, ℓy0 d ↦[coreSet (ℓ := ℓy0 d) key64 c.val]{fullShare} f) ∗ ∃ f, ℓy1 d ↦[coreSet (ℓ := ℓy1 d) key64 c.val]{fullShare} f)
def dn2 (d : Dev nD) (c : Fin 2) : sProp (MM F) :=
  iprop((ℓz d ↦{qc c} z) ∗ (ℓs0 d ↦{qc c} s0) ∗ (ℓs1 d ↦{qc c} s1)
    ∗ (ℓy0 d ↦[coreSet (ℓ := ℓy0 d) key64 c.val]{fullShare} Combine.out d z s0) ∗ ℓy1 d ↦[coreSet (ℓ := ℓy1 d) key64 c.val]{fullShare} Combine.out d z s1)

def P : (K (F := F)).Pay (nD := nD) (Val := Elt F) (Name := ℕ) (U := UU) where
  st := fun q d c => match q, c with
    | 0, c => st0 s0 s1 k0 k1 d c
    | 1, c => st1 x s0 s1 k0 k1 d c
    | 2, c => st2 s0 s1 z d c
  dn := fun q d c => match q, c with
    | 0, c => dn0 s0 s1 k0 k1 d c
    | 1, c => dn1 x s0 s1 k0 k1 d c
    | 2, c => dn2 s0 s1 z d c
  go := fun q d c i => match q, c, i with
    | 0, c, i => go0 s0 s1 k0 k1 d c i
    | 1, c, i => go1 x s0 s1 k0 k1 d c i
    | 2, c, i => go2 s0 s1 z d c i
  td := fun q d c i => match q, c, i with
    | 0, c, i => td0 s0 s1 k0 k1 d c i
    | 1, c, i => td1 x s0 s1 k0 k1 d c i
    | 2, c, i => td2 s0 s1 z d c i
  x := fun _ _ => iprop(emp)

theorem storable_ite {p : Prop} [Decidable p] {A B : sProp (MM F)} (hA : BI.Storable (upEmb : UEmb _ (MM F)) A) (hB : BI.Storable (upEmb : UEmb _ (MM F)) B) :
    BI.Storable (upEmb : UEmb _ (MM F)) (if p then A else B) := by split <;> assumption

instance P_storable : (P (F := F) x s0 s1 k0 k1 z).IsStorable where
  st q d c := match q, c with
    | 0, c => storable_ite (by infer_instance) (by infer_instance)
    | 1, c => (by unfold st1; infer_instance : BI.Storable (upEmb : UEmb _ (MM F)) (st1 x s0 s1 k0 k1 d c))
    | 2, c => (by unfold st2; infer_instance : BI.Storable (upEmb : UEmb _ (MM F)) (st2 s0 s1 z d c))
  dn q d c := match q, c with
    | 0, c => storable_ite (by infer_instance) (by infer_instance)
    | 1, c => (by unfold dn1; infer_instance : BI.Storable (upEmb : UEmb _ (MM F)) (dn1 x s0 s1 k0 k1 d c))
    | 2, c => (by unfold dn2; infer_instance : BI.Storable (upEmb : UEmb _ (MM F)) (dn2 s0 s1 z d c))
  go q d c i := match q, c, i with
    | 0, c, i => storable_ite (by infer_instance) (by infer_instance)
    | 1, c, i => (by unfold go1; infer_instance : BI.Storable (upEmb : UEmb _ (MM F)) (go1 x s0 s1 k0 k1 d c i))
    | 2, c, i => (by unfold go2; infer_instance : BI.Storable (upEmb : UEmb _ (MM F)) (go2 s0 s1 z d c i))
  td q d c i := match q, c, i with
    | 0, c, i => storable_ite (by infer_instance) (by infer_instance)
    | 1, c, i => (by unfold td1; infer_instance : BI.Storable (upEmb : UEmb _ (MM F)) (td1 x s0 s1 k0 k1 d c i))
    | 2, c, i => (by unfold td2; infer_instance : BI.Storable (upEmb : UEmb _ (MM F)) (td2 s0 s1 z d c i))

/-! ## The tiles -/

theorem obl_post {thr : Thread nD τ} {A B C : sProp (MM F)} {O : CellTallies nD τ sig (HIx 3)} {W : Waits sig (HIx 3)} {q : Fin 3} :
    iprop(A ∗ B ∗ C ∗ OwesFrom thr O W) ⊢ iprop(A ∗ B ∗ C ∗ ∃ W', ⌜∀ p ∈ W', p ∈ W ∨ p.2 = none ∨ p.2 = some q⌝ ∗ owes thr O W') := by
  unfold OwesFrom
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem obl_pre {A B C D' E' : sProp (MM F)} : iprop(A ∗ emp ∗ B ∗ C ∗ D' ∗ E') ⊢ iprop(A ∗ B ∗ C ∗ D' ∗ E') := by
  iintro ⟨HA, -, HB, HC, HD, HE⟩
  isplitl [HA]; · iexact HA
  isplitl [HB]; · iexact HB
  isplitl [HC]; · iexact HC
  isplitl [HD] <;> iassumption

set_option maxRecDepth 16384 in
theorem tileObl1 : (K (F := F)).TileObl (D (F := F)) 𝒱 (P x s0 s1 k0 k1 z) v₀ 1 := by
  intro d c i O W hO _ _
  simp only [show (P x s0 s1 k0 k1 z).ox = fun _ _ => 0 from rfl, add_zero]
  have hci : ((K (F := F)).core 1 c).val < grid2.bound 0 ∧ ((K (F := F)).sub 1 i).val < grid2.bound 1 := ⟨c.isLt, i.isLt⟩
  change _ ⊢ wp _ _ _ (Pipeline.liftProg (defs₀ (F := F) (.scVector ((K (F := F)).core 1 c) ((K (F := F)).sub 1 i)) 2 ())) _
  refine BIBase.Entails.trans ?_ (Pipeline.wp_liftProg (D (F := F)) (Pipeline.defs_kernel pcfgs defs₀) 𝒱₀ _ Set.univ none _ _)
  simp only [defs₀, SparseCore.onTile, hci, and_self, ↓reduceDIte]
  refine obl_pre.trans ?_
  exact (Dispatch.body d (co2 ⟨_, hci.1⟩ ⟨_, hci.2⟩) _ _ x (imap s0 s1 k0 k1) O W hO (invOf_lt s0 s1 k0 k1)).trans (wp_mono frame _ _ fun _ => obl_post)

set_option maxRecDepth 16384 in
theorem tileObl2 (hs0 : ∀ y, (s0 y).toNat < 8192) (hs1 : ∀ y, (s1 y).toNat < 8192) : (K (F := F)).TileObl (D (F := F)) 𝒱 (P x s0 s1 k0 k1 z) v₀ 2 := by
  intro d c i O W hO _ _
  simp only [show (P x s0 s1 k0 k1 z).ox = fun _ _ => 0 from rfl, add_zero]
  have hci : ((K (F := F)).core 2 c).val < grid4.bound 0 ∧ ((K (F := F)).sub 2 i).val < grid4.bound 1 := ⟨c.isLt, i.isLt⟩
  change _ ⊢ wp _ _ _ (Pipeline.liftProg (defs₀ (F := F) (.scVector ((K (F := F)).core 2 c) ((K (F := F)).sub 2 i)) 4 ())) _
  refine BIBase.Entails.trans ?_ (Pipeline.wp_liftProg (D (F := F)) (Pipeline.defs_kernel pcfgs defs₀) 𝒱₀ _ Set.univ none _ _)
  simp only [defs₀, SparseCore.onTile, hci, and_self, ↓reduceDIte]
  refine obl_pre.trans ?_
  exact (Combine.body d (co4 ⟨_, hci.1⟩ ⟨_, hci.2⟩) _ _ z s0 s1 O W hO hs0 hs1).trans (wp_mono frame _ _ fun _ => obl_post)

theorem tile0 (d : Dev nD) (c : Fin 2) (i : Fin 16) (O : CellTallies nD τ sig (HIx 3)) (W : Waits sig (HIx 3)) (hO : ∀ g, O g none = 0)
    (hs0 : ∀ y, (s0 y).toNat < 8192) (hs1 : ∀ y, (s1 y).toNat < 8192) :
    iprop(levAts (K (F := F)).L (K (F := F)).lev ∗ go0 s0 s1 k0 k1 d c i ∗ scopedBufs (Inv.thr d (co1 c i)) ∗ scopedSems0 (Inv.thr d (co1 c i)) ∗ owes (Inv.thr d (co1 c i)) O W)
      ⊢ wp frame (wpE (defs₀ (F := F)) 𝒱₀ (Inv.thr d (co1 c i)) none) Set.univ
          (cc1_k (co1 c i) Inv.s0V (Memref.isWhole_whole _) Inv.s1V (Memref.isWhole_whole _) Inv.k0V (Memref.isWhole_whole _) Inv.k1V (Memref.isWhole_whole _)
            Inv.oV (Memref.isWhole_whole _) Inv.mV (Memref.isWhole_whole _) Inv.aV (Memref.isWhole_whole _) Inv.bV (Memref.isWhole_whole _) cc1_scratch3
            cc1_scoped0 cc1_scoped1 cc1_scoped2 cc1_scoped3 cc1_scoped4)
          fun _ => iprop(td0 s0 s1 k0 k1 d c i ∗ scopedBufs (Inv.thr d (co1 c i)) ∗ scopedSems0 (Inv.thr d (co1 c i)) ∗ OwesFrom (Inv.thr d (co1 c i)) O W) := by
  have hc := Inv.cond_iff (co1 c i)
  by_cases h : 2 * i.val + c.val = 0
  · have e : go0 (F := F) s0 s1 k0 k1 d c i = Inv.given d s0 s1 k0 k1 := if_pos h
    have e' : td0 (F := F) s0 s1 k0 k1 d c i = Inv.taken d s0 s1 k0 k1 := if_pos h
    rw [e, e']
    exact Inv.body d (co1 c i) s0 s1 k0 k1 O W (hc.2 h) hO hs0 hs1
  · have e : go0 (F := F) s0 s1 k0 k1 d c i = iprop(emp) := if_neg h
    have e' : td0 (F := F) s0 s1 k0 k1 d c i = iprop(emp) := if_neg h
    rw [e, e']
    refine BIBase.Entails.trans ?_ ((Inv.body_idle d (co1 c i) O W (fun h' => h (hc.1 h')) iprop(scopedBufs (Inv.thr d (co1 c i)) ∗ scopedSems0 (Inv.thr d (co1 c i)))).trans (wp_mono frame _ _ fun _ => ?_))
    · iintro ⟨-, -, HB, HS, HO⟩
      isplitl [HB HS]
      · isplitl [HB] <;> iassumption
      · iexact HO
    · iintro ⟨⟨HB, HS⟩, HO⟩
      isplitr; · iempintro
      isplitl [HB]; · iexact HB
      isplitl [HS] <;> iassumption

set_option maxRecDepth 16384 in
theorem tileObl0 (hs0 : ∀ y, (s0 y).toNat < 8192) (hs1 : ∀ y, (s1 y).toNat < 8192) : (K (F := F)).TileObl (D (F := F)) 𝒱 (P x s0 s1 k0 k1 z) v₀ 0 := by
  intro d c i O W hO _ _
  simp only [show (P x s0 s1 k0 k1 z).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BIBase.Entails.trans ?_ (Pipeline.wp_liftProg (D (F := F)) (Pipeline.defs_kernel pcfgs defs₀) 𝒱₀ _ Set.univ none _ _)
  simp only [defs₀, SparseCore.onTile, hci, and_self, ↓reduceDIte]
  refine obl_pre.trans ?_
  exact (tile0 s0 s1 k0 k1 d ⟨_, hci.1⟩ ⟨_, hci.2⟩ O W hO hs0 hs1).trans (wp_mono frame _ _ fun _ => obl_post)

/-! ## The splits -/

theorem split0 (d : Dev nD) (c : Fin 2) : st0 s0 s1 k0 k1 d c ⊢ iprop((bigSep Finset.univ fun i : Fin 16 => go0 s0 s1 k0 k1 d c i)
    ∗ ((bigSep Finset.univ fun i : Fin 16 => td0 s0 s1 k0 k1 d c i) -∗ dn0 (F := F) s0 s1 k0 k1 d c)) := by
  have key : ∀ (A : sProp (MM F)), (bigSep Finset.univ fun i : Fin 16 => if 2 * i.val + c.val = 0 then A else iprop(emp)) = if c.val = 0 then A else iprop(emp) := fun A => by
    by_cases h : c.val = 0
    · rw [if_pos h, ← Finset.insert_erase (Finset.mem_univ (0 : Fin 16)), SparseCore.bigSep_insert' (by simp)]
      rw [if_pos (show 2 * (0 : Fin 16).val + c.val = 0 by rw [h]; rfl),
        bigSep_congr (Ψ := fun _ => iprop(emp)) fun i hi => if_neg (by
          have := Finset.ne_of_mem_erase hi
          have : i.val ≠ 0 := fun h' => this (Fin.ext h')
          omega), emp_all]
      exact BI.equiv_iff.mp BI.sep_emp
    · rw [if_neg h, bigSep_congr (Ψ := fun _ => iprop(emp)) fun i _ => if_neg (by omega), emp_all]
  unfold go0 td0 st0 dn0
  rw [key, key]
  iintro H
  isplitl [H]; · iexact H
  iintro H; iexact H

theorem split1 (d : Dev nD) (c : Fin 2) : st1 x s0 s1 k0 k1 d c ⊢ iprop((bigSep Finset.univ fun i : Fin 16 => go1 x s0 s1 k0 k1 d c i)
    ∗ ((bigSep Finset.univ fun i : Fin 16 => td1 x s0 s1 k0 k1 d c i) -∗ dn1 (F := F) x s0 s1 k0 k1 d c)) := by
  unfold go1 td1 st1 dn1 Dispatch.given Dispatch.taken
  rw [bigSep_sep', bigSep_sep', bigSep_sep', bigSep_sep', held_tiles, held_tiles, split_tiles (ℓ := ℓbuf d) key256 key256_lt fullShare (Dispatch.out d x (imap s0 s1 k0 k1)) c]
  iintro ⟨Hx, Hi, %f, Hb⟩
  isplitl [Hx Hi Hb]
  · isplitl [Hx]; · iexact Hx
    isplitl [Hi]; · iexact Hi
    iapply (to_tiles (ℓ := ℓbuf d) key256 key256_lt f c) $$ Hb
  iintro H; iexact H

theorem split2 (d : Dev nD) (c : Fin 2) : st2 s0 s1 z d c ⊢ iprop((bigSep Finset.univ fun i : Fin 16 => go2 s0 s1 z d c i)
    ∗ ((bigSep Finset.univ fun i : Fin 16 => td2 s0 s1 z d c i) -∗ dn2 (F := F) s0 s1 z d c)) := by
  unfold go2 td2 st2 dn2 Combine.given Combine.taken
  rw [bigSep_sep', bigSep_sep', bigSep_sep', bigSep_sep', bigSep_sep', bigSep_sep', bigSep_sep', bigSep_sep', held_tiles, held_tiles, held_tiles,
    split_tiles (ℓ := ℓy0 d) key64 key64_lt fullShare (Combine.out d z s0) c, split_tiles (ℓ := ℓy1 d) key64 key64_lt fullShare (Combine.out d z s1) c]
  iintro ⟨Hz, Ha, Hb, ⟨%f, Hu⟩, %g, Hv⟩
  isplitl [Hz Ha Hb Hu Hv]
  · isplitl [Hz]; · iexact Hz
    isplitl [Ha]; · iexact Ha
    isplitl [Hb]; · iexact Hb
    isplitl [Hu]
    · iapply (to_tiles (ℓ := ℓy0 d) key64 key64_lt f c) $$ Hu
    · iapply (to_tiles (ℓ := ℓy1 d) key64 key64_lt g c) $$ Hv
  iintro H; iexact H

theorem vecSplit0 : (K (F := F)).VecSplit' (P x s0 s1 k0 k1 z) 0 := fun d c => (split0 s0 s1 k0 k1 d c).trans fupd_intro
theorem vecSplit1 : (K (F := F)).VecSplit' (P x s0 s1 k0 k1 z) 1 := fun d c => (split1 x s0 s1 k0 k1 d c).trans fupd_intro
theorem vecSplit2 : (K (F := F)).VecSplit' (P x s0 s1 k0 k1 z) 2 := fun d c => (split2 s0 s1 z d c).trans fupd_intro

/-! ## What @main hands the calls and takes back -/

theorem st0_all (d : Dev nD) : (bigSep Finset.univ fun c : Fin 2 => st0 s0 s1 k0 k1 d c) = Inv.given (F := F) d s0 s1 k0 k1 := by
  rw [bigSep_univ_eq_bigSepL [(0 : Fin 2), 1] (by decide) (by decide)]
  exact BI.equiv_iff.mp BI.sep_emp
theorem dn0_all (d : Dev nD) : (bigSep Finset.univ fun c : Fin 2 => dn0 s0 s1 k0 k1 d c) = Inv.taken (F := F) d s0 s1 k0 k1 := by
  rw [bigSep_univ_eq_bigSepL [(0 : Fin 2), 1] (by decide) (by decide)]
  exact BI.equiv_iff.mp BI.sep_emp

theorem st1_all (d : Dev nD) : iprop((ℓx d ↦{fullShare} x) ∗ (ℓinv d ↦{fullShare} imap s0 s1 k0 k1) ∗ ∃ f, ℓbuf d ↦{fullShare} f)
    ⊢ bigSep Finset.univ fun c : Fin 2 => st1 (F := F) x s0 s1 k0 k1 d c := by
  unfold st1
  rw [bigSep_sep', bigSep_sep', held_cores, held_cores]
  iintro ⟨Hx, Hi, %f, Hb⟩
  isplitl [Hx]; · iexact Hx
  isplitl [Hi]; · iexact Hi
  iapply (to_cores (ℓ := ℓbuf d) key256 f) $$ Hb
theorem dn1_all (d : Dev nD) : (bigSep Finset.univ fun c : Fin 2 => dn1 (F := F) x s0 s1 k0 k1 d c)
    = iprop((ℓx d ↦{fullShare} x) ∗ (ℓinv d ↦{fullShare} imap s0 s1 k0 k1) ∗ ℓbuf d ↦{fullShare} Dispatch.out d x (imap s0 s1 k0 k1)) := by
  unfold dn1
  rw [bigSep_sep', bigSep_sep', held_cores, held_cores, split_cores (ℓ := ℓbuf d) key256]

theorem st2_all (d : Dev nD) : iprop((ℓz d ↦{fullShare} z) ∗ (ℓs0 d ↦{fullShare} s0) ∗ (ℓs1 d ↦{fullShare} s1) ∗ (∃ f, ℓy0 d ↦{fullShare} f) ∗ ∃ f, ℓy1 d ↦{fullShare} f)
    ⊢ bigSep Finset.univ fun c : Fin 2 => st2 (F := F) s0 s1 z d c := by
  unfold st2
  rw [bigSep_sep', bigSep_sep', bigSep_sep', bigSep_sep', held_cores, held_cores, held_cores]
  iintro ⟨Hz, Ha, Hb, ⟨%f, Hu⟩, %g, Hv⟩
  isplitl [Hz]; · iexact Hz
  isplitl [Ha]; · iexact Ha
  isplitl [Hb]; · iexact Hb
  isplitl [Hu]
  · iapply (to_cores (ℓ := ℓy0 d) key64 f) $$ Hu
  · iapply (to_cores (ℓ := ℓy1 d) key64 g) $$ Hv
theorem dn2_all (d : Dev nD) : (bigSep Finset.univ fun c : Fin 2 => dn2 (F := F) s0 s1 z d c)
    = iprop((ℓz d ↦{fullShare} z) ∗ (ℓs0 d ↦{fullShare} s0) ∗ (ℓs1 d ↦{fullShare} s1) ∗ (ℓy0 d ↦{fullShare} Combine.out d z s0) ∗ ℓy1 d ↦{fullShare} Combine.out d z s1) := by
  unfold dn2
  rw [bigSep_sep', bigSep_sep', bigSep_sep', bigSep_sep', held_cores, held_cores, held_cores, split_cores (ℓ := ℓy0 d) key64, split_cores (ℓ := ℓy1 d) key64]

end Calls

end Cert.Proof
-- ==== Proof.Spec.lean ====
/-
  What the program's arrays hold, each as a function of the four arguments.
-/
module

public import proofs.«01_k».proof.Proof.Reg0
public import proofs.«01_k».proof.Proof.Reg3
public import proofs.«01_k».proof.Proof.Reg5
public import proofs.«01_k».proof.Proof.Calls

@[expose] public section

noncomputable section

namespace Cert.Proof

open Cert.KernelIdeal Cert.KernelIdeal.Gen
open Idealize.ShloMosaic

variable {F : FTy → Type} [FloatOps F]

namespace Spec

section
variable (A0 : Vec F S1x2048x1024 .f32) (A1 : Vec F S1024x8 .f32) (A2 : Vec F S8x1024x4096 .f32) (A3 : Vec F S8x4096x1024 .f32)

/-- The tokens. -/
def x : Vec F S2048x1024 .f32 := shapeCast S2048x1024 A0 shapeCasts_S1x2048x1024_S2048x1024
/-- Each token's two slots, and whether they are kept. -/
def s0 : IVec S2048 32 := shapeCast S2048 (Router.slot0 (x A0) A1) shapeCasts_S2048x1_S2048
def s1 : IVec S2048 32 := shapeCast S2048 (Router.slot1 (x A0) A1) shapeCasts_S2048x1_S2048
def k0 : IVec S2048 32 := shapeCast S2048 (Router.keep0 (x A0) A1) shapeCasts_S2048x1_S2048
def k1 : IVec S2048 32 := shapeCast S2048 (Router.keep1 (x A0) A1) shapeCasts_S2048x1_S2048
/-- Each slot's token. -/
def inv : IVec S8192 32 := imap (s0 A0 A1) (s1 A0 A1) (k0 A0 A1) (k1 A0 A1)
/-- The tokens by slot. -/
def buf : Vec F S8192x1024 .f32 := rowsBy (n := 2048) (c := 1024) (r := 8192) (x A0) (inv A0 A1)
def xb : Vec F S8x1024x1024 .f32 := shapeCast S8x1024x1024 (buf A0 A1) shapeCasts_S8192x1024_S8x1024x1024
/-- The experts' counts. -/
def ct : IVec S8 32 := shapeCast S8 (Router.cnt (x A0) A1) shapeCasts_S1x8_S8
/-- The experts' results by slot. -/
def h : Vec F S8x1024x1024 .f32 := Ffn.out (xb A0 A1) A2 A3 (ct A0 A1)
def z : Vec F S8192x1024 .f32 := shapeCast S8192x1024 (h A0 A1 A2 A3) shapeCasts_S8x1024x1024_S8192x1024
/-- The results of each token's two slots. -/
def y0 : Vec F S2048x1024 .f32 := rowsBy (n := 8192) (c := 1024) (r := 2048) (z A0 A1 A2 A3) (s0 A0 A1)
def y1 : Vec F S2048x1024 .f32 := rowsBy (n := 8192) (c := 1024) (r := 2048) (z A0 A1 A2 A3) (s1 A0 A1)
def r : Vec F S2048x1024 .f32 := Wsum.out (y0 A0 A1 A2 A3) (y1 A0 A1 A2 A3) (Router.wt0 (x A0) A1) (Router.wt1 (x A0) A1)
def result : Vec F S1x2048x1024 .f32 := shapeCast S1x2048x1024 (r A0 A1 A2 A3) shapeCasts_S2048x1024_S1x2048x1024

theorem clip_lt (v : BitVec 32) : (IntOp.minsi 8191#32 (IntOp.maxsi 0#32 v)).toNat < 8192 := by
  simp only [IntOp.minsi, IntOp.maxsi, BitVec.slt_eq_decide, BitVec.sle_eq_decide]
  repeat' split
  all_goals simp_all [BitVec.toInt_eq_toNat_cond]
  all_goals omega

theorem s0_lt (y : S2048.Idx) : (s0 A0 A1 y).toNat < 8192 := clip_lt _
theorem s1_lt (y : S2048.Idx) : (s1 A0 A1 y).toNat < 8192 := clip_lt _
end

end Spec

end Cert.Proof
-- ==== Proof.Host.lean ====
/-
  A reshape in `@main`, and a pipeline's arrays as whole buffers.
-/
module

public import proofs.«01_k».proof.Proof.Common

@[expose] public section

noncomputable section

namespace Cert.Proof

open Cert.KernelIdeal Cert.KernelIdeal.Gen
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat)

variable {F : FTy → Type} [FloatOps F]

/-- A reshape: the source stays, the destination holds its elements in order. -/
theorem wp_reshape [∀ e, Nonempty (Elt F e)] (d : Dev nD) (x y : Ref sig .tc) (hxy : x ≠ y) (he : x.ty.elt = y.ty.elt) (hn : x.ty.shape.ShapeCasts y.ty.shape)
    (hx : x.space ≠ .host ∧ (Proc.devRef .tc x : DevRef τ sig).isScoped = false) (hy : y.space ≠ .host ∧ (Proc.devRef .tc y : DevRef τ sig).isScoped = false)
    (v : Buf (Elt F) ((SparseCore.T d).loc x)) (f w : Buf (Elt F) ((SparseCore.T d).loc y))
    (hw : w = fun i => he ▸ shapeCast y.ty.shape (v : x.ty.Contents (Elt F)) hn i) {Q : PUnit → sProp (MM F)} :
    iprop(boundary (SparseCore.T d) ∗ ((SparseCore.T d).loc x ↦{fullShare} v) ∗ ((SparseCore.T d).loc y ↦{fullShare} f)
        ∗ (iprop(boundary (SparseCore.T d) ∗ ((SparseCore.T d).loc x ↦{fullShare} v) ∗ ((SparseCore.T d).loc y ↦{fullShare} w)) -∗ Q ⟨⟩))
      ⊢ wp frame (wpE ((K (F := F)).defs (D (F := F))) 𝒱 (SparseCore.T d) none) Set.univ
          (hlo rfl (StableHlo.reshape (τ := τ) (Val := Elt F) x y he hn hx hy) (fun _ => .ret ⟨⟩)) Q := by
  have hne : (Proc.devRef .tc x : DevRef τ sig) ≠ Proc.devRef .tc y := fun h => hxy (Proc.devRef_injective _ h)
  let V0 : Valuation τ sig (Elt F) := fun b _ => Classical.arbitrary _
  let V : Valuation τ sig (Elt F) := Function.update (Function.update V0 (Proc.devRef .tc x) v) (Proc.devRef .tc y) f
  have hVx : V (Proc.devRef .tc x) = v := (Function.update_of_ne hne _ _).trans (Function.update_self _ _ _)
  have hVy : V (Proc.devRef .tc y) = f := Function.update_self _ _ _
  have hRy : (StableHlo.reshape (τ := τ) (Val := Elt F) x y he hn hx hy).result V (Proc.devRef .tc y) = w := by
    rw [StableHlo.reshape_result, hVx, hw]
  have hRx : (StableHlo.reshape (τ := τ) (Val := Elt F) x y he hn hx hy).result V (Proc.devRef .tc x) = v :=
    (HloOp.result_of_not_mem _ _ (by rw [StableHlo.reshape_writes]; simpa using hne)).trans hVx
  have hheld : ∀ W : Valuation τ sig (Elt F), (StableHlo.held (SparseCore.T d) (StableHlo.reshape (τ := τ) (Val := Elt F) x y he hn hx hy).bufs W : sProp (MM F))
      = iprop(((SparseCore.T d).loc x ↦{fullShare} W (Proc.devRef .tc x)) ∗ ((SparseCore.T d).loc y ↦{fullShare} W (Proc.devRef .tc y))) := fun W => by
    rw [StableHlo.reshape_bufs]
    unfold StableHlo.held
    rw [SparseCore.bigSep_insert' (by simpa using hne), bigSep_singleton]
  iintro ⟨Hb, Hx, Hy, Hk⟩
  iapply (StableHlo.wp_hlo_within 𝒱 (SparseCore.T d) none Set.univ (op := StableHlo.reshape (τ := τ) (Val := Elt F) x y he hn hx hy) (Finset.Subset.refl _) (V := V)) $$ [Hb Hx Hy]
  · rw [hheld, hVx, hVy]
    isplitl [Hb]; · iexact Hb
    isplitl [Hx] <;> iassumption
  rw [hheld, hRx, hRy]
  iintro ⟨Hb, Hx, Hy⟩
  rw [wp_ret]; imodintro
  iapply Hk
  isplitl [Hb]; · iexact Hb
  isplitl [Hx] <;> iassumption

/-- A pipeline's arrays, each a whole buffer held at the full share. -/
theorem arrays_whole {cfg : Pipeline.Cfg sig Λ₀} {c : Dev nD} (dat : Dat τ (Elt F) (HIx 3) ℕ UU ℕ cfg c) (harr : ∀ w, (cfg.win w).arr.IsWhole)
    (hs : ∀ w, dat.share w = fullShare) (G : (w : Fin cfg.W) → Buf (Elt F) ((cfg.win w).arr.view.loc (c.tc : Thread nD τ))) :
    dat.arrays G = bigSep Finset.univ fun w => ((cfg.win w).arr.view.loc (c.tc : Thread nD τ) ↦{fullShare} G w : sProp (MM F)) := by
  unfold Dat.arrays
  exact bigSep_congr fun w _ => by rw [(harr w).set_eq_univ, hs]

end Cert.Proof
-- ==== Proof.Stages.lean ====
/-
  The pipelines' arrays one by one, and a pipeline's step in @main over them.
-/
module

public import proofs.«01_k».proof.Proof.Spec
public import proofs.«01_k».proof.Proof.Host

@[expose] public section

noncomputable section

namespace Cert.Proof

open Cert.KernelIdeal Cert.KernelIdeal.Gen
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat)

variable {F : FTy → Type} [FloatOps F]

/-! ## The regions -/

/-- The core's state, for a step entered before call `n`. -/
abbrev st (n : ℕ) : sProp (MM F) := iprop(boundary (SparseCore.T (0 : Dev nD)) ∗ (K (F := F)).tcSt EH 0 n)

abbrev loc0 (b : Ref sig .tc) : Loc nD τ sig := (SparseCore.T (0 : Dev nD)).loc b

/-- A region, its arrays before and after as whatever they amount to. -/
theorem region (a : (p : Fin 3) → (pcfgs (F := F) p).Adm) (pdats : (p : Fin 3) → (c : Dev nD) → Dat τ (Elt F) (HIx 3) ℕ UU ℕ (Pipeline.pin pcfgs a p) c)
    [∀ e, Nonempty (Elt F e)] (p : Fin 3) (n : ℕ) (kit : Pipeline.PLaunchFacts (nD := nD) (τ := τ) (pcfgs (F := F)) p)
    (hbody : ∀ c, Pipeline.BodyObligationLoose (pdats p c) (defs₀ (F := F)) 𝒱₀ (none : HIx 3) Set.univ)
    (howed : ∀ c t, (pdats p c).owed t = (K (F := F)).Otc c n) (hrec : ∀ c t, (pdats p c).recorded t = below (F := F) c n)
    (hΦ : ∀ c t, (pdats p c).Φ t = inv a p c) {I O : sProp (MM F)}
    (hin : I ⊢ iprop((pdats p 0).arrays ((pdats p 0).arrAt · 0) ∗ Pipeline.prefHeld (pcfgs (F := F) p).pre (0 : Dev nD) (fun _ => fullShare) (a p).1))
    (hout : iprop((pdats p 0).arrays ((pdats p 0).arrAt · (Pipeline.pin (pcfgs (F := F)) a p).N) ∗ Pipeline.prefHeld (pcfgs (F := F) p).pre (0 : Dev nD) (fun _ => fullShare) (a p).1) ⊢ O)
    {Q : PUnit → sProp (MM F)} :
    iprop(st n ∗ levAts (K (F := F)).L (K (F := F)).lev ∗ ghost a p 0 ∗ I ∗ (iprop(st n ∗ O) -∗ Q ⟨⟩))
      ⊢ wp frame (wpE ((K (F := F)).defs (D (F := F))) 𝒱 (SparseCore.T 0) none) Set.univ (Prog.lift (.customCall (SparseCore.inner (Pipeline.entry p)) ())) Q := by
  refine BIBase.Entails.trans ?_ (wp_region a pdats p n kit hbody howed hrec hΦ 0)
  refine BIBase.Entails.trans (sep_mono_right (sep_mono_right (sep_mono_right (sep_mono_left hin)))) ?_
  iintro ⟨⟨Hb, Ht⟩, Hl, Hg, ⟨HA, HP⟩, Hk⟩
  isplitl [Hb]; · iexact Hb
  isplitl [Ht]; · iexact Ht
  isplitl [Hl]; · iexact Hl
  isplitl [Hg]; · iexact Hg
  isplitl [HA]; · iexact HA
  isplitl [HP]; · iexact HP
  iintro ⟨Hb, Ht, HA, HP⟩
  iapply Hk
  isplitl [Hb Ht]
  · isplitl [Hb] <;> iassumption
  iapply hout
  isplitl [HA] <;> iassumption

section
variable (x : Vec F S2048x1024 .f32) (w : Vec F S1024x8 .f32) (o2 o3 o4 o5 : IVec S2048x1 32) (o6 o7 : Vec F S2048x1 .f32) (o8 : IVec S1x8 32) (a : (p : Fin 3) → (pcfgs (F := F) p).Adm)

theorem arrays0 (G) : (Router.dat x w o2 o3 o4 o5 o6 o7 o8 a 0).arrays G = (iprop((loc0 main_v0 ↦{fullShare} G (0 : Fin 9))
      ∗ (loc0 main_arg1 ↦{fullShare} G (1 : Fin 9))
      ∗ (loc0 main_v1_0 ↦{fullShare} G (2 : Fin 9))
      ∗ (loc0 main_v1_1 ↦{fullShare} G (3 : Fin 9))
      ∗ (loc0 main_v1_2 ↦{fullShare} G (4 : Fin 9))
      ∗ (loc0 main_v1_3 ↦{fullShare} G (5 : Fin 9))
      ∗ (loc0 main_v1_4 ↦{fullShare} G (6 : Fin 9))
      ∗ (loc0 main_v1_5 ↦{fullShare} G (7 : Fin 9))
      ∗ (loc0 main_v1_6 ↦{fullShare} G (8 : Fin 9))) : sProp (MM F)) :=
  (arrays_whole (Router.dat x w o2 o3 o4 o5 o6 o7 o8 a 0) (launch0 (F := F)).arr_whole (fun w' => Dat.share_full _ (fun _ => rfl) w') G).trans (bigSep_W0 _)

theorem arrays0_in : (iprop((loc0 main_v0 ↦{fullShare} x)
      ∗ (loc0 main_arg1 ↦{fullShare} w)
      ∗ (loc0 main_v1_0 ↦{fullShare} o2)
      ∗ (loc0 main_v1_1 ↦{fullShare} o3)
      ∗ (loc0 main_v1_2 ↦{fullShare} o4)
      ∗ (loc0 main_v1_3 ↦{fullShare} o5)
      ∗ (loc0 main_v1_4 ↦{fullShare} o6)
      ∗ (loc0 main_v1_5 ↦{fullShare} o7)
      ∗ (loc0 main_v1_6 ↦{fullShare} o8)) : sProp (MM F)) ⊢ (Router.dat x w o2 o3 o4 o5 o6 o7 o8 a 0).arrays ((Router.dat x w o2 o3 o4 o5 o6 o7 o8 a 0).arrAt · 0) := by
  rw [arrays0]; exact BIBase.Entails.refl

theorem arrays0_out : (Router.dat x w o2 o3 o4 o5 o6 o7 o8 a 0).arrays ((Router.dat x w o2 o3 o4 o5 o6 o7 o8 a 0).arrAt · (cfg0).N) ⊢ (iprop((loc0 main_v0 ↦{fullShare} x)
      ∗ (loc0 main_arg1 ↦{fullShare} w)
      ∗ (loc0 main_v1_0 ↦{fullShare} Router.slot0 x w)
      ∗ (loc0 main_v1_1 ↦{fullShare} Router.slot1 x w)
      ∗ (loc0 main_v1_2 ↦{fullShare} Router.keep0 x w)
      ∗ (loc0 main_v1_3 ↦{fullShare} Router.keep1 x w)
      ∗ (loc0 main_v1_4 ↦{fullShare} Router.wt0 x w)
      ∗ (loc0 main_v1_5 ↦{fullShare} Router.wt1 x w)
      ∗ (loc0 main_v1_6 ↦{fullShare} Router.cnt x w)) : sProp (MM F)) := by
  obtain ⟨r2, r3, r4, r5, r6, r7, r8⟩ := Router.result x w o2 o3 o4 o5 o6 o7 o8 a 0
  obtain ⟨e0, e1⟩ := Router.kept x w o2 o3 o4 o5 o6 o7 o8 a 0 cfg0.N
  rw [arrays0, r2, r3, r4, r5, r6, r7, r8, e0, e1]
end

section
variable (x : Vec F S8x1024x1024 .f32) (w1 : Vec F S8x1024x4096 .f32) (w2 : Vec F S8x4096x1024 .f32) (o : Vec F S8x1024x1024 .f32) (a : (p : Fin 3) → (pcfgs (F := F) p).Adm)

theorem arrays3 (G) : (Ffn.dat x w1 w2 o a 0).arrays G = (iprop((loc0 main_v8 ↦{fullShare} G (0 : Fin 4))
      ∗ (loc0 main_arg2 ↦{fullShare} G (1 : Fin 4))
      ∗ (loc0 main_arg3 ↦{fullShare} G (2 : Fin 4))
      ∗ (loc0 main_v10 ↦{fullShare} G (3 : Fin 4))) : sProp (MM F)) :=
  (arrays_whole (Ffn.dat x w1 w2 o a 0) (launch3 (F := F)).arr_whole (fun w' => Dat.share_full _ (fun _ => rfl) w') G).trans (bigSep_W3 _)

theorem arrays3_in : (iprop((loc0 main_v8 ↦{fullShare} x)
      ∗ (loc0 main_arg2 ↦{fullShare} w1)
      ∗ (loc0 main_arg3 ↦{fullShare} w2)
      ∗ (loc0 main_v10 ↦{fullShare} o)) : sProp (MM F)) ⊢ (Ffn.dat x w1 w2 o a 0).arrays ((Ffn.dat x w1 w2 o a 0).arrAt · 0) := by
  rw [arrays3]; exact BIBase.Entails.refl

theorem arrays3_out : (Ffn.dat x w1 w2 o a 0).arrays ((Ffn.dat x w1 w2 o a 0).arrAt · (cfg3 (F := F) (a 1)).N) ⊢ (iprop((loc0 main_v8 ↦{fullShare} x)
      ∗ (loc0 main_arg2 ↦{fullShare} w1)
      ∗ (loc0 main_arg3 ↦{fullShare} w2)
      ∗ (loc0 main_v10 ↦{fullShare} Ffn.out x w1 w2 (Ffn.tbl a))) : sProp (MM F)) := by
  obtain ⟨e0, e1, e2⟩ := Ffn.kept x w1 w2 o a 0 (cfg3 (F := F) (a 1)).N
  rw [arrays3, Ffn.result, e0, e1, e2]
end

section
variable (y0 y1 : Vec F S2048x1024 .f32) (w0 w1 : Vec F S2048x1 .f32) (o : Vec F S2048x1024 .f32) (a : (p : Fin 3) → (pcfgs (F := F) p).Adm)

theorem arrays5 (G) : (Wsum.dat y0 y1 w0 w1 o a 0).arrays G = (iprop((loc0 main_v12_0 ↦{fullShare} G (0 : Fin 5))
      ∗ (loc0 main_v12_1 ↦{fullShare} G (1 : Fin 5))
      ∗ (loc0 main_v1_4 ↦{fullShare} G (2 : Fin 5))
      ∗ (loc0 main_v1_5 ↦{fullShare} G (3 : Fin 5))
      ∗ (loc0 main_v13 ↦{fullShare} G (4 : Fin 5))) : sProp (MM F)) :=
  (arrays_whole (Wsum.dat y0 y1 w0 w1 o a 0) (launch5 (F := F)).arr_whole (fun w' => Dat.share_full _ (fun _ => rfl) w') G).trans (bigSep_W5 _)

theorem arrays5_in : (iprop((loc0 main_v12_0 ↦{fullShare} y0)
      ∗ (loc0 main_v12_1 ↦{fullShare} y1)
      ∗ (loc0 main_v1_4 ↦{fullShare} w0)
      ∗ (loc0 main_v1_5 ↦{fullShare} w1)
      ∗ (loc0 main_v13 ↦{fullShare} o)) : sProp (MM F)) ⊢ (Wsum.dat y0 y1 w0 w1 o a 0).arrays ((Wsum.dat y0 y1 w0 w1 o a 0).arrAt · 0) := by
  rw [arrays5]; exact BIBase.Entails.refl

theorem arrays5_out : (Wsum.dat y0 y1 w0 w1 o a 0).arrays ((Wsum.dat y0 y1 w0 w1 o a 0).arrAt · (cfg5).N) ⊢ (iprop((loc0 main_v12_0 ↦{fullShare} y0)
      ∗ (loc0 main_v12_1 ↦{fullShare} y1)
      ∗ (loc0 main_v1_4 ↦{fullShare} w0)
      ∗ (loc0 main_v1_5 ↦{fullShare} w1)
      ∗ (loc0 main_v13 ↦{fullShare} Wsum.out y0 y1 w0 w1)) : sProp (MM F)) := by
  obtain ⟨e0, e1, e2, e3⟩ := Wsum.kept y0 y1 w0 w1 o a 0 cfg5.N
  rw [arrays5, Wsum.result, e0, e1, e2, e3]
end

/-! ## The pipelines, whatever the others hold -/

section Stages
variable (a : (p : Fin 3) → (pcfgs (F := F) p).Adm)
  (D0 : (c : Dev nD) → Dat τ (Elt F) (HIx 3) ℕ UU ℕ cfg0 c) (D1 : (c : Dev nD) → Dat τ (Elt F) (HIx 3) ℕ UU ℕ (cfg3 (a 1)) c)
  (D2 : (c : Dev nD) → Dat τ (Elt F) (HIx 3) ℕ UU ℕ cfg5 c)

def pd : (p : Fin 3) → (c : Dev nD) → Dat τ (Elt F) (HIx 3) ℕ UU ℕ (Pipeline.pin pcfgs a p) c := fun p c => match p with
  | 0 => D0 c
  | 1 => D1 c
  | 2 => D2 c

theorem pref0 : (Pipeline.prefHeld (pcfgs (F := F) 0).pre (0 : Dev nD) (fun _ => fullShare) (a 0).1 : sProp (MM F)) = iprop(emp) := Pipeline.prefHeld_of_none _ rfl _ _ _
theorem pref5 : (Pipeline.prefHeld (pcfgs (F := F) 2).pre (0 : Dev nD) (fun _ => fullShare) (a 2).1 : sProp (MM F)) = iprop(emp) := Pipeline.prefHeld_of_none _ rfl _ _ _
theorem pref3 : (Pipeline.prefHeld (pcfgs (F := F) 1).pre (0 : Dev nD) (fun _ => fullShare) (a 1).1 : sProp (MM F)) = iprop(loc0 main_v9 ↦{fullShare} Ffn.tbl a) :=
  bigSep_univ_eq_bigSepL [(0 : Fin 1)] (by decide) (by decide) (fun k : Fin 1 => (loc0 (pre3.ref k) ↦{fullShare} (a 1).1 k : sProp (MM F)))

theorem emp_right (A : sProp (MM F)) : iprop(A ∗ emp) = A := BI.equiv_iff.mp BI.sep_emp

variable [∀ e, Nonempty (Elt F e)]

include D1 D2 in
/-- The router. -/
theorem stage0 (x : Vec F S2048x1024 .f32) (w : Vec F S1024x8 .f32) (o2 o3 o4 o5 : IVec S2048x1 32) (o6 o7 : Vec F S2048x1 .f32) (o8 : IVec S1x8 32) {Q : PUnit → sProp (MM F)} :
    iprop(st 0 ∗ levAts (K (F := F)).L (K (F := F)).lev ∗ ghost a 0 0 ∗ ((loc0 main_v0 ↦{fullShare} x)
      ∗ (loc0 main_arg1 ↦{fullShare} w)
      ∗ (loc0 main_v1_0 ↦{fullShare} o2)
      ∗ (loc0 main_v1_1 ↦{fullShare} o3)
      ∗ (loc0 main_v1_2 ↦{fullShare} o4)
      ∗ (loc0 main_v1_3 ↦{fullShare} o5)
      ∗ (loc0 main_v1_4 ↦{fullShare} o6)
      ∗ (loc0 main_v1_5 ↦{fullShare} o7)
      ∗ (loc0 main_v1_6 ↦{fullShare} o8))
        ∗ (iprop(st 0 ∗ ((loc0 main_v0 ↦{fullShare} x)
      ∗ (loc0 main_arg1 ↦{fullShare} w)
      ∗ (loc0 main_v1_0 ↦{fullShare} Router.slot0 x w)
      ∗ (loc0 main_v1_1 ↦{fullShare} Router.slot1 x w)
      ∗ (loc0 main_v1_2 ↦{fullShare} Router.keep0 x w)
      ∗ (loc0 main_v1_3 ↦{fullShare} Router.keep1 x w)
      ∗ (loc0 main_v1_4 ↦{fullShare} Router.wt0 x w)
      ∗ (loc0 main_v1_5 ↦{fullShare} Router.wt1 x w)
      ∗ (loc0 main_v1_6 ↦{fullShare} Router.cnt x w))) -∗ Q ⟨⟩))
      ⊢ wp frame (wpE ((K (F := F)).defs (D (F := F))) 𝒱 (SparseCore.T 0) none) Set.univ (Prog.lift (.customCall (SparseCore.inner (Pipeline.entry 0)) ())) Q :=
  region a (pd a (Router.dat x w o2 o3 o4 o5 o6 o7 o8 a) D1 D2) 0 0 launch0 (fun c => Router.obl x w o2 o3 o4 o5 o6 o7 o8 a c) (fun _ _ => rfl) (fun _ _ => rfl) (fun _ _ => rfl)
    (by rw [pref0, emp_right]; exact arrays0_in x w o2 o3 o4 o5 o6 o7 o8 a) (by rw [pref0, emp_right]; exact arrays0_out x w o2 o3 o4 o5 o6 o7 o8 a)

include D0 D2 in
/-- The experts. -/
theorem stage3 (x : Vec F S8x1024x1024 .f32) (w1 : Vec F S8x1024x4096 .f32) (w2 : Vec F S8x4096x1024 .f32) (o : Vec F S8x1024x1024 .f32) {Q : PUnit → sProp (MM F)} :
    iprop(st 2 ∗ levAts (K (F := F)).L (K (F := F)).lev ∗ ghost a 1 0 ∗ (((loc0 main_v8 ↦{fullShare} x)
      ∗ (loc0 main_arg2 ↦{fullShare} w1)
      ∗ (loc0 main_arg3 ↦{fullShare} w2)
      ∗ (loc0 main_v10 ↦{fullShare} o)) ∗ (loc0 main_v9 ↦{fullShare} Ffn.tbl a))
        ∗ (iprop(st 2 ∗ ((loc0 main_v8 ↦{fullShare} x)
      ∗ (loc0 main_arg2 ↦{fullShare} w1)
      ∗ (loc0 main_arg3 ↦{fullShare} w2)
      ∗ (loc0 main_v10 ↦{fullShare} Ffn.out x w1 w2 (Ffn.tbl a))) ∗ (loc0 main_v9 ↦{fullShare} Ffn.tbl a)) -∗ Q ⟨⟩))
      ⊢ wp frame (wpE ((K (F := F)).defs (D (F := F))) 𝒱 (SparseCore.T 0) none) Set.univ (Prog.lift (.customCall (SparseCore.inner (Pipeline.entry 1)) ())) Q :=
  region a (pd a D0 (Ffn.dat x w1 w2 o a) D2) 1 2 launch3 (fun c => Ffn.obl x w1 w2 o a c) (fun _ _ => rfl) (fun _ _ => rfl) (fun _ _ => rfl)
    (by rw [pref3]; exact sep_mono_left (arrays3_in x w1 w2 o a)) (by rw [pref3]; exact sep_mono_left (arrays3_out x w1 w2 o a))

include D0 D1 in
/-- The weighted sum. -/
theorem stage5 (y0 y1 : Vec F S2048x1024 .f32) (w0 w1 : Vec F S2048x1 .f32) (o : Vec F S2048x1024 .f32) {Q : PUnit → sProp (MM F)} :
    iprop(st 3 ∗ levAts (K (F := F)).L (K (F := F)).lev ∗ ghost a 2 0 ∗ ((loc0 main_v12_0 ↦{fullShare} y0)
      ∗ (loc0 main_v12_1 ↦{fullShare} y1)
      ∗ (loc0 main_v1_4 ↦{fullShare} w0)
      ∗ (loc0 main_v1_5 ↦{fullShare} w1)
      ∗ (loc0 main_v13 ↦{fullShare} o))
        ∗ (iprop(st 3 ∗ ((loc0 main_v12_0 ↦{fullShare} y0)
      ∗ (loc0 main_v12_1 ↦{fullShare} y1)
      ∗ (loc0 main_v1_4 ↦{fullShare} w0)
      ∗ (loc0 main_v1_5 ↦{fullShare} w1)
      ∗ (loc0 main_v13 ↦{fullShare} Wsum.out y0 y1 w0 w1))) -∗ Q ⟨⟩))
      ⊢ wp frame (wpE ((K (F := F)).defs (D (F := F))) 𝒱 (SparseCore.T 0) none) Set.univ (Prog.lift (.customCall (SparseCore.inner (Pipeline.entry 2)) ())) Q :=
  region a (pd a D0 D1 (Wsum.dat y0 y1 w0 w1 o a)) 2 3 launch5 (fun c => Wsum.obl y0 y1 w0 w1 o a c) (fun _ _ => rfl) (fun _ _ => rfl) (fun _ _ => rfl)
    (by rw [pref5, emp_right]; exact arrays5_in y0 y1 w0 w1 o a) (by rw [pref5, emp_right]; exact arrays5_out y0 y1 w0 w1 o a)
end Stages

end Cert.Proof
-- ==== Proof.Main.lean ====
/-
  @main: the reshapes, the three pipelines and the three SparseCore calls; and the program's run.
-/
module

public import proofs.«01_k».proof.Proof.Spec
public import proofs.«01_k».proof.Proof.Stages

@[expose] public section

noncomputable section

namespace Cert.Proof

open Cert.KernelIdeal Cert.KernelIdeal.Gen
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat)

variable {F : FTy → Type} [FloatOps F]

theorem unscoped_list : (Finset.univ.filter fun b : Ref sig .tc => ¬ b.isScoped) = [main_arg0, main_arg1, main_arg2, main_arg3, main_v0, main_v1_0, main_v1_1, main_v1_2, main_v1_3, main_v1_4, main_v1_5, main_v1_6, main_v2, main_v3, main_v4, main_v5, main_v6, main_v7, main_v8, main_v9, main_v10, main_v11, main_v12_0, main_v12_1, main_v13, main_v14].toFinset := by decide +kernel

theorem unscopedBufs_eq (W : (b : Ref sig .tc) → Buf (Elt F) (loc0 b)) :
    (unscopedBufs (0 : Dev nD) W : sProp (MM F)) = iprop((loc0 main_arg0 ↦{fullShare} W main_arg0) ∗ (loc0 main_arg1 ↦{fullShare} W main_arg1) ∗ (loc0 main_arg2 ↦{fullShare} W main_arg2) ∗ (loc0 main_arg3 ↦{fullShare} W main_arg3) ∗ (loc0 main_v0 ↦{fullShare} W main_v0) ∗ (loc0 main_v1_0 ↦{fullShare} W main_v1_0) ∗ (loc0 main_v1_1 ↦{fullShare} W main_v1_1) ∗ (loc0 main_v1_2 ↦{fullShare} W main_v1_2) ∗ (loc0 main_v1_3 ↦{fullShare} W main_v1_3) ∗ (loc0 main_v1_4 ↦{fullShare} W main_v1_4) ∗ (loc0 main_v1_5 ↦{fullShare} W main_v1_5) ∗ (loc0 main_v1_6 ↦{fullShare} W main_v1_6) ∗ (loc0 main_v2 ↦{fullShare} W main_v2) ∗ (loc0 main_v3 ↦{fullShare} W main_v3) ∗ (loc0 main_v4 ↦{fullShare} W main_v4) ∗ (loc0 main_v5 ↦{fullShare} W main_v5) ∗ (loc0 main_v6 ↦{fullShare} W main_v6) ∗ (loc0 main_v7 ↦{fullShare} W main_v7) ∗ (loc0 main_v8 ↦{fullShare} W main_v8) ∗ (loc0 main_v9 ↦{fullShare} W main_v9) ∗ (loc0 main_v10 ↦{fullShare} W main_v10) ∗ (loc0 main_v11 ↦{fullShare} W main_v11) ∗ (loc0 main_v12_0 ↦{fullShare} W main_v12_0) ∗ (loc0 main_v12_1 ↦{fullShare} W main_v12_1) ∗ (loc0 main_v13 ↦{fullShare} W main_v13) ∗ (loc0 main_v14 ↦{fullShare} W main_v14)) := by
  unfold unscopedBufs
  exact bigSep_eq_bigSepL_of_eq [main_arg0, main_arg1, main_arg2, main_arg3, main_v0, main_v1_0, main_v1_1, main_v1_2, main_v1_3, main_v1_4, main_v1_5, main_v1_6, main_v2, main_v3, main_v4, main_v5, main_v6, main_v7, main_v8, main_v9, main_v10, main_v11, main_v12_0, main_v12_1, main_v13, main_v14] unscoped_list (by decide +kernel) (fun b : Ref sig .tc => (loc0 b ↦{fullShare} W b : sProp (MM F)))

/-! ## The calls' resources, over the arrays -/

section Carried
variable (x : Vec F S2048x1024 .f32) (s0 s1 k0 k1 : IVec S2048 32) (z : Vec F S8192x1024 .f32)

theorem to0 : (Inv.given 0 s0 s1 k0 k1 : sProp (MM F)) ⊢ bigSep Finset.univ fun c : Fin ((K (F := F)).nCore 0) => (P x s0 s1 k0 k1 z).st 0 0 c :=
  Entails.of_eq (st0_all (F := F) s0 s1 k0 k1 0).symm
theorem of0 : (bigSep Finset.univ fun c : Fin ((K (F := F)).nCore 0) => (P x s0 s1 k0 k1 z).dn 0 0 c) ⊢ (Inv.taken 0 s0 s1 k0 k1 : sProp (MM F)) :=
  Entails.of_eq (dn0_all (F := F) s0 s1 k0 k1 0)
theorem to1 : iprop((ℓx 0 ↦{fullShare} x) ∗ (ℓinv 0 ↦{fullShare} imap s0 s1 k0 k1) ∗ ∃ f, ℓbuf 0 ↦{fullShare} f) ⊢ bigSep Finset.univ fun c : Fin ((K (F := F)).nCore 1) => (P x s0 s1 k0 k1 z).st 1 0 c :=
  st1_all (F := F) x s0 s1 k0 k1 0
theorem of1 : (bigSep Finset.univ fun c : Fin ((K (F := F)).nCore 1) => (P x s0 s1 k0 k1 z).dn 1 0 c)
    ⊢ (iprop((ℓx 0 ↦{fullShare} x) ∗ (ℓinv 0 ↦{fullShare} imap s0 s1 k0 k1) ∗ ℓbuf 0 ↦{fullShare} Dispatch.out 0 x (imap s0 s1 k0 k1)) : sProp (MM F)) :=
  Entails.of_eq (dn1_all (F := F) x s0 s1 k0 k1 0)
theorem to2 : iprop((ℓz 0 ↦{fullShare} z) ∗ (ℓs0 0 ↦{fullShare} s0) ∗ (ℓs1 0 ↦{fullShare} s1) ∗ (∃ f, ℓy0 0 ↦{fullShare} f) ∗ ∃ f, ℓy1 0 ↦{fullShare} f)
    ⊢ bigSep Finset.univ fun c : Fin ((K (F := F)).nCore 2) => (P x s0 s1 k0 k1 z).st 2 0 c :=
  st2_all (F := F) s0 s1 z 0
theorem of2 : (bigSep Finset.univ fun c : Fin ((K (F := F)).nCore 2) => (P x s0 s1 k0 k1 z).dn 2 0 c)
    ⊢ (iprop((ℓz 0 ↦{fullShare} z) ∗ (ℓs0 0 ↦{fullShare} s0) ∗ (ℓs1 0 ↦{fullShare} s1) ∗ (ℓy0 0 ↦{fullShare} Combine.out 0 z s0) ∗ ℓy1 0 ↦{fullShare} Combine.out 0 z s1) : sProp (MM F)) :=
  Entails.of_eq (dn2_all (F := F) s0 s1 z 0)
end Carried

section Run
variable (m : (ℓ : Loc nD τ sig) → Buf (Elt F) ℓ) (ρ : Dev nD → PrngReg)

/-! ## The arguments, the tables, what the calls carry -/

abbrev A0 : Vec F S1x2048x1024 .f32 := m (loc0 main_arg0)
abbrev A1 : Vec F S1024x8 .f32 := m (loc0 main_arg1)
abbrev A2 : Vec F S8x1024x4096 .f32 := m (loc0 main_arg2)
abbrev A3 : Vec F S8x4096x1024 .f32 := m (loc0 main_arg3)

/-- The tables: the experts' counts. -/
def tabs : (p : Fin 3) → (pcfgs (F := F) p).Adm := fun p => match p with
  | 0 => cfg0.toPCfg_adm
  | 1 => ⟨fun k => match k with | ⟨0, _⟩ => Spec.ct (A0 m) (A1 m), trivial⟩
  | 2 => cfg5.toPCfg_adm

abbrev Pm : (K (F := F)).Pay (nD := nD) (Val := Elt F) (Name := ℕ) (U := UU) :=
  P (Spec.x (A0 m)) (Spec.s0 (A0 m) (A1 m)) (Spec.s1 (A0 m) (A1 m)) (Spec.k0 (A0 m) (A1 m)) (Spec.k1 (A0 m) (A1 m)) (Spec.z (A0 m) (A1 m) (A2 m) (A3 m))

abbrev dats0 (c : Dev nD) := Router.dat (Spec.x (A0 m)) (A1 m) (m (loc0 main_v1_0)) (m (loc0 main_v1_1)) (m (loc0 main_v1_2)) (m (loc0 main_v1_3)) (m (loc0 main_v1_4)) (m (loc0 main_v1_5)) (m (loc0 main_v1_6)) (tabs m) c
abbrev dats3 (c : Dev nD) := Ffn.dat (Spec.xb (A0 m) (A1 m)) (A2 m) (A3 m) (m (loc0 main_v10)) (tabs m) c
abbrev dats5 (c : Dev nD) := Wsum.dat (Spec.y0 (A0 m) (A1 m) (A2 m) (A3 m)) (Spec.y1 (A0 m) (A1 m) (A2 m) (A3 m)) (Router.wt0 (Spec.x (A0 m)) (A1 m)) (Router.wt1 (Spec.x (A0 m)) (A1 m)) (m (loc0 main_v13)) (tabs m) c

/-! ## The launch's ghost state -/

def u₀ : UU := (initOf (K (F := F)).hsCells (K (F := F)).hsToks,
  initOf (Pipeline.cells (Pipeline.pin pcfgs (tabs m)) (cellOf_inj (tabs m))) (Pipeline.launchToks (Pipeline.pin pcfgs (tabs m)) (cellOf_inj (tabs m))), 1)

abbrev GG (d : Dev nD) : sProp (MM F) := iprop(ghost (tabs m) 0 d ∗ ghost (tabs m) 1 d ∗ ghost (tabs m) 2 d)

theorem ghosts : iprop((bigSep Finset.univ fun c : Dev nD => bigSep Finset.univ fun p : Fin 3 => Pipeline.cellsGhost (Pipeline.pin (pcfgs (F := F)) (tabs m)) EP p c)
      ∗ bigSep Finset.univ fun c : Dev nD => bigSep Finset.univ fun p : Fin 3 => Pipeline.toksInit (Pipeline.pin (pcfgs (F := F)) (tabs m)) EP p c)
    ⊢ (bigSep Finset.univ (GG m) : sProp (MM F)) := by
  refine (Entails.of_eq (bigSep_sep' _ _ _).symm).trans ?_
  refine bigSep_mono fun c _ => ?_
  refine (Entails.of_eq (bigSep_sep' _ _ _).symm).trans ?_
  rw [bigSep_univ_eq_bigSepL [(0 : Fin 3), 1, 2] (by decide) (by decide)]
  exact BIBase.Entails.refl

theorem hu₀ : (ownU (u₀ m) : sProp (MM F))
    ⊢ |={Set.univ}=> iprop(BI.own (EH (initOf (K (F := F)).hsCells (K (F := F)).hsToks)) ∗ (bigSep Finset.univ (GG m))
        ∗ bigSep Finset.univ fun thr : Thread nD τ => bigSep Finset.univ fun q : Fin 3 => (Pm m).x q thr) := by
  have hx : (bigSep Finset.univ fun thr : Thread nD τ => bigSep Finset.univ fun q : Fin 3 => (Pm m).x q thr) = (iprop(emp) : sProp (MM F)) :=
    (bigSep_congr fun _ _ => emp_all _).trans (emp_all _)
  rw [hx]
  unfold u₀
  iintro Hu
  ihave H := (ownU_pair _ _) $$ Hu
  icases H with ⟨HH, HR⟩
  ihave H := (own_pair_emb embR _ _) $$ HR
  icases H with ⟨HP, -⟩
  imod (Pipeline.fund_ghost (Pipeline.pin (pcfgs (F := F)) (tabs m)) EP (cellOf_inj (tabs m))) $$ HP with HG
  imodintro
  isplitl [HH]; · iexact HH
  isplitl [HG]; · iapply (ghosts m); iexact HG
  iempintro

/-! ## @main -/

variable [∀ e, Nonempty (Elt F e)]

abbrev FIN (d : Dev nD) : sProp (MM F) := iprop((loc0 main_arg0 ↦{fullShare} A0 m) ∗ (loc0 main_arg1 ↦{fullShare} A1 m) ∗ (loc0 main_arg2 ↦{fullShare} A2 m) ∗ (loc0 main_arg3 ↦{fullShare} A3 m)
  ∗ (loc0 main_v14 ↦{fullShare} Spec.result (A0 m) (A1 m) (A2 m) (A3 m)))

set_option maxRecDepth 8192 in
theorem hmain (κ : GSem nD τ sig → ℕ) (d : Dev nD) :
    iprop((K (F := F)).ctx EH (Pm m) κ ∗ (K (F := F)).tcSt EH d 0 ∗ (K (F := F)).tcRes m ρ d ∗ GG m d)
      ⊢ wp frame (wpE ((K (F := F)).defs (D (F := F))) 𝒱 (SparseCore.T d) none) Set.univ (main d)
          fun _ => iprop((K (F := F)).tcSt EH d 3 ∗ FIN m d ∗ (K (F := F)).tcEnd d) := by
  obtain rfl : d = 0 := Subsingleton.elim _ _
  unfold SparseCore.Cfg.tcRes SparseCore.Cfg.tcEnd
  rw [unscopedBufs_eq]
  simp only [main, wp_bind, wp_pure]
  iintro ⟨#Hctx, Hst, ⟨Hb, ⟨Harg0, Harg1, Harg2, Harg3, Hv0, Hv1_0, Hv1_1, Hv1_2, Hv1_3, Hv1_4, Hv1_5, Hv1_6, Hv2, Hv3, Hv4, Hv5, Hv6, Hv7, Hv8, Hv9, Hv10, Hv11, Hv12_0, Hv12_1, Hv13, Hv14⟩, Hts, -⟩, ⟨HG0, HG1, HG2⟩⟩
  ihave #Hl := ((K (F := F)).ctx_levAts κ) $$ Hctx
  iapply (wp_reshape (F := F) 0 main_arg0 main_v0 (by decide) rfl shapeCasts_S1x2048x1024_S2048x1024 _ _ (A0 m) (m (loc0 main_v0)) (Spec.x (A0 m)) rfl)
  isplitl [Hb]; · iexact Hb
  isplitl [Harg0]; · iexact Harg0
  isplitl [Hv0]; · iexact Hv0
  iintro ⟨Hb, Harg0, Hv0⟩
  iapply (stage0 (tabs m) (dats3 m) (dats5 m) (Spec.x (A0 m)) (A1 m) (m (loc0 main_v1_0)) (m (loc0 main_v1_1)) (m (loc0 main_v1_2)) (m (loc0 main_v1_3)) (m (loc0 main_v1_4)) (m (loc0 main_v1_5)) (m (loc0 main_v1_6)))
  isplitl [Hb Hst]
  · isplitl [Hb]; · iexact Hb
    iexact Hst
  isplitr; · iexact Hl
  isplitl [HG0]; · iexact HG0
  isplitl [Hv0 Harg1 Hv1_0 Hv1_1 Hv1_2 Hv1_3 Hv1_4 Hv1_5 Hv1_6]
  · isplitl [Hv0]; · iexact Hv0
    isplitl [Harg1]; · iexact Harg1
    isplitl [Hv1_0]; · iexact Hv1_0
    isplitl [Hv1_1]; · iexact Hv1_1
    isplitl [Hv1_2]; · iexact Hv1_2
    isplitl [Hv1_3]; · iexact Hv1_3
    isplitl [Hv1_4]; · iexact Hv1_4
    isplitl [Hv1_5]; · iexact Hv1_5
    iexact Hv1_6
  iintro ⟨⟨Hb, Hst⟩, Hv0, Harg1, Hv1_0, Hv1_1, Hv1_2, Hv1_3, Hv1_4, Hv1_5, Hv1_6⟩
  iapply (wp_reshape (F := F) 0 main_v1_0 main_v2 (by decide) rfl shapeCasts_S2048x1_S2048 _ _ (Router.slot0 (Spec.x (A0 m)) (A1 m)) (m (loc0 main_v2)) (Spec.s0 (A0 m) (A1 m)) rfl)
  isplitl [Hb]; · iexact Hb
  isplitl [Hv1_0]; · iexact Hv1_0
  isplitl [Hv2]; · iexact Hv2
  iintro ⟨Hb, Hv1_0, Hv2⟩
  iapply (wp_reshape (F := F) 0 main_v1_1 main_v3 (by decide) rfl shapeCasts_S2048x1_S2048 _ _ (Router.slot1 (Spec.x (A0 m)) (A1 m)) (m (loc0 main_v3)) (Spec.s1 (A0 m) (A1 m)) rfl)
  isplitl [Hb]; · iexact Hb
  isplitl [Hv1_1]; · iexact Hv1_1
  isplitl [Hv3]; · iexact Hv3
  iintro ⟨Hb, Hv1_1, Hv3⟩
  iapply (wp_reshape (F := F) 0 main_v1_2 main_v4 (by decide) rfl shapeCasts_S2048x1_S2048 _ _ (Router.keep0 (Spec.x (A0 m)) (A1 m)) (m (loc0 main_v4)) (Spec.k0 (A0 m) (A1 m)) rfl)
  isplitl [Hb]; · iexact Hb
  isplitl [Hv1_2]; · iexact Hv1_2
  isplitl [Hv4]; · iexact Hv4
  iintro ⟨Hb, Hv1_2, Hv4⟩
  iapply (wp_reshape (F := F) 0 main_v1_3 main_v5 (by decide) rfl shapeCasts_S2048x1_S2048 _ _ (Router.keep1 (Spec.x (A0 m)) (A1 m)) (m (loc0 main_v5)) (Spec.k1 (A0 m) (A1 m)) rfl)
  isplitl [Hb]; · iexact Hb
  isplitl [Hv1_3]; · iexact Hv1_3
  isplitl [Hv5]; · iexact Hv5
  iintro ⟨Hb, Hv1_3, Hv5⟩
  iapply ((K (F := F)).wp_run (D (F := F)) 𝒱 (EH := EH) (P := Pm m) κ 0 0)
  isplitr; · iexact Hctx
  isplitl [Hst]; · iexact Hst
  isplitl [Hv2 Hv3 Hv4 Hv5 Hv6]
  · iapply (to0 (F := F))
    unfold Inv.given
    isplitl [Hv2]; · iexact Hv2
    isplitl [Hv3]; · iexact Hv3
    isplitl [Hv4]; · iexact Hv4
    isplitl [Hv5]; · iexact Hv5
    iexists _; iexact Hv6
  iintro ⟨Hst, Hdn⟩
  ihave Hdn := (of0 (F := F) _ _ _ _ _ _) $$ Hdn
  icases Hdn with ⟨Hv2, Hv3, Hv4, Hv5, Hv6⟩
  iapply ((K (F := F)).wp_run (D (F := F)) 𝒱 (EH := EH) (P := Pm m) κ 0 1)
  isplitr; · iexact Hctx
  isplitl [Hst]; · iexact Hst
  isplitl [Hv0 Hv6 Hv7]
  · iapply (to1 (F := F))
    isplitl [Hv0]; · iexact Hv0
    isplitl [Hv6]; · iexact Hv6
    iexists _; iexact Hv7
  iintro ⟨Hst, Hdn⟩
  ihave Hdn := (of1 (F := F) _ _ _ _ _ _) $$ Hdn
  icases Hdn with ⟨Hv0, Hv6, Hv7⟩
  iapply (wp_reshape (F := F) 0 main_v7 main_v8 (by decide) rfl shapeCasts_S8192x1024_S8x1024x1024 _ _ (Spec.buf (A0 m) (A1 m)) (m (loc0 main_v8)) (Spec.xb (A0 m) (A1 m)) rfl)
  isplitl [Hb]; · iexact Hb
  isplitl [Hv7]; · iexact Hv7
  isplitl [Hv8]; · iexact Hv8
  iintro ⟨Hb, Hv7, Hv8⟩
  iapply (wp_reshape (F := F) 0 main_v1_6 main_v9 (by decide) rfl shapeCasts_S1x8_S8 _ _ (Router.cnt (Spec.x (A0 m)) (A1 m)) (m (loc0 main_v9)) (Spec.ct (A0 m) (A1 m)) rfl)
  isplitl [Hb]; · iexact Hb
  isplitl [Hv1_6]; · iexact Hv1_6
  isplitl [Hv9]; · iexact Hv9
  iintro ⟨Hb, Hv1_6, Hv9⟩
  iapply (stage3 (tabs m) (dats0 m) (dats5 m) (Spec.xb (A0 m) (A1 m)) (A2 m) (A3 m) (m (loc0 main_v10)))
  isplitl [Hb Hst]
  · isplitl [Hb]; · iexact Hb
    iexact Hst
  isplitr; · iexact Hl
  isplitl [HG1]; · iexact HG1
  isplitl [Hv8 Harg2 Harg3 Hv10 Hv9]
  · isplitr [Hv9]
    · isplitl [Hv8]; · iexact Hv8
      isplitl [Harg2]; · iexact Harg2
      isplitl [Harg3]; · iexact Harg3
      iexact Hv10
    iexact Hv9
  iintro ⟨⟨Hb, Hst⟩, ⟨Hv8, Harg2, Harg3, Hv10⟩, Hv9⟩
  iapply (wp_reshape (F := F) 0 main_v10 main_v11 (by decide) rfl shapeCasts_S8x1024x1024_S8192x1024 _ _ (Spec.h (A0 m) (A1 m) (A2 m) (A3 m)) (m (loc0 main_v11)) (Spec.z (A0 m) (A1 m) (A2 m) (A3 m)) rfl)
  isplitl [Hb]; · iexact Hb
  isplitl [Hv10]; · iexact Hv10
  isplitl [Hv11]; · iexact Hv11
  iintro ⟨Hb, Hv10, Hv11⟩
  iapply ((K (F := F)).wp_run (D (F := F)) 𝒱 (EH := EH) (P := Pm m) κ 0 2)
  isplitr; · iexact Hctx
  isplitl [Hst]; · iexact Hst
  isplitl [Hv11 Hv2 Hv3 Hv12_0 Hv12_1]
  · iapply (to2 (F := F))
    isplitl [Hv11]; · iexact Hv11
    isplitl [Hv2]; · iexact Hv2
    isplitl [Hv3]; · iexact Hv3
    isplitl [Hv12_0]
    · iexists _; iexact Hv12_0
    iexists _; iexact Hv12_1
  iintro ⟨Hst, Hdn⟩
  ihave Hdn := (of2 (F := F) _ _ _ _ _ _) $$ Hdn
  icases Hdn with ⟨Hv11, Hv2, Hv3, Hv12_0, Hv12_1⟩
  iapply (stage5 (tabs m) (dats0 m) (dats3 m) (Spec.y0 (A0 m) (A1 m) (A2 m) (A3 m)) (Spec.y1 (A0 m) (A1 m) (A2 m) (A3 m)) (Router.wt0 (Spec.x (A0 m)) (A1 m)) (Router.wt1 (Spec.x (A0 m)) (A1 m)) (m (loc0 main_v13)))
  isplitl [Hb Hst]
  · isplitl [Hb]; · iexact Hb
    iexact Hst
  isplitr; · iexact Hl
  isplitl [HG2]; · iexact HG2
  isplitl [Hv12_0 Hv12_1 Hv1_4 Hv1_5 Hv13]
  · isplitl [Hv12_0]; · iexact Hv12_0
    isplitl [Hv12_1]; · iexact Hv12_1
    isplitl [Hv1_4]; · iexact Hv1_4
    isplitl [Hv1_5]; · iexact Hv1_5
    iexact Hv13
  iintro ⟨⟨Hb, Hst⟩, Hv12_0, Hv12_1, Hv1_4, Hv1_5, Hv13⟩
  iapply (wp_reshape (F := F) 0 main_v13 main_v14 (by decide) rfl shapeCasts_S2048x1024_S1x2048x1024 _ _ (Spec.r (A0 m) (A1 m) (A2 m) (A3 m)) (m (loc0 main_v14)) (Spec.result (A0 m) (A1 m) (A2 m) (A3 m)) rfl)
  isplitl [Hb]; · iexact Hb
  isplitl [Hv13]; · iexact Hv13
  isplitl [Hv14]; · iexact Hv14
  iintro ⟨Hb, Hv13, Hv14⟩
  imodintro
  isplitl [Hst]; · iexact Hst
  isplitr [Hb Hts]
  · isplitl [Harg0]; · iexact Harg0
    isplitl [Harg1]; · iexact Harg1
    isplitl [Harg2]; · iexact Harg2
    isplitl [Harg3]; · iexact Harg3
    iexact Hv14
  isplitl [Hb] <;> iassumption

def fq (d : Dev nD) (s' : Phys nD τ sig (Elt F)) : Prop :=
  s'.mem.mem (loc0 main_arg0) = A0 m ∧ s'.mem.mem (loc0 main_arg1) = A1 m ∧ s'.mem.mem (loc0 main_arg2) = A2 m ∧ s'.mem.mem (loc0 main_arg3) = A3 m ∧ s'.mem.mem (loc0 main_v14) = Spec.result (A0 m) (A1 m) (A2 m) (A3 m)

set_option maxRecDepth 16384 in
theorem hfin (d : Dev nD) (s' : Phys nD τ sig (Elt F)) : iprop(FIN m d ∗ SI s') ⊢ (⌜fq m d s'⌝ : sProp (MM F)) := by
  iintro ⟨⟨H0, H1, H2, H3, H4⟩, HSI⟩
  ihave H := (persistent_entails_right (SI_pointsTo_agree (st := s') (ℓ := loc0 main_arg0) (I := Finset.univ) (q := fullShare) (f := A0 m))) $$ [HSI H0]
  · isplitl [HSI] <;> iassumption
  icases H with ⟨%h0, HSI, -⟩
  ihave H := (persistent_entails_right (SI_pointsTo_agree (st := s') (ℓ := loc0 main_arg1) (I := Finset.univ) (q := fullShare) (f := A1 m))) $$ [HSI H1]
  · isplitl [HSI] <;> iassumption
  icases H with ⟨%h1, HSI, -⟩
  ihave H := (persistent_entails_right (SI_pointsTo_agree (st := s') (ℓ := loc0 main_arg2) (I := Finset.univ) (q := fullShare) (f := A2 m))) $$ [HSI H2]
  · isplitl [HSI] <;> iassumption
  icases H with ⟨%h2, HSI, -⟩
  ihave H := (persistent_entails_right (SI_pointsTo_agree (st := s') (ℓ := loc0 main_arg3) (I := Finset.univ) (q := fullShare) (f := A3 m))) $$ [HSI H3]
  · isplitl [HSI] <;> iassumption
  icases H with ⟨%h3, HSI, -⟩
  ihave H := (SI_pointsTo_agree (st := s') (ℓ := loc0 main_v14) (I := Finset.univ) (q := fullShare) (f := Spec.result (A0 m) (A1 m) (A2 m) (A3 m))) $$ [HSI H4]
  · isplitl [HSI] <;> iassumption
  icases H with %h4
  ipureintro
  exact ⟨funext fun i => h0 i (Finset.mem_univ i), funext fun i => h1 i (Finset.mem_univ i), funext fun i => h2 i (Finset.mem_univ i), funext fun i => h3 i (Finset.mem_univ i), funext fun i => h4 i (Finset.mem_univ i)⟩

/-! ## The program's run -/

def QC : PUnit × MemSt nD τ sig (Elt F) → Prop := fun r =>
  (r.2.mem (loc0 main_arg0) = A0 m ∧ r.2.mem (loc0 main_arg1) = A1 m ∧ r.2.mem (loc0 main_arg2) = A2 m ∧ r.2.mem (loc0 main_arg3) = A3 m ∧ r.2.mem (loc0 main_v14) = Spec.result (A0 m) (A1 m) (A2 m) (A3 m)) ∧ r.2.sem = fun _ => 0

theorem run_main : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := Pm m) (A := ∅) facts v₀
    (fun q hq => match q with | 0 => nomatch hq | 1 => nomatch hq | 2 => nomatch hq)
    (fun q _ => match q with
      | 0 => tileObl0 _ _ _ _ _ _ (Spec.s0_lt (A0 m) (A1 m)) (Spec.s1_lt (A0 m) (A1 m))
      | 1 => tileObl1 _ _ _ _ _ _
      | 2 => tileObl2 _ _ _ _ _ _ (Spec.s0_lt (A0 m) (A1 m)) (Spec.s1_lt (A0 m) (A1 m)))
    (fun q _ => match q with
      | 0 => SparseCore.Cfg.VecSplit.of_plain (vecSplit0 _ _ _ _ _ _)
      | 1 => SparseCore.Cfg.VecSplit.of_plain (vecSplit1 _ _ _ _ _ _)
      | 2 => SparseCore.Cfg.VecSplit.of_plain (vecSplit2 _ _ _ _ _ _))
    m ρ main (GG m) (FIN m) (u₀ m) (sep_elim_left.trans (hu₀ m)) (hmain m ρ) (fq m) (hfin m) (QC m) (fun _ h hz => ⟨h 0, hz⟩)

end Run

end Cert.Proof
-- ==== Proof.MathTop.lean ====
/-
  The two greatest of eight extended reals, the first of equals in front: as the fold of `max`
  and the first lane that attains it find them, and as the host's top-k lists them.
-/
module

public import Idealize.ShloMosaic.Lib.Pointwise
public import Idealize.ShloMosaic.Lib.SortPrefix
public import Idealize.ShloMosaic.Lib.SortFacts

@[expose] public section

set_option maxRecDepth 16384

noncomputable section

namespace Cert.Proof

open Idealize.ShloMosaic

/-- `i` is the first of `p`'s greatest entries and `j` the first of the greatest among the others. -/
structure Top2 (p : Fin 8 → EReal) (i j : Fin 8) : Prop where
  le0 : ∀ k, p k ≤ p i
  lt0 : ∀ k, k < i → p k < p i
  ne : j ≠ i
  le1 : ∀ k, k ≠ i → p k ≤ p j
  lt1 : ∀ k, k ≠ i → k < j → p k < p j

theorem exists_first (p : Fin 8 → EReal) (s : Finset (Fin 8)) (hs : s.Nonempty) :
    ∃ i ∈ s, (∀ k ∈ s, p k ≤ p i) ∧ ∀ k ∈ s, k < i → p k < p i := by
  obtain ⟨m, hm, hmax⟩ := s.exists_max_image p hs
  have hne : (s.filter fun k => p k = p m).Nonempty := ⟨m, Finset.mem_filter.2 ⟨hm, rfl⟩⟩
  obtain ⟨hi, e⟩ := Finset.mem_filter.1 (Finset.min'_mem _ hne)
  refine ⟨_, hi, fun k hk => (hmax k hk).trans e.ge, fun k hk hlt => lt_of_le_of_ne ((hmax k hk).trans e.ge) fun h => ?_⟩
  exact absurd (Finset.min'_le _ k (Finset.mem_filter.2 ⟨hk, h.trans e⟩)) (not_le.2 hlt)

theorem exists_top2 (p : Fin 8 → EReal) : ∃ i j, Top2 p i j := by
  obtain ⟨i, -, h0, h1⟩ := exists_first p Finset.univ ⟨0, Finset.mem_univ _⟩
  obtain ⟨j, hj, h2, h3⟩ := exists_first p (Finset.univ.erase i) (by
    refine Finset.card_pos.1 ?_
    rw [Finset.card_erase_of_mem (Finset.mem_univ _)]; decide)
  exact ⟨i, j, fun k => h0 k (Finset.mem_univ _), fun k => h1 k (Finset.mem_univ _), (Finset.mem_erase.1 hj).1,
    fun k hk => h2 k (Finset.mem_erase.2 ⟨hk, Finset.mem_univ _⟩), fun k hk => h3 k (Finset.mem_erase.2 ⟨hk, Finset.mem_univ _⟩)⟩

/-- The greatest of eight, as a fold from `⊥`. -/
theorem fold_max_first (f : Fin 8 → EReal) (i : Fin 8) (h : ∀ k, f k ≤ f i) : Finset.univ.fold max ⊥ f = f i :=
  le_antisymm (Finset.fold_max_le _ |>.2 ⟨bot_le, fun k _ => h k⟩) ((Finset.le_fold_max _).2 (Or.inr ⟨i, Finset.mem_univ _, le_rfl⟩))

theorem lanes_first : ∀ (b0 b1 b2 b3 b4 b5 b6 b7 : Bool) (i : Fin 8), (![b0, b1, b2, b3, b4, b5, b6, b7] : Fin 8 → Bool) i = true →
    (∀ k < i, (![b0, b1, b2, b3, b4, b5, b6, b7] : Fin 8 → Bool) k = false) →
    Finset.univ.fold IntOp.minsi 2147483647#32 (fun k : Fin 8 => if (![b0, b1, b2, b3, b4, b5, b6, b7] : Fin 8 → Bool) k then BitVec.ofNat 32 k.val else 8#32)
      = BitVec.ofNat 32 i.val := by
  decide +kernel

/-- The first lane at which a mask is set, as a fold of lane numbers. -/
theorem fold_lane (P : Fin 8 → Prop) [DecidablePred P] (i : Fin 8) (hi : P i) (hlt : ∀ k < i, ¬ P k) :
    Finset.univ.fold IntOp.minsi 2147483647#32 (fun k : Fin 8 => if P k then BitVec.ofNat 32 k.val else 8#32) = BitVec.ofNat 32 i.val := by
  have hb : ∀ k, (![decide (P 0), decide (P 1), decide (P 2), decide (P 3), decide (P 4), decide (P 5), decide (P 6), decide (P 7)] : Fin 8 → Bool) k
      = decide (P k) := fun k => by fin_cases k <;> rfl
  have h := lanes_first (decide (P 0)) (decide (P 1)) (decide (P 2)) (decide (P 3)) (decide (P 4)) (decide (P 5)) (decide (P 6)) (decide (P 7)) i
    (by rw [hb]; exact decide_eq_true hi) (fun k hk => by rw [hb]; exact decide_eq_false (hlt k hk))
  simpa only [hb, decide_eq_true_eq] using h

/-! ## The host's top-k -/

/-- A stable sort of positions may break ties by position. -/
theorem stableSort_positions {n : ℕ} (B : Fin n → Fin n → Bool) (tie : Fin n → Fin n → Bool) (l : List (Fin n)) (hl : l.Pairwise (· < ·)) :
    stableSort B l = stableSort (fun a b => B a b || (tie a b && decide (a < b))) l := by
  induction l with
  | nil => rfl
  | cons a l ih =>
    rw [List.pairwise_cons] at hl
    unfold stableSort
    rw [← ih hl.2]
    refine insertBefore_congr _ _ a _ fun b hb => ?_
    have hab : a < b := hl.1 b ((perm_stableSort _ l).mem_iff.1 hb)
    simp [not_lt.2 hab.le]

theorem sortedFrom_positions {n : ℕ} (B tie : Fin n → Fin n → Bool) :
    sortedFrom B = sortedFrom (fun a b => B a b || (tie a b && decide (a < b))) := by
  have h : sortPositions n B = sortPositions n (fun a b => B a b || (tie a b && decide (a < b))) :=
    stableSort_positions B tie _ (List.pairwise_lt_finRange n)
  funext k
  unfold sortedFrom
  rw [List.get_of_eq h]
  rfl

/-- The positions that a stable descending sort of eight puts first. -/
theorem sortedFrom_top2 (p : Fin 8 → EReal) (i j : Fin 8) (h : Top2 p i j) :
    sortedFrom (fun k k' => decide (p k' < p k)) 0 = i ∧ sortedFrom (fun k k' => decide (p k' < p k)) 1 = j := by
  have hB := StrictTotalBefore.of_key_then_position (fun a b : EReal => decide (b < a)) p (fun a => by simp)
    (fun a b c hab hbc => by simp only [decide_eq_true_eq] at *; exact hbc.trans hab)
    (fun a b => by
      simp only [decide_eq_true_eq]
      rcases lt_trichotomy a b with h | h | h
      · exact Or.inr (Or.inr h)
      · exact Or.inr (Or.inl h)
      · exact Or.inl h)
  rw [sortedFrom_positions (fun k k' => decide (p k' < p k)) (fun k k' => decide (p k = p k'))]
  have key : ∀ k k' : Fin 8, p k ≤ p k' → (k < k' → p k < p k') →
      (fun k k' : Fin 8 => decide (p k' < p k) || (decide (p k = p k') && decide (k < k'))) k k' = false := fun k k' h1 h2 => by
    simp only [Bool.or_eq_false_iff, Bool.and_eq_false_iff, decide_eq_false_iff_not, not_lt]
    refine ⟨h1, ?_⟩
    by_cases hlt : k < k'
    · exact Or.inl (h2 hlt).ne
    · exact Or.inr (not_lt.1 hlt)
  have hs := hB.sortedFrom_eq_of_prefix (k := 2) (by decide) ![i, j]
    (by
      intro a b hab
      fin_cases a <;> fin_cases b
      · rfl
      · exact absurd hab.symm h.ne
      · exact absurd hab h.ne
      · rfl)
    (by
      intro a b hab
      fin_cases a <;> fin_cases b
      · exact absurd hab (lt_irrefl _)
      · exact key j i (h.le0 j) (h.lt0 j)
      · exact absurd hab (by decide)
      · exact absurd hab (lt_irrefl _))
    (by
      intro a q hq
      have hqi : q ≠ i := fun e => hq 0 e.symm
      fin_cases a
      · exact key q i (h.le0 q) (h.lt0 q)
      · exact key q j (h.le1 q hqi) (h.lt1 q hqi))
  exact ⟨hs 0, hs 1⟩

end Cert.Proof

end
-- ==== Proof.MathRouter.lean ====
/-
  What the router leaves, in numbers: each token's two experts, how many earlier choices fell on
  each, the slots, and which choices are kept.
-/
module

public import proofs.«01_k».proof.Proof.MathTop
public import proofs.«01_k».proof.Proof.Spec

@[expose] public section

set_option maxRecDepth 16384

noncomputable section

namespace Cert.Proof

open Cert.KernelIdeal Cert.KernelIdeal.Gen Idealize.ShloMosaic

/-! ## Words and numbers -/

theorem fptosi_nat (n : ℕ) (h : n < 2 ^ 31) : Ideal.fptosi 32 (n : EReal) = BitVec.ofNat 32 n := by
  have e : (n : EReal) = ((n : ℝ) : EReal) := by simp
  rw [Ideal.fptosi, e]
  show BitVec.ofInt 32 (max _ (min _ (if (0 : ℝ) ≤ (n : ℝ) then ⌊(n : ℝ)⌋ else ⌈(n : ℝ)⌉))) = _
  rw [if_pos (Nat.cast_nonneg n), Int.floor_natCast, min_eq_right (by norm_num; omega), max_eq_right (by norm_num), BitVec.ofInt_natCast]

theorem sitofp_bit (P : Prop) [Decidable P] (b : BitVec 1) (h : b = if P then 1#1 else 0#1) :
    (FloatOps.sitofp FTy.f32 (BitVec.setWidth 32 b) : Ideal .f32) = ((if P then 1 else 0 : ℕ) : EReal) := by
  subst h
  by_cases hP : P
  · simp only [if_pos hP]
    show (((((1#1 : BitVec 1).setWidth 32).toInt : ℝ)) : EReal) = _
    simp
  · simp only [if_neg hP]
    show (((((0#1 : BitVec 1).setWidth 32).toInt : ℝ)) : EReal) = _
    simp

theorem cmpi_eq_bit (a b : BitVec 32) : IntOp.cmpi .eq a b = if a = b then 1#1 else 0#1 := by
  by_cases h : a = b
  · subst h; simp [IntOp.cmpi]
  · rw [if_neg h]; simp only [IntOp.cmpi, beq_eq_false_iff_ne.2 h]; rfl

theorem cmpi_slt_bit (a b : ℕ) (ha : a < 2 ^ 31) (hb : b < 2 ^ 31) :
    IntOp.cmpi .slt (BitVec.ofNat 32 a) (BitVec.ofNat 32 b) = if a < b then 1#1 else 0#1 := by
  have : (BitVec.ofNat 32 a).slt (BitVec.ofNat 32 b) = decide (a < b) := by
    rw [BitVec.slt_eq_decide, BitVec.toInt_eq_toNat_of_lt, BitVec.toInt_eq_toNat_of_lt] <;>
      simp only [BitVec.toNat_ofNat, Nat.mod_eq_of_lt (show a < 2 ^ 32 by omega), Nat.mod_eq_of_lt (show b < 2 ^ 32 by omega)]
    · simp
    · omega
    · omega
  simp only [IntOp.cmpi, this]; by_cases h : a < b <;> simp [h]

theorem lane_inj : ∀ a b : Fin 8, (BitVec.ofNat 32 a.val = BitVec.ofNat 32 b.val) ↔ a = b := by decide +kernel

theorem lane_bit (a b : Fin 8) : IntOp.cmpi .eq (BitVec.ofNat 32 a.val) (BitVec.ofNat 32 b.val) = if a = b then 1#1 else 0#1 := by
  rw [cmpi_eq_bit]; simp only [lane_inj]

theorem ofBits_bot : Ideal.ofBits FTy.f32 4286578688#32 = ⊥ := by simp [Ideal.ofBits, Ideal.ieee]
theorem ofBits_neg_one : Ideal.ofBits FTy.f32 3212836864#32 = -1 := by
  simp [Ideal.ofBits, Ideal.ieee]
  rw [← EReal.coe_mul, ← EReal.coe_one]; norm_num
theorem ofBits_cap : Ideal.ofBits FTy.f32 1149239296#32 = ((1024 : ℕ) : EReal) := by
  have h : ((1024 : ℕ) : EReal) = ((1024 : ℝ) : EReal) := (EReal.coe_natCast (n := 1024)).symm.trans (by norm_num)
  rw [h]
  simp [Ideal.ofBits, Ideal.ieee]
  rw [← EReal.coe_mul]; norm_num

/-! ## Counts -/

section Counts
variable (e0 e1 : Fin 2048 → Fin 8)

/-- How many of token `t`'s two choices are `e`. -/
def hN (t : ℕ) (e : Fin 8) : ℕ :=
  if h : t < 2048 then (if e0 ⟨t, h⟩ = e then 1 else 0) + (if e1 ⟨t, h⟩ = e then 1 else 0) else 0
/-- How many choices before token `t` are `e`. -/
def cN (t : ℕ) (e : Fin 8) : ℕ := ∑ s ∈ Finset.range t, hN e0 e1 s e
/-- The slot of the choice of `e` with `p` earlier ones. -/
def slotN (e : Fin 8) (p : ℕ) : ℕ := min 8191 (e.val * 1024 + p)

theorem hN_le (t : ℕ) (e : Fin 8) : hN e0 e1 t e ≤ 2 := by unfold hN; split <;> [(split <;> split <;> omega); omega]
theorem cN_le (t : ℕ) (e : Fin 8) : cN e0 e1 t e ≤ 2 * t := by
  unfold cN
  calc _ ≤ ∑ _s ∈ Finset.range t, 2 := Finset.sum_le_sum fun s _ => hN_le e0 e1 s e
    _ = 2 * t := by simp [mul_comm]
end Counts

theorem slot_word (e : Fin 8) (p : ℕ) (hp : p ≤ 4096) :
    IntOp.minsi 8191#32 (IntOp.maxsi 0#32 (IntOp.addi (IntOp.muli (BitVec.ofNat 32 e.val) 1024#32) (BitVec.ofNat 32 p))) = BitVec.ofNat 32 (slotN e p) := by
  have he : e.val < 8 := e.isLt
  have e1 : IntOp.addi (IntOp.muli (BitVec.ofNat 32 e.val) 1024#32) (BitVec.ofNat 32 p) = BitVec.ofNat 32 (e.val * 1024 + p) := by
    show BitVec.ofNat 32 e.val * 1024#32 + BitVec.ofNat 32 p = _
    apply BitVec.eq_of_toNat_eq; simp [BitVec.toNat_add, BitVec.toNat_mul]
  have hi : ∀ n : ℕ, n < 2 ^ 31 → (BitVec.ofNat 32 n).toInt = n := fun n h => by
    rw [BitVec.toInt_eq_toNat_of_lt] <;> simp only [BitVec.toNat_ofNat] <;> omega
  have h1 := hi (e.val * 1024 + p) (by omega)
  have h0 : (0#32 : BitVec 32).toInt = 0 := by decide
  have h2 : (8191#32 : BitVec 32).toInt = 8191 := by decide
  rw [e1]
  unfold slotN
  have hm : IntOp.maxsi 0#32 (BitVec.ofNat 32 (e.val * 1024 + p)) = BitVec.ofNat 32 (e.val * 1024 + p) := by
    simp only [IntOp.maxsi, BitVec.slt_eq_decide, BitVec.sle_eq_decide, h1, h0]
    split
    · rename_i h; simp only [decide_eq_true_eq] at h
      first
        | rfl
        | (have : e.val * 1024 + p = 0 := by omega
           rw [this])
    · rename_i h; simp only [decide_eq_true_eq] at h
      first
        | rfl
        | (have : e.val * 1024 + p = 0 := by omega
           rw [this])
  rw [hm]
  simp only [IntOp.minsi, BitVec.slt_eq_decide, BitVec.sle_eq_decide, h1, h2]
  split
  · rename_i h; simp only [decide_eq_true_eq] at h
    rw [min_eq_left (by omega)]
  · rename_i h; simp only [decide_eq_true_eq] at h
    rw [min_eq_right (by omega)]

/-! ## The choices -/

section Choice
variable (x : Vec Ideal S2048x1024 .f32) (w : Vec Ideal S1024x8 .f32)

/-- The probability of expert `e` at token `t`. -/
def prob (t : Fin 2048) (e : Fin 8) : EReal := k0_pay7 (F := Ideal) x w (ix2 t e)

structure Routed (e0 e1 : Fin 2048 → Fin 8) : Prop where
  top : ∀ t, Top2 (prob x w t) (e0 t) (e1 t)
  nonneg : ∀ t e, 0 ≤ prob x w t e

variable {x w} {e0 e1 : Fin 2048 → Fin 8} (R : Routed x w e0 e1)
include R

theorem Routed.pay8 (t : Fin 2048) : k0_pay8 (F := Ideal) x w (ix2 t 0) = prob x w t (e0 t) := by
  pointwise [k0_pay8]
  rw [ofBits_bot]
  exact fold_max_first (prob x w t) (e0 t) (R.top t).le0

theorem Routed.pay9 (t : Fin 2048) : k0_pay9 (F := Ideal) x w (ix2 t 0) = BitVec.ofNat 32 (e0 t).val := by
  pointwise [k0_pay9]
  rw [R.pay8]
  exact fold_lane (fun e => prob x w t e = prob x w t (e0 t)) (e0 t) rfl fun k hk => ((R.top t).lt0 k hk).ne

theorem Routed.pay10 (t : Fin 2048) (e : Fin 8) : k0_pay10 (F := Ideal) x w (ix2 t e) = if e = e0 t then -1 else prob x w t e := by
  pointwise [k0_pay10]
  rw [R.pay9, lane_bit, ofBits_neg_one]
  unfold Scalar.select
  by_cases h : e = e0 t
  · simp [h]
  · simp [h, prob]

omit R in
theorem neg_one_lt {a : EReal} (h : 0 ≤ a) : -1 < a := lt_of_lt_of_le (by
  have : ((-1 : ℝ) : EReal) < ((0 : ℝ) : EReal) := EReal.coe_lt_coe_iff.2 (by norm_num)
  simpa using this) h

omit R in
theorem masked_first {p : Fin 8 → EReal} {i j : Fin 8} (h : Top2 p i j) (hp : ∀ e, 0 ≤ p e) :
    (∀ k, (if k = i then -1 else p k) ≤ (if j = i then -1 else p j)) ∧ ∀ k < j, (if k = i then -1 else p k) < (if j = i then -1 else p j) := by
  rw [if_neg h.ne]
  refine ⟨fun k => ?_, fun k hk => ?_⟩
  · by_cases hki : k = i
    · rw [if_pos hki]; exact (neg_one_lt (hp j)).le
    · rw [if_neg hki]; exact h.le1 k hki
  · by_cases hki : k = i
    · rw [if_pos hki]; exact neg_one_lt (hp j)
    · rw [if_neg hki]; exact h.lt1 k hki hk

theorem Routed.pay11 (t : Fin 2048) : k0_pay11 (F := Ideal) x w (ix2 t 0) = prob x w t (e1 t) := by
  pointwise [k0_pay11]
  simp only [R.pay10]
  rw [ofBits_bot, fold_max_first _ (e1 t) (masked_first (R.top t) (R.nonneg t)).1, if_neg (R.top t).ne]

theorem Routed.pay12 (t : Fin 2048) : k0_pay12 (F := Ideal) x w (ix2 t 0) = BitVec.ofNat 32 (e1 t).val := by
  pointwise [k0_pay12]
  simp only [R.pay10, R.pay11]
  refine fold_lane (fun e => (if e = e0 t then -1 else prob x w t e) = prob x w t (e1 t)) (e1 t) (if_neg (R.top t).ne) fun k hk => ?_
  have := ((masked_first (R.top t) (R.nonneg t)).2 k hk).ne
  rwa [if_neg (R.top t).ne] at this

theorem Routed.hot (t : Fin 2048) (e : Fin 8) : Router.hot (F := Ideal) x w (ix2 t e) = (hN e0 e1 t.val e : EReal) := by
  unfold Router.hot
  pointwise [k0_pay14, k0_pay13]
  rw [R.pay9, R.pay12, sitofp_bit (e0 t = e) _ (by rw [lane_bit]; simp only [eq_comm]), sitofp_bit (e1 t = e) _ (by rw [lane_bit]; simp only [eq_comm])]
  unfold hN
  rw [dif_pos t.isLt]
  push_cast; rfl

theorem Routed.block (n : ℕ) (hn : n < 4) (a : Fin 512) (e : Fin 8) :
    Router.blockRows (F := Ideal) (Router.hot x w) n (ix2 a e) = (hN e0 e1 (512 * n + a.val) e : EReal) := by
  have h := R.hot ⟨(512 * n + a.val) % 2048, Nat.mod_lt _ (by decide)⟩ e
  rw [ix2_eq_valueIdx] at h
  rw [ix2_eq_valueIdx]
  refine Eq.trans ?_ (h.trans ?_)
  · rfl
  · show ((hN e0 e1 ((512 * n + a.val) % 2048) e : ℕ) : EReal) = _
    rw [show (512 * n + a.val) % 2048 = 512 * n + a.val from Nat.mod_eq_of_lt (by omega)]

theorem Routed.carry (n : ℕ) (hn : n ≤ 4) (e : Fin 8) : Router.carry (F := Ideal) (Router.hot x w) n (ix2 0 e) = (cN e0 e1 (512 * n) e : EReal) := by
  induction n with
  | zero =>
    show k0_pay15 (F := Ideal) (ix2 0 e) = _
    pointwise [k0_pay15]
    simp [cN]
  | succ n ih =>
    show k0_pay17 (F := Ideal) _ _ (ix2 0 e) = _
    pointwise [k0_pay17]
    rw [ih (by omega)]
    simp only [R.block n (by omega)]
    rw [Fin.sum_univ_eq_sum_range (fun a => (hN e0 e1 (512 * n + a) e : EReal)) 512]
    unfold cN
    rw [show 512 * (n + 1) = 512 * n + 512 by ring, Finset.sum_range_add]
    push_cast; rfl

theorem Routed.pre (t : Fin 2048) (e : Fin 8) : Router.pre (F := Ideal) (Router.hot x w) (ix2 t e) = (cN e0 e1 t.val e : EReal) := by
  have ht := t.isLt
  have e1' : Router.pre (F := Ideal) (Router.hot x w) (ix2 t e)
      = k0_pay16 (F := Ideal) (Router.carry (Router.hot x w) (t.val / 512)) (Router.blockRows (Router.hot x w) (t.val / 512)) (ix2 ⟨t.val % 512, Nat.mod_lt _ (by decide)⟩ e) := by
    rw [ix2_eq_valueIdx, ix2_eq_valueIdx]; rfl
  rw [e1']
  pointwise [k0_pay16]
  rw [R.carry _ (by omega)]
  simp only [R.block (t.val / 512) (by omega)]
  have hs : ∀ a : Fin 512, (FloatOps.sitofp FTy.f32 (BitVec.setWidth 32 (IntOp.cmpi .slt (BitVec.ofNat 32 a.val) (BitVec.ofNat 32 (t.val % 512)))) : Ideal .f32)
      * (hN e0 e1 (512 * (t.val / 512) + a.val) e : EReal) = ((if a.val < t.val % 512 then hN e0 e1 (512 * (t.val / 512) + a.val) e else 0 : ℕ) : EReal) := fun a => by
    rw [sitofp_bit (a.val < t.val % 512) _ (cmpi_slt_bit _ _ (by omega) (by omega))]
    split
    · rw [Nat.cast_one]; exact one_mul _
    · rw [Nat.cast_zero]; exact zero_mul _
  simp only [hs]
  rw [Fin.sum_univ_eq_sum_range (fun a => ((if a < t.val % 512 then hN e0 e1 (512 * (t.val / 512) + a) e else 0 : ℕ) : EReal)) 512, ← Nat.cast_sum,
    ← Finset.sum_filter, show (Finset.range 512).filter (fun a => a < t.val % 512) = Finset.range (t.val % 512) by
      ext a; simp only [Finset.mem_filter, Finset.mem_range]; omega, ← Nat.cast_add]
  congr 1
  unfold cN
  conv_rhs => rw [show t.val = 512 * (t.val / 512) + t.val % 512 by omega, Finset.sum_range_add]
  rw [add_comm]

/-- The number of earlier choices at a choice `e`, picked from its row by the lanes. -/
theorem Routed.pick (t : Fin 2048) (e : Fin 8) :
    ∑ y : Fin 8, Scalar.select (IntOp.cmpi .eq (BitVec.ofNat 32 y.val) (BitVec.ofNat 32 e.val)) (Router.pre (F := Ideal) (Router.hot x w) (ix2 t y)) 0
      = (cN e0 e1 t.val e : EReal) := by
  simp only [lane_bit, R.pre]
  rw [Finset.sum_eq_single e]
  · simp [Scalar.select]
  · intro b _ hb; simp [Scalar.select, hb]
  · simp

theorem Routed.slot0 (t : Fin 2048) : Router.slot0 (F := Ideal) x w (ix2 t 0) = BitVec.ofNat 32 (slotN (e0 t) (cN e0 e1 t.val (e0 t))) := by
  have hc := cN_le e0 e1 t.val (e0 t)
  have ht := t.isLt
  unfold Router.slot0
  pointwise [k0_pay22, k0_pay18, Router.lanes]
  rw [R.pay9, R.pick, ← slot_word _ _ (by omega)]
  congr 3
  exact fptosi_nat _ (by omega)

theorem Routed.slot1 (t : Fin 2048) : Router.slot1 (F := Ideal) x w (ix2 t 0) = BitVec.ofNat 32 (slotN (e1 t) (cN e0 e1 t.val (e1 t))) := by
  have hc := cN_le e0 e1 t.val (e1 t)
  have ht := t.isLt
  unfold Router.slot1
  pointwise [k0_pay1, k0_pay19, k0_pay23, Router.lanes]
  rw [R.pay12, R.pick, ← slot_word _ _ (by omega)]
  congr 3
  exact fptosi_nat _ (by omega)

theorem Routed.keepB0 (t : Fin 2048) : Router.keepB0 (F := Ideal) x w (ix2 t 0) = if cN e0 e1 t.val (e0 t) < 1024 then 1#1 else 0#1 := by
  have hc := cN_le e0 e1 t.val (e0 t)
  have ht := t.isLt
  unfold Router.keepB0
  pointwise [k0_pay20, k0_pay18, Router.lanes]
  rw [R.pay9, R.pick, ← cmpi_slt_bit _ _ (by omega) (by omega)]
  congr 1
  exact fptosi_nat _ (by omega)

theorem Routed.keepB1 (t : Fin 2048) : Router.keepB1 (F := Ideal) x w (ix2 t 0) = if cN e0 e1 t.val (e1 t) < 1024 then 1#1 else 0#1 := by
  have hc := cN_le e0 e1 t.val (e1 t)
  have ht := t.isLt
  unfold Router.keepB1
  pointwise [k0_pay21, k0_pay19, Router.lanes]
  rw [R.pay12, R.pick, ← cmpi_slt_bit _ _ (by omega) (by omega)]
  congr 1
  exact fptosi_nat _ (by omega)

theorem Routed.keep0 (t : Fin 2048) : Router.keep0 (F := Ideal) x w (ix2 t 0) = if cN e0 e1 t.val (e0 t) < 1024 then 1#32 else 0#32 := by
  unfold Router.keep0
  pointwise [k0_pay2]
  rw [R.keepB0]; split <;> rfl

theorem Routed.keep1 (t : Fin 2048) : Router.keep1 (F := Ideal) x w (ix2 t 0) = if cN e0 e1 t.val (e1 t) < 1024 then 1#32 else 0#32 := by
  unfold Router.keep1
  pointwise [k0_pay3]
  rw [R.keepB1]; split <;> rfl

theorem Routed.wt0 (t : Fin 2048) : Router.wt0 (F := Ideal) x w (ix2 t 0) = if cN e0 e1 t.val (e0 t) < 1024 then prob x w t (e0 t) else 0 := by
  unfold Router.wt0
  pointwise [k0_pay4]
  rw [R.keepB0, R.pay8]
  unfold Scalar.select
  by_cases h : cN e0 e1 t.val (e0 t) < 1024 <;> simp [h]

theorem Routed.wt1 (t : Fin 2048) : Router.wt1 (F := Ideal) x w (ix2 t 0) = if cN e0 e1 t.val (e1 t) < 1024 then prob x w t (e1 t) else 0 := by
  unfold Router.wt1
  pointwise [k0_pay5]
  rw [R.keepB1, R.pay11]
  unfold Scalar.select
  by_cases h : cN e0 e1 t.val (e1 t) < 1024 <;> simp [h]

theorem Routed.cnt (e : Fin 8) : Router.cnt (F := Ideal) x w (ix2 0 e) = BitVec.ofNat 32 (min (cN e0 e1 2048 e) 1024) := by
  unfold Router.cnt
  pointwise [k0_pay6]
  rw [R.carry 4 le_rfl, ofBits_cap, show min ((cN e0 e1 (512 * 4) e : ℕ) : EReal) ((1024 : ℕ) : EReal) = ((min (cN e0 e1 2048 e) 1024 : ℕ) : EReal) from
    (Nat.mono_cast.map_min).symm]
  exact fptosi_nat _ (by omega)

end Choice

end Cert.Proof

end
-- ==== Proof.MathProbs.lean ====
/-
  Finite tokens and router weights give every token a first and a second expert, and the router's
  probabilities are the reference's.
-/
module

public import proofs.«01_k».proof.Proof.MathRouter
public import proofs.«01_k».proof.Proof.Gen.ReferenceIdeal.Run
public import proofs.«01_k».proof.Pre_finite_routing
public import Idealize.ShloMosaic.Lib.ReduceAll
public import Idealize.ShloMosaic.Lib.Tactic.CleanTypes

@[expose] public section

set_option maxRecDepth 16384

noncomputable section

namespace Cert.Proof

open Cert.KernelIdeal Cert.KernelIdeal.Gen Idealize.ShloMosaic

/-! ## Finite arguments -/

instance preFacts : Cert.Pre_finite_routing.Facts where
  bcast_S_S1x2048x1024 := by decide
  reducesTo_S1x2048x1024_S_d0_1_2 := by decide
  h_S_ := by decide
  bcast_S_S1024x8 := by decide
  reducesTo_S1024x8_S_d0_1 := by decide

theorem real_of_abs_lt {a : EReal} (h : max a (-a) < ⊤) : ∃ r : ℝ, a = r := by
  induction a with
  | bot => simp at h
  | coe r => exact ⟨r, rfl⟩
  | top => simp at h

theorem ofBits_top : Ideal.ofBits FTy.f32 2139095040#32 = ⊤ := by simp [Ideal.ofBits, Ideal.ieee]

theorem finite_args (A0 : FVec Ideal S1x2048x1024 .f32) (A1 : FVec Ideal S1024x8 .f32) (A2 : FVec Ideal S8x1024x4096 .f32) (A3 : FVec Ideal S8x4096x1024 .f32)
    (h : Cert.Pre_finite_routing.fn (F := Ideal) A0 A1 A2 A3 = fun _ => 1#1) :
    (∀ j, ∃ r : ℝ, A0 j = (r : EReal)) ∧ ∀ j, ∃ r : ℝ, A1 j = (r : EReal) := by
  have h0 := congrFun h ix0
  have h1 : IntOp.andi _ _ = 1#1 := h0
  rw [IntOp.andi_eq_one] at h1
  have hs : Subsingleton Cert.Pre_finite_routing.S_.Idx := ⟨fun a b => funext fun i => i.elim0⟩
  refine ⟨fun j => real_of_abs_lt ?_, fun j => real_of_abs_lt ?_⟩
  · have h2 := Host.reduce_andi_all _ _ _ _ _ h1.1 j
    change BitVec.ofBool (decide (max (A0 j) (-A0 j) < Ideal.ofBits FTy.f32 2139095040#32)) = 1#1 at h2
    rw [ofBits_top] at h2
    by_contra hn
    rw [decide_eq_false hn] at h2
    exact absurd h2 (by decide)
  · have h2 := Host.reduce_andi_all _ _ _ _ _ h1.2 j
    change BitVec.ofBool (decide (max (A1 j) (-A1 j) < Ideal.ofBits FTy.f32 2139095040#32)) = 1#1 at h2
    rw [ofBits_top] at h2
    by_contra hn
    rw [decide_eq_false hn] at h2
    exact absurd h2 (by decide)

/-! ## The probabilities -/

section Choice
variable (x : Vec Ideal S2048x1024 .f32) (w : Vec Ideal S1024x8 .f32)

def logit (t : Fin 2048) (e : Fin 8) : EReal := ∑ k : Fin 1024, x (ix2 t k) * w (ix2 k e)

theorem prob_eq (t : Fin 2048) (e : Fin 8) : prob x w t e
    = Ideal.div (Ideal.exp (logit x w t e - Finset.univ.fold max ⊥ (logit x w t)))
        (∑ e', Ideal.exp (logit x w t e' - Finset.univ.fold max ⊥ (logit x w t))) := by
  unfold prob
  pointwise [k0_pay7]
  rw [ofBits_bot]
  rfl

theorem exp_nonneg (a : EReal) : 0 ≤ Ideal.exp a := by
  induction a with
  | bot => simp
  | coe r => rw [Ideal.exp_coe]; exact EReal.coe_nonneg.2 (Real.exp_pos r).le
  | top => simp

theorem prob_nonneg (hx : ∀ j, ∃ r : ℝ, x j = (r : EReal)) (hw : ∀ j, ∃ r : ℝ, w j = (r : EReal)) (t : Fin 2048) (e : Fin 8) :
    0 ≤ prob x w t e := by
  have hl : ∀ e, ∃ r : ℝ, logit x w t e = (r : EReal) := fun e => by
    choose fx hfx using hx
    choose fw hfw using hw
    refine ⟨∑ k : Fin 1024, fx (ix2 t k) * fw (ix2 k e), ?_⟩
    unfold logit
    simp only [hfx, hfw]
    simp only [← EReal.coe_mul]
    exact (map_sum (⟨⟨fun r : ℝ => (r : EReal), rfl⟩, EReal.coe_add⟩ : ℝ →+ EReal) _ _).symm
  obtain ⟨i, j, hT⟩ := exists_top2 (logit x w t)
  rw [prob_eq, fold_max_first _ i hT.le0]
  have h1 : (1 : EReal) ≤ ∑ e', Ideal.exp (logit x w t e' - logit x w t i) := by
    refine le_trans ?_ (Finset.single_le_sum (f := fun e' => Ideal.exp (logit x w t e' - logit x w t i)) (fun e' _ => exp_nonneg _) (Finset.mem_univ i))
    obtain ⟨r, hr⟩ := hl i
    simp only [hr]
    rw [← EReal.coe_sub, sub_self, Ideal.exp_coe, Real.exp_zero, EReal.coe_one]
  have h0 : (0 : EReal) < ∑ e', Ideal.exp (logit x w t e' - logit x w t i) := lt_of_lt_of_le (by norm_num) h1
  rw [Ideal.div, if_neg h0.ne']
  exact mul_nonneg (exp_nonneg _) (EReal.inv_nonneg_of_nonneg h0.le)

theorem exists_routed (hx : ∀ j, ∃ r : ℝ, x j = (r : EReal)) (hw : ∀ j, ∃ r : ℝ, w j = (r : EReal)) : ∃ e0 e1, Routed x w e0 e1 := by
  choose e0 e1 h using fun t => exists_top2 (prob x w t)
  exact ⟨e0, e1, ⟨h, prob_nonneg x w hx hw⟩⟩
end Choice

/-! ## The reference's -/

section Reference
open Cert.ReferenceIdeal.Value
variable (V0 : Valuation Cert.ReferenceIdeal.τ Cert.ReferenceIdeal.sig (Elt Ideal))

/-- The reference's tokens, router weights, probabilities. -/
def rX : FVec Ideal S2048x1024 .f32 := res_main_v0 (F := Ideal) V0
def rW : FVec Ideal S1024x8 .f32 := V0 (Proc.devRef .tc Cert.ReferenceIdeal.main_arg1)
def rP : FVec Ideal S2048x8 .f32 := res_main_v12 (F := Ideal) V0

theorem ref_v1 (t : Fin 2048) (e : Fin 8) : (res_main_v1 (F := Ideal) V0 : FVec Ideal S2048x8 .f32) (ix2 t e) = logit (rX V0) (rW V0) t e := by
  unfold res_main_v1
  clean_types
  pointwise
  rfl

theorem ref_v8 (t : Fin 2048) (e : Fin 8) : (res_main_v8 (F := Ideal) V0 : FVec Ideal S2048x8 .f32) (ix2 t e)
    = Ideal.exp (logit (rX V0) (rW V0) t e - Finset.univ.fold max ⊥ (logit (rX V0) (rW V0) t)) := by
  have h := ref_v1 V0 t
  unfold res_main_v8
  clean_types
  pointwise
  rw [ofBits_bot, max_eq_right bot_le, h e]
  exact congrArg (fun f => Ideal.exp (logit (rX V0) (rW V0) t e - Finset.univ.fold max ⊥ f)) (funext h)

/-- The reference's probabilities are the router's. -/
theorem ref_prob (t : Fin 2048) (e : Fin 8) : rP V0 (ix2 t e) = prob (rX V0) (rW V0) t e := by
  have h := ref_v8 V0 t
  rw [prob_eq]
  unfold rP res_main_v12
  clean_types
  pointwise
  exact congrArg₂ Ideal.div (h e) (Finset.sum_congr rfl fun e' _ => h e')
end Reference

end Cert.Proof

end
-- ==== Proof.MathRef.lean ====
/-
  The reference's routing, in numbers: each choice's expert, the earlier choices of it, its slot,
  and whether it is kept.
-/
module

public import proofs.«01_k».proof.Proof.MathProbs
public import Idealize.ShloMosaic.Lib.Routing.Ops
public import Idealize.ShloMosaic.Lib.Routing.OpsPair

@[expose] public section

set_option maxRecDepth 16384

noncomputable section

namespace Cert.Proof

open Cert.KernelIdeal Cert.KernelIdeal.Gen Idealize.ShloMosaic

/-! ## Counting over the choices in a row -/

section Counts
variable (e0 e1 : Fin 2048 → Fin 8)

/-- The expert of choice `a`: the choices of a token lie next to each other. -/
def eA (a : ℕ) : Fin 8 := if a % 2 = 0 then e0 (Fin.ofNat 2048 (a / 2)) else e1 (Fin.ofNat 2048 (a / 2))
/-- Whether choice `a` is `e`. -/
def oneA (e : Fin 8) (a : ℕ) : ℕ := if eA e0 e1 a = e then 1 else 0
/-- How many choices before choice `a` are of its expert. -/
def posA (a : ℕ) : ℕ := cN e0 e1 (a / 2) (eA e0 e1 a)

theorem eA_even (t : Fin 2048) : eA e0 e1 (2 * t.val) = e0 t := by
  unfold eA
  rw [if_pos (by omega), show 2 * t.val / 2 = t.val by omega]
  exact congrArg e0 (Fin.ext (Nat.mod_eq_of_lt t.isLt))
theorem eA_odd (t : Fin 2048) : eA e0 e1 (2 * t.val + 1) = e1 t := by
  unfold eA
  rw [if_neg (by omega), show (2 * t.val + 1) / 2 = t.val by omega]
  exact congrArg e1 (Fin.ext (Nat.mod_eq_of_lt t.isLt))

theorem sum_pairs (t : ℕ) (ht : t ≤ 2048) (e : Fin 8) : ((List.range (2 * t)).map (oneA e0 e1 e)).sum = cN e0 e1 t e := by
  induction t with
  | zero => rfl
  | succ t ih =>
    have h0 := eA_even e0 e1 ⟨t, by omega⟩
    have h1 := eA_odd e0 e1 ⟨t, by omega⟩
    rw [show 2 * (t + 1) = 2 * t + 1 + 1 by ring, List.range_succ, List.map_append, List.sum_append, List.range_succ, List.map_append, List.sum_append, ih (by omega)]
    unfold cN
    rw [Finset.sum_range_succ]
    have : hN e0 e1 t e = oneA e0 e1 e (2 * t) + oneA e0 e1 e (2 * t + 1) := by
      unfold hN oneA
      rw [dif_pos (by omega), h0, h1]
    rw [this]
    simp [add_assoc]

/-- The inclusive count at a choice. -/
theorem sum_choices (hne : ∀ t, e1 t ≠ e0 t) (a : ℕ) (ha : a < 4096) :
    ((List.range (a + 1)).map (oneA e0 e1 (eA e0 e1 a))).sum = posA e0 e1 a + 1 := by
  rw [List.range_succ, List.map_append, List.sum_append]
  have h1 : oneA e0 e1 (eA e0 e1 a) a = 1 := if_pos rfl
  have h2 : ((List.range a).map (oneA e0 e1 (eA e0 e1 a))).sum = posA e0 e1 a := by
    unfold posA
    rcases Nat.even_or_odd' a with ⟨t, rfl | rfl⟩
    · rw [sum_pairs e0 e1 t (by omega), show 2 * t / 2 = t by omega]
    · rw [List.range_succ, List.map_append, List.sum_append, sum_pairs e0 e1 t (by omega), show (2 * t + 1) / 2 = t by omega]
      have h0 := eA_even e0 e1 ⟨t, by omega⟩
      have h1 := eA_odd e0 e1 ⟨t, by omega⟩
      have : oneA e0 e1 (eA e0 e1 (2 * t + 1)) (2 * t) = 0 := if_neg (by
        dsimp only at h0 h1
        rw [h0, h1]; exact (hne _).symm)
      simp [this]
  rw [h2]
  simp [h1]
end Counts

/-! ## The running count down a matrix -/

open Idealize.ShloMosaic.Routing in
/-- jnp's `cumsum` down the rows of a matrix, as it prints. -/
theorem cumsum_rows {N Nm1 M : ℕ} (hN : Nm1 + 1 = N) (x : IVec (shape2 N M) 32) (e : Fin M) (f : ℕ → ℕ)
    (hx : ∀ i : Fin N, x (ValueIdx.ix2 i e) = BitVec.ofNat 32 (f i.val)) (init : IVec shape0 32) (hinit : init ValueIdx.ix0 = 0#32)
    (h : (shape2 N M).ReduceWindows (![N, 1] : Fin 2 → ℕ) ![1, 1] ![Nm1, 0] ![0, 0] (shape2 N M)) (hu : 0 < shape0.numel) (j : Fin N) :
    Host.reduceWindow IntOp.addi ![N, 1] ![1, 1] ![Nm1, 0] ![0, 0] x init h hu (ValueIdx.ix2 j e)
      = BitVec.ofNat 32 ((List.range (j.val + 1)).map f).sum := by
  subst hN
  have hv : init (Shape.Idx.first hu) = BitVec.ofNat 32 0 := (congrArg init (ValueIdx.eq_ix0 _)).trans hinit
  have hj := j.isLt
  have he := e.isLt
  have hnum : (shape2 (Nm1 + 1) 1).numel = Nm1 + 1 := by
    simp [Shape.numel, Fin.prod_univ_succ]
  unfold Host.reduceWindow
  refine (foldl_addi_ofNat _ _ (fun n => if Nm1 ≤ j.val + n.val then f (j.val + n.val - Nm1) else 0) (fun n _ => ?_) _ 0 hv).trans ?_
  · have hn : n.val < Nm1 + 1 := (n.cast hnum).isLt
    have hsy := symm22 (A := Nm1 + 1) (B := 1) n (by simpa using hn) (Nat.mod_lt _ one_pos)
    have hw0 : ((shape2 (Nm1 + 1) 1).rowMajor.symm n 0).val = n.val := by rw [hsy]; exact Nat.div_one _
    have hw1 : ((shape2 (Nm1 + 1) 1).rowMajor.symm n 1).val = 0 := by rw [hsy]; exact Nat.mod_one _
    dsimp only
    split
    · next hin =>
      have h1 := hin 0
      change Nm1 ≤ j.val * 1 + ((shape2 (Nm1 + 1) 1).rowMajor.symm n 0).val
        ∧ j.val * 1 + ((shape2 (Nm1 + 1) 1).rowMajor.symm n 0).val - Nm1 < Nm1 + 1 at h1
      rw [hw0] at h1
      rw [if_pos (by omega)]
      refine (congrArg x (funext fun a => Fin.ext ?_)).trans (hx ⟨j.val + n.val - Nm1, by omega⟩)
      match a with
      | ⟨0, _⟩ =>
        show j.val * 1 + ((shape2 (Nm1 + 1) 1).rowMajor.symm n 0).val - Nm1 = j.val + n.val - Nm1
        rw [hw0, Nat.mul_one]
      | ⟨1, _⟩ =>
        show e.val * 1 + ((shape2 (Nm1 + 1) 1).rowMajor.symm n 1).val - 0 = e.val
        rw [hw1]; omega
    · next hin =>
      rw [if_neg fun hle => hin fun a => by
        match a with
        | ⟨0, _⟩ =>
          show Nm1 ≤ j.val * 1 + ((shape2 (Nm1 + 1) 1).rowMajor.symm n 0).val
            ∧ j.val * 1 + ((shape2 (Nm1 + 1) 1).rowMajor.symm n 0).val - Nm1 < Nm1 + 1
          rw [hw0]; omega
        | ⟨1, _⟩ =>
          show 0 ≤ e.val * 1 + ((shape2 (Nm1 + 1) 1).rowMajor.symm n 1).val ∧ e.val * 1 + ((shape2 (Nm1 + 1) 1).rowMajor.symm n 1).val - 0 < M
          rw [hw1]; omega]
      exact hv
  · rw [Nat.zero_add, map_finRange_val _ (fun w => if Nm1 ≤ j.val + w then f (j.val + w - Nm1) else 0)]
    exact congrArg (BitVec.ofNat 32) ((congrArg (fun M => ((List.range M).map fun w => if Nm1 ≤ j.val + w then f (j.val + w - Nm1) else 0).sum)
      hnum).trans (sum_window f Nm1 j.val (by omega)))

/-! ## The reference's words -/

section Reference
open Cert.ReferenceIdeal.Value
variable (V0 : Valuation Cert.ReferenceIdeal.τ Cert.ReferenceIdeal.sig (Elt Ideal))

theorem topK_at {t : Fin 2048} {i j : Fin 8} (v : FVec Ideal S2048x8 .f32) (h : S2048x8.Slices (fun _ => 0) Cert.ReferenceIdeal.S2048x2)
    (hT : Top2 (fun e => v (ix2 t e)) i j) (k : Fin 2) :
    (Host.topK Cert.ReferenceIdeal.S2048x2 1 (FloatOps.cmpfTotal .gt) v h).1 (ix2 t k) = v (ix2 t (if k = 0 then i else j))
    ∧ (Host.topK Cert.ReferenceIdeal.S2048x2 1 (FloatOps.cmpfTotal .gt) v h).2 (ix2 t k) = BitVec.ofNat 32 (if k = 0 then i else j).val := by
  have hs := sortedFrom_top2 _ _ _ hT
  have hs' : ∀ k : Fin 2, sortedFrom (fun k k' => decide (v (ix2 t k') < v (ix2 t k))) (Fin.castLE (by decide) k) = if k = 0 then i else j := fun k => by
    fin_cases k
    · exact hs.1
    · exact hs.2
  have hal : ∀ (q r : Fin 8), (ix2 t q : S2048x8.Idx).along 1 r = ix2 t r := fun q r => by
    funext a
    fin_cases a <;> rfl
  have hj : (fun a => ⟨0 + (ix2 t k : Cert.ReferenceIdeal.S2048x2.Idx) (Fin.cast (by rfl) a), by
      fin_cases a
      · exact (Nat.zero_add _).trans_lt t.isLt
      · exact (Nat.zero_add _).trans_lt (k.isLt.trans (by decide))⟩ : S2048x8.Idx) = ix2 t (Fin.castLE (by decide) k) := by
    funext a
    fin_cases a
    · exact Fin.ext (Nat.zero_add _)
    · exact Fin.ext (Nat.zero_add _)
  have hb : ∀ q : Fin 8, sortedFrom (fun k k' => FloatOps.cmpfTotal (F := Ideal) (φ := .f32) .gt (v ((ix2 t q : S2048x8.Idx).along 1 k)) (v ((ix2 t q : S2048x8.Idx).along 1 k')) == 1#1)
      = sortedFrom (fun k k' => decide (v (ix2 t k') < v (ix2 t k))) := fun q => by
    congr 1
    funext k k'
    refine (congrArg₂ (fun a b : EReal => BitVec.ofBool (decide (b < a)) == 1#1) (congrArg v (hal q k)) (congrArg v (hal q k'))).trans ?_
    show (BitVec.ofBool (decide (v (ix2 t k') < v (ix2 t k))) == 1#1) = decide (v (ix2 t k') < v (ix2 t k))
    cases decide (v (ix2 t k') < v (ix2 t k)) <;> rfl
  have h1 : (ix2 t (Fin.castLE (by decide) k) : S2048x8.Idx).along 1
      (sortedFrom (fun k' k'' => FloatOps.cmpfTotal (F := Ideal) (φ := .f32) .gt (v ((ix2 t (Fin.castLE (by decide) k) : S2048x8.Idx).along 1 k')) (v ((ix2 t (Fin.castLE (by decide) k) : S2048x8.Idx).along 1 k'')) == 1#1)
        (Fin.castLE (by decide) k)) = ix2 t (if k = 0 then i else j) :=
    (congrArg (fun f : Fin 8 → Fin 8 => (ix2 t (Fin.castLE (by decide) k) : S2048x8.Idx).along 1 (f (Fin.castLE (by decide) k))) (hb _)).trans
      ((congrArg (fun q : Fin 8 => (ix2 t (Fin.castLE (by decide) k) : S2048x8.Idx).along 1 q) (hs' k)).trans (hal _ _))
  unfold Host.topK Host.sort2 extractStridedSlice
  exact ⟨(congrArg (fun J : S2048x8.Idx => v (J.along 1 (sortedFrom (fun k' k'' => FloatOps.cmpfTotal (F := Ideal) (φ := .f32) .gt (v (J.along 1 k')) (v (J.along 1 k'')) == 1#1) (J 1)))) hj).trans
      (congrArg v h1),
    (congrArg (fun J : S2048x8.Idx => iotaInDim S2048x8 32 1 (J.along 1 (sortedFrom (fun k' k'' => FloatOps.cmpfTotal (F := Ideal) (φ := .f32) .gt (v (J.along 1 k')) (v (J.along 1 k'')) == 1#1) (J 1)))) hj).trans
      (congrArg (iotaInDim S2048x8 32 1) h1)⟩

def rE : IVec Cert.ReferenceIdeal.S4096 32 := res_main_v13 (F := Ideal) V0
def rHot : IVec Cert.ReferenceIdeal.S4096x8 32 := res_main_v18 (F := Ideal) V0
def rPos : IVec Cert.ReferenceIdeal.S4096 32 := res_main_v23 (F := Ideal) V0
def rKeep : FVec Ideal Cert.ReferenceIdeal.S4096 .f32 := res_main_v26 (F := Ideal) V0
def rSlot : IVec Cert.ReferenceIdeal.S4096 32 := res_main_v30 (F := Ideal) V0
def rTok : IVec Cert.ReferenceIdeal.S4096 32 := res_main_v17 (F := Ideal) V0

variable {V0} {e0 e1 : Fin 2048 → Fin 8} (R : Routed (rX V0) (rW V0) e0 e1)
include R

theorem ref_top (t : Fin 2048) : Top2 (fun e => rP V0 (ix2 t e)) (e0 t) (e1 t) := by
  simp only [ref_prob]
  exact R.top t

/-- Choice `a`'s token and place. -/
def tkA (a : Fin 4096) : Fin 2048 := ⟨a.val / 2, by omega⟩
def plA (a : Fin 4096) : Fin 2 := ⟨a.val % 2, by omega⟩

omit R in
theorem eA_eq (a : Fin 4096) : eA e0 e1 a.val = if plA a = 0 then e0 (tkA a) else e1 (tkA a) := by
  unfold eA plA tkA
  have h : Fin.ofNat 2048 (a.val / 2) = (⟨a.val / 2, by omega⟩ : Fin 2048) := Fin.ext (Nat.mod_eq_of_lt (by omega))
  rw [h]
  simp only [Fin.ext_iff]
  rfl

open Idealize.ShloMosaic.Routing in
theorem ref_expert (a : Fin 4096) : rE V0 (ix1 a) = BitVec.ofNat 32 (eA e0 e1 a.val).val := by
  have h := (topK_at (rP V0) Cert.ReferenceIdeal.Gen.sliceFits_S2048x8_S2048x2 (ref_top R (tkA a)) (plA a)).2
  rw [eA_eq, ← h, ix2_eq_valueIdx, ix1_eq_valueIdx]
  exact cast21 (a := 2048) (b := 2) (n := 4096) _ _ (tkA a) (plA a) a (Nat.div_add_mod' a.val 2).symm

omit R in
theorem setWidth_bit (P : Prop) [Decidable P] : BitVec.setWidth 32 (if P then 1#1 else 0#1) = BitVec.ofNat 32 (if P then 1 else 0) := by
  split <;> rfl

theorem ref_hot (a : Fin 4096) (e : Fin 8) : rHot V0 (ix2 a e) = BitVec.ofNat 32 (oneA e0 e1 e a.val) := by
  have h := ref_expert R a
  unfold rHot res_main_v18
  clean_types
  pointwise
  unfold rE at h
  rw [h, lane_bit, setWidth_bit]
  rfl

theorem ref_pos (a : Fin 4096) : rPos V0 (ix1 a) = BitVec.ofNat 32 (posA e0 e1 a.val) := by
  have h := ref_hot R a
  have hc : ∀ e : Fin 8, Host.reduceWindow IntOp.addi ![4096, 1] ![1, 1] ![4095, 0] ![0, 0] (rHot V0)
      (broadcastInDim Cert.ReferenceIdeal.S_ ![] Cert.ReferenceIdeal.Gen.bcast_S_S_ (constantI Cert.ReferenceIdeal.S_ 32 0#32))
      Cert.ReferenceIdeal.Gen.reduceWindows_S4096x8_S4096x8_w4096s1p4095_0_w1s1p0_0 Cert.ReferenceIdeal.Gen.h_S_ (ix2 a e)
        = BitVec.ofNat 32 ((List.range (a.val + 1)).map (oneA e0 e1 e)).sum := fun e => by
    rw [ix2_eq_valueIdx]
    exact cumsum_rows (N := 4096) (Nm1 := 4095) (M := 8) rfl (rHot V0) e (oneA e0 e1 e) (fun i => by rw [← ix2_eq_valueIdx]; exact ref_hot R i e) _ rfl _ _ a
  unfold rPos res_main_v23
  clean_types
  pointwise
  change IntOp.subi (Finset.fold IntOp.addi 0#32 (fun e : Fin 8 => IntOp.muli (Host.reduceWindow IntOp.addi ![4096, 1] ![1, 1] ![4095, 0] ![0, 0] (rHot V0)
      (broadcastInDim Cert.ReferenceIdeal.S_ ![] Cert.ReferenceIdeal.Gen.bcast_S_S_ (constantI Cert.ReferenceIdeal.S_ 32 0#32))
      Cert.ReferenceIdeal.Gen.reduceWindows_S4096x8_S4096x8_w4096s1p4095_0_w1s1p0_0 Cert.ReferenceIdeal.Gen.h_S_ (ix2 a e)) (rHot V0 (ix2 a e))) Finset.univ) 1#32 = _
  simp only [hc, h]
  have hf : Finset.fold IntOp.addi 0#32 (fun e : Fin 8 => IntOp.muli (BitVec.ofNat 32 ((List.range (a.val + 1)).map (oneA e0 e1 e)).sum) (BitVec.ofNat 32 (oneA e0 e1 e a.val))) Finset.univ
      = ∑ e : Fin 8, BitVec.ofNat 32 ((List.range (a.val + 1)).map (oneA e0 e1 e)).sum * BitVec.ofNat 32 (oneA e0 e1 e a.val) := rfl
  rw [hf, Finset.sum_eq_single (eA e0 e1 a.val)]
  · rw [sum_choices e0 e1 (fun t => (R.top t).ne) a.val a.isLt, show oneA e0 e1 (eA e0 e1 a.val) a.val = 1 from if_pos rfl]
    show BitVec.ofNat 32 (posA e0 e1 a.val + 1) * 1#32 - 1#32 = _
    rw [BitVec.mul_one, BitVec.ofNat_add]
    exact BitVec.add_sub_cancel _ _
  · intro e _ he
    rw [show oneA e0 e1 e a.val = 0 from if_neg he.symm]
    exact BitVec.mul_zero
  · simp

omit R in
theorem posA_le (a : Fin 4096) : posA e0 e1 a.val ≤ 4096 := by
  have := cN_le e0 e1 (a.val / 2) (eA e0 e1 a.val)
  unfold posA; omega

/-- Choice `a`'s slot. -/
def slA (e0 e1 : Fin 2048 → Fin 8) (a : ℕ) : ℕ := slotN (eA e0 e1 a) (posA e0 e1 a)

theorem ref_slot (a : Fin 4096) : rSlot V0 (ix1 a) = BitVec.ofNat 32 (slA e0 e1 a.val) := by
  have h1 := ref_pos R a
  have h2 := ref_expert R a
  unfold rPos at h1
  unfold rE at h2
  unfold rSlot res_main_v30
  clean_types
  pointwise
  rw [h1, h2]
  exact slot_word _ _ (posA_le a)

omit R in
theorem uitofp_bit (P : Prop) [Decidable P] : (FloatOps.uitofp FTy.f32 (if P then 1#1 else 0#1 : BitVec 1) : Ideal .f32) = (if P then 1 else 0 : EReal) := by
  split
  · show (((1#1 : BitVec 1).toNat : ℝ) : EReal) = 1
    simp
  · show (((0#1 : BitVec 1).toNat : ℝ) : EReal) = 0
    simp

theorem ref_keep (a : Fin 4096) : rKeep V0 (ix1 a) = if posA e0 e1 a.val < 1024 then (1 : EReal) else 0 := by
  have h1 := ref_pos R a
  have h2 := posA_le (e0 := e0) (e1 := e1) a
  unfold rPos at h1
  unfold rKeep res_main_v26
  clean_types
  pointwise
  rw [h1]
  have := cmpi_slt_bit (posA e0 e1 a.val) 1024 (by omega) (by omega)
  rw [this]
  exact uitofp_bit _

omit R in
theorem ref_tok (a : Fin 4096) : rTok V0 (ix1 a) = BitVec.ofNat 32 (a.val / 2) := by
  unfold rTok res_main_v17
  clean_types
  pointwise

end Reference

end Cert.Proof

end
-- ==== Proof.MathCount.lean ====
/-
  Kept choices have slots of their own, in range and below their expert's count; what the map from
  slots to tokens and the reference's scatters hold there.
-/
module

public import proofs.«01_k».proof.Proof.MathRef
public import proofs.«01_k».proof.Proof.TileInv

@[expose] public section

set_option maxRecDepth 16384

noncomputable section

namespace Cert.Proof

open Cert.KernelIdeal Cert.KernelIdeal.Gen Idealize.ShloMosaic

/-! ## Slots of kept choices -/

section Counts
variable (e0 e1 : Fin 2048 → Fin 8)

/-- Choice `a` is kept. -/
def kpA (a : ℕ) : Prop := posA e0 e1 a < 1024
instance (a : ℕ) : Decidable (kpA e0 e1 a) := inferInstanceAs (Decidable (_ < _))

variable {e0 e1}

theorem slA_kept {a : ℕ} (h : kpA e0 e1 a) : slA e0 e1 a = (eA e0 e1 a).val * 1024 + posA e0 e1 a := by
  have := (eA e0 e1 a).isLt
  unfold kpA at h
  unfold slA slotN
  omega

theorem slA_lt (a : ℕ) : slA e0 e1 a < 8192 := by unfold slA slotN; omega

theorem list_sum_le (f : ℕ → ℕ) {m n : ℕ} (h : m ≤ n) : ((List.range m).map f).sum ≤ ((List.range n).map f).sum := by
  obtain ⟨d, rfl⟩ := Nat.exists_eq_add_of_le h
  rw [List.range_add, List.map_append, List.sum_append]
  omega

theorem pos_lt (hne : ∀ t, e1 t ≠ e0 t) {a b : ℕ} (hab : a < b) (hb : b < 4096) (he : eA e0 e1 a = eA e0 e1 b) : posA e0 e1 a < posA e0 e1 b := by
  have h1 := sum_choices e0 e1 hne a (by omega)
  have h2 := sum_choices e0 e1 hne b hb
  rw [List.range_succ, List.map_append, List.sum_append] at h2
  have h3 : oneA e0 e1 (eA e0 e1 b) b = 1 := if_pos rfl
  have h4 := list_sum_le (oneA e0 e1 (eA e0 e1 a)) (show a + 1 ≤ b by omega)
  rw [h1, he] at h4
  simp only [List.map_cons, List.map_nil, List.sum_cons, List.sum_nil, h3] at h2
  omega

theorem slA_inj (hne : ∀ t, e1 t ≠ e0 t) {a b : ℕ} (ha : a < 4096) (hb : b < 4096) (ka : kpA e0 e1 a) (kb : kpA e0 e1 b)
    (h : slA e0 e1 a = slA e0 e1 b) : a = b := by
  rw [slA_kept ka, slA_kept kb] at h
  unfold kpA at ka kb
  have he : eA e0 e1 a = eA e0 e1 b := Fin.ext (by omega)
  rcases lt_trichotomy a b with hlt | heq | hlt
  · have := pos_lt hne hlt hb he
    rw [he] at h; omega
  · exact heq
  · have := pos_lt hne hlt ha he.symm
    rw [he] at h; omega

/-- A kept choice lies below its expert's count. -/
theorem pos_lt_count (hne : ∀ t, e1 t ≠ e0 t) {a : ℕ} (ha : a < 4096) (ka : kpA e0 e1 a) :
    posA e0 e1 a < min (cN e0 e1 2048 (eA e0 e1 a)) 1024 := by
  have h1 := sum_choices e0 e1 hne a ha
  have h2 := list_sum_le (oneA e0 e1 (eA e0 e1 a)) (show a + 1 ≤ 2 * 2048 by omega)
  rw [h1, sum_pairs e0 e1 2048 le_rfl] at h2
  unfold kpA at ka
  omega
end Counts

/-! ## The map from slots to tokens -/

theorem scat_miss (slots keeps : S2048.Idx → BitVec 32) (f : S8192.Idx → BitVec 32) (j : S8192.Idx) (n : ℕ)
    (h : ∀ t < n, ¬ (IntOp.cmpi .sgt (tok keeps t) 0#32 = 1 ∧ (j 0).val = (tok slots t).toNat)) : scat slots keeps f n j = f j := by
  induction n with
  | zero => rfl
  | succ n ih =>
    show (if _ then _ else _) = _
    rw [if_neg (h n (by omega))]
    exact ih fun t ht => h t (by omega)

theorem scat_hit (slots keeps : S2048.Idx → BitVec 32) (f : S8192.Idx → BitVec 32) (j : S8192.Idx) (t n : ℕ) (ht : t < n)
    (hit : IntOp.cmpi .sgt (tok keeps t) 0#32 = 1 ∧ (j 0).val = (tok slots t).toNat)
    (h : ∀ u < n, u ≠ t → ¬ (IntOp.cmpi .sgt (tok keeps u) 0#32 = 1 ∧ (j 0).val = (tok slots u).toNat)) :
    scat slots keeps f n j = BitVec.ofNat 32 t := by
  induction n with
  | zero => omega
  | succ n ih =>
    show (if _ then _ else _) = _
    by_cases hn : n = t
    · subst hn; rw [if_pos hit]
    · rw [if_neg (h n (by omega) hn)]
      exact ih (by omega) fun u hu hne => h u (by omega) hne

/-! ## Rows scattered -/

section Scatter
open Idealize.ShloMosaic.Routing

/-- Update row `a` of `x.at[idx].add(u)` over rows lands at row `r` exactly when its index word, read signed, is `r`. -/
theorem lands_row {N C A : ℕ} (d : ScatterDims (shape2 N C) (shape2 A 1) (shape2 A C)) (huw : d.updateWindowDims = [1]) (hiw : d.insertedWindowDims = [0])
    (hsd : d.scatterDimsToOperandDims = [0]) (hivd : d.indexVectorDim = 1) (idx : IVec (shape2 A 1) 32) (a : Fin A) (y : Fin C) (r : Fin N) (c : Fin C) :
    d.resultIdx? (ValueIdx.ix2 a y) idx = some (ValueIdx.ix2 r c) ↔ (idx (ValueIdx.ix2 a 0)).toInt = (r.val : ℤ) ∧ y = c := by
  have hkept : d.sKept = [1] := by
    show (shape2 N C).kept d.insertedWindowDims = _
    rw [hiw]; rfl
  have hwin0 : d.window (ValueIdx.ix2 a y) 0 = 0 := by
    unfold ScatterDims.window
    rw [dif_neg fun h => by rw [hkept] at h; exact absurd (List.mem_singleton.1 h) (by decide : (0 : Fin 2) ≠ 1)]
  have e1 : ∀ X : Fin 2, X = 1 → (ValueIdx.ix2 a y X).val = y.val := fun X h => by subst h; rfl
  have e0 : ∀ X : Fin 2, X = 0 → (ValueIdx.ix2 a y X).val = a.val := fun X h => by subst h; rfl
  have hu : ∀ k ∈ d.updateWindowDims, k = (1 : Fin 2) := fun k hk => by rw [huw] at hk; exact List.mem_singleton.1 hk
  have hk0 : ∀ k ∈ d.uScatter, k = (0 : Fin 2) := fun k hk => by
    have hk' : k ∉ d.updateWindowDims := of_decide_eq_true (List.mem_filter.1 hk).2
    rw [huw] at hk'
    have h1 : k.val ≠ 1 := fun e => hk' (List.mem_singleton.2 (Fin.ext e))
    have h2 : k.val < 2 := k.isLt
    exact Fin.ext (by show k.val = 0; omega)
  have hwin1 : d.window (ValueIdx.ix2 a y) 1 = y.val := by
    unfold ScatterDims.window
    rw [dif_pos (by rw [hkept]; exact List.mem_singleton.2 rfl)]
    exact e1 _ (hu _ (List.getElem_mem _))
  have hstart1 : d.start (ValueIdx.ix2 a y) idx 1 = 0 := by
    unfold ScatterDims.start
    rw [dif_neg fun h => by rw [hsd] at h; exact absurd (List.mem_singleton.1 h) (by decide : (1 : Fin 2) ≠ 0)]
  have hm : (0 : Fin 2) ∈ d.scatterDimsToOperandDims := by rw [hsd]; exact List.mem_singleton.2 rfl
  have hstart0 : d.start (ValueIdx.ix2 a y) idx 0 = (idx (ValueIdx.ix2 a 0)).toInt := by
    unfold ScatterDims.start
    rw [dif_pos hm]
    have hsi : d.siIdx (ValueIdx.ix2 a y) ⟨d.scatterDimsToOperandDims.idxOf 0, List.idxOf_lt_length_iff.2 hm⟩ = ValueIdx.ix2 a (0 : Fin 1) := by
      funext b'
      apply Fin.ext
      match b' with
      | ⟨0, _⟩ =>
        unfold ScatterDims.siIdx
        rw [dif_neg (by rw [hivd]; exact Nat.zero_ne_one)]
        unfold ScatterDims.siCoord
        simp only [Fin.val_cast]
        exact e0 _ (hk0 _ (List.getElem_mem _))
      | ⟨1, _⟩ =>
        exact congrArg Fin.val (Subsingleton.elim (α := Fin 1) _ _)
    rw [hsi]
  rw [resultIdx?_ix2, hwin0, hwin1, hstart0, hstart1, Fin.ext_iff]
  omega

/-- Rows scattered with addition, read at an entry: the operand's element and the updates of the rows sent there. -/
theorem scatterAdd_rows {N C A : ℕ} (d : ScatterDims (shape2 N C) (shape2 A 1) (shape2 A C)) (huw : d.updateWindowDims = [1]) (hiw : d.insertedWindowDims = [0])
    (hsd : d.scatterDimsToOperandDims = [0]) (hivd : d.indexVectorDim = 1) (x : (shape2 N C).Idx → EReal) (idx : IVec (shape2 A 1) 32)
    (u : (shape2 A C).Idx → EReal) (s : ℕ → ℕ) (hs : ∀ a : Fin A, idx (ValueIdx.ix2 a 0) = BitVec.ofNat 32 (s a.val)) (hlt : ∀ a : Fin A, s a.val < 2 ^ 31) (r : Fin N) (c : Fin C) :
    Ideal.hostScatterAdd d x idx u (ValueIdx.ix2 r c) = x (ValueIdx.ix2 r c) + ∑ a ∈ Finset.univ.filter (fun a : Fin A => s a.val = r.val), u (ValueIdx.ix2 a c) := by
  unfold Ideal.hostScatterAdd
  congr 1
  have hl : ∀ (a : Fin A) (y : Fin C), d.resultIdx? (ValueIdx.ix2 a y) idx = some (ValueIdx.ix2 r c) ↔ s a.val = r.val ∧ y = c := fun a y => by
    rw [lands_row d huw hiw hsd hivd, hs, StableHlo.Predicate.toInt_ofNat_small _ (hlt a)]
    norm_cast
  refine Finset.sum_bij' (fun j _ => j 0) (fun a _ => ValueIdx.ix2 a c) ?_ ?_ ?_ ?_ ?_
  · intro j hj
    have h := (Finset.mem_filter.1 hj).2
    rw [ValueIdx.eq_ix2 j] at h
    exact Finset.mem_filter.2 ⟨Finset.mem_univ _, ((hl _ _).1 h).1⟩
  · intro a ha
    exact Finset.mem_filter.2 ⟨Finset.mem_univ _, (hl _ _).2 ⟨(Finset.mem_filter.1 ha).2, rfl⟩⟩
  · intro j hj
    have h := (Finset.mem_filter.1 hj).2
    rw [ValueIdx.eq_ix2 j] at h
    have := ((hl _ _).1 h).2
    conv_rhs => rw [ValueIdx.eq_ix2 j]
    rw [← this]; rfl
  · intro a _; rfl
  · intro j hj
    have h := (Finset.mem_filter.1 hj).2
    rw [ValueIdx.eq_ix2 j] at h
    have := ((hl _ _).1 h).2
    conv_lhs => rw [ValueIdx.eq_ix2 j]
    rw [← this]; rfl
end Scatter

end Cert.Proof

end
-- ==== Proof.MathFfn.lean ====
/-
  An expert's result at a row below its count: the two products around the activation, summed over
  all columns.
-/
module

public import proofs.«01_k».proof.Proof.MathRouter

@[expose] public section

set_option maxRecDepth 16384

noncomputable section

namespace Cert.Proof

open Cert.KernelIdeal Cert.KernelIdeal.Gen
open Idealize.ShloMosaic hiding ix3

open Idealize.ShloMosaic.ValueIdx (ix3)

/-- The activation. -/
def gelu (u : EReal) : EReal :=
  u * (Ideal.ofBits FTy.f32 1056964608#32 * (1 + Ideal.tanh (Ideal.ofBits FTy.f32 1061962282#32 * (u + Ideal.ofBits FTy.f32 1027024659#32 * (u * (u * u))))))

namespace Ffn

/-- One column's part of entry `c` of a row `xr` through an expert's matrices. -/
def col (xr : Fin 1024 → EReal) (w1 : Fin 1024 → Fin 4096 → EReal) (w2 : Fin 4096 → Fin 1024 → EReal) (c : Fin 1024) (f : Fin 4096) : EReal :=
  gelu (∑ d, xr d * w1 d f) * w2 f c

theorem pay4_at (w1 : Vec Ideal S1x1024x512 .f32) (w2 : Vec Ideal S1x512x1024 .f32) (x A : Vec Ideal S1x256x1024 .f32) (q : Fin 256) (c : Fin 1024) :
    k3_pay4 (F := Ideal) w1 w2 x A (ix3 0 q c)
      = (A (ix3 0 q c) : EReal) + ∑ f : Fin 512, gelu (∑ d : Fin 1024, x (ix3 0 q d) * w1 (ix3 0 d f)) * w2 (ix3 0 f c) := by
  simp only [← ix3_eq_valueIdx]
  pointwise [k3_pay4, k3_pay2, k3_pay3]
  rfl

section Step
variable (w1 : Vec Ideal S1x1024x512 .f32) (w2 : Vec Ideal S1x512x1024 .f32) (x A : Vec Ideal S1x1024x1024 .f32)

/-- What one grid point adds at row `p`, column `c`. -/
def part (p c : Fin 1024) : EReal := ∑ f : Fin 512, gelu (∑ d : Fin 1024, x (ix3 0 p d) * w1 (ix3 0 d f)) * w2 (ix3 0 f c)

theorem rows_emb (n : ℕ) (hn : n ≤ 768) (q : Fin 256) (c : Fin 1024) :
    (rows n hn).emb (ix3 0 q c : S1x256x1024.Idx) = (ix3 0 ⟨n + q.val, by omega⟩ c : S1x1024x1024.Idx) := by
  funext b; apply Fin.ext
  fin_cases b
  · exact (congrArg Fin.val (Subsingleton.elim (α := Fin 1) _ _))
  · show n + 1 * q.val = n + q.val
    omega
  · show 0 + 1 * c.val = c.val
    omega

theorem addRows_in (n : ℕ) (hn : n ≤ 768) (p c : Fin 1024) (h1 : n ≤ p.val) (h2 : p.val < n + 256) :
    addRows (F := Ideal) n hn 1#1 w1 w2 x A (ix3 0 p c) = (A (ix3 0 p c) : EReal) + part w1 w2 x p c := by
  have hp : (ix3 0 p c : S1x1024x1024.Idx) = (rows n hn).emb (ix3 0 ⟨p.val - n, by omega⟩ c : S1x256x1024.Idx) := by
    rw [rows_emb]
    congr 1
    exact Fin.ext (by show p.val = n + (p.val - n); omega)
  unfold addRows
  rw [if_pos rfl]
  conv_lhs => rw [hp]
  rw [Rect.overlay_emb, pay4_at]
  unfold part
  simp only [rows_emb]
  have hq : (⟨n + (p.val - n), by omega⟩ : Fin 1024) = p := Fin.ext (by show n + (p.val - n) = p.val; omega)
  simp only [hq]

theorem addRows_out (n : ℕ) (hn : n ≤ 768) (b : BitVec 1) (p c : Fin 1024) (h : ¬ (n ≤ p.val ∧ p.val < n + 256)) :
    addRows (F := Ideal) n hn b w1 w2 x A (ix3 0 p c) = A (ix3 0 p c) := by
  unfold addRows
  split
  · refine Rect.overlay_of_not_mem _ _ _ fun hm => ?_
    rw [← Rect.map_emb_univ, Finset.mem_map] at hm
    obtain ⟨i, -, hi⟩ := hm
    have hv : ((rows n hn).emb i 1).val = p.val := by rw [hi]
    have h0 : n + 1 * (i 1).val = p.val := hv
    have h1 : (i 1).val < 256 := (i 1).isLt
    omega
  · rfl

theorem sgt_ofNat (m k : ℕ) (hm : m ≤ 1024) (hk : k < m) : Scalar.cmpi .ne (Scalar.extui (Scalar.cmpi .sgt (BitVec.ofNat 32 m) (BitVec.ofNat 32 k)) : BitVec 32) 0#32 = 1#1 := by
  have h := cmpi_slt_bit k m (by omega) (by omega)
  rw [if_pos hk] at h
  have : Scalar.cmpi .sgt (BitVec.ofNat 32 m) (BitVec.ofNat 32 k) = 1#1 := h
  rw [this]
  decide

/-- A row below the expert's count is added to. -/
theorem step_at (m : ℕ) (hm : m ≤ 1024) (p c : Fin 1024) (hp : p.val < m) :
    step (F := Ideal) (BitVec.ofNat 32 m) w1 w2 x A (ix3 0 p c) = (A (ix3 0 p c) : EReal) + part w1 w2 x p c := by
  unfold step
  by_cases h3 : 768 ≤ p.val
  · have hc : k3_cond5 (BitVec.ofNat 32 m) = 1#1 := sgt_ofNat m 768 hm (by omega)
    rw [hc, addRows_in w1 w2 x _ 768 _ p c h3 (by omega), addRows_out _ _ _ _ _ _ _ _ _ (by omega), addRows_out _ _ _ _ _ _ _ _ _ (by omega),
      addRows_out _ _ _ _ _ _ _ _ _ (by omega)]
  · rw [addRows_out _ _ _ _ _ _ _ _ _ (by omega)]
    by_cases h2 : 512 ≤ p.val
    · have hc : k3_cond4 (BitVec.ofNat 32 m) = 1#1 := sgt_ofNat m 512 hm (by omega)
      rw [hc, addRows_in w1 w2 x _ 512 _ p c h2 (by omega), addRows_out _ _ _ _ _ _ _ _ _ (by omega), addRows_out _ _ _ _ _ _ _ _ _ (by omega)]
    · rw [addRows_out _ _ _ _ _ _ _ _ _ (by omega)]
      by_cases h1 : 256 ≤ p.val
      · have hc : k3_cond3 (BitVec.ofNat 32 m) = 1#1 := sgt_ofNat m 256 hm (by omega)
        rw [hc, addRows_in w1 w2 x _ 256 _ p c h1 (by omega), addRows_out _ _ _ _ _ _ _ _ _ (by omega)]
      · rw [addRows_out _ _ _ _ _ _ _ _ _ (by omega)]
        have hc : k3_cond2 (BitVec.ofNat 32 m) = 1#1 := sgt_ofNat m 0 hm (by omega)
        rw [hc, addRows_in w1 w2 x _ 0 _ p c (by omega) (by omega)]
end Step

section Out
variable (x : Vec Ideal S8x1024x1024 .f32) (w1 : Vec Ideal S8x1024x4096 .f32) (w2 : Vec Ideal S8x4096x1024 .f32) (tb : IVec S8 32)

/-- Expert `e`'s column parts. -/
def colAt (e : Fin 8) (p c : Fin 1024) : Fin 4096 → EReal :=
  col (fun d => x (ix3 e p d)) (fun d f => w1 (ix3 e d f)) (fun f c => w2 (ix3 e f c)) c

theorem part_at (e : Fin 8) (i : ℕ) (hi : i < 8) (p c : Fin 1024) :
    part (bW1 (F := Ideal) w1 (8 * e.val + i)) (bW2 (F := Ideal) w2 (8 * e.val + i)) (bX (F := Ideal) x (8 * e.val + i)) p c
      = ∑ f ∈ Finset.range 512, colAt x w1 w2 e p c (Fin.ofNat 4096 (512 * i + f)) := by
  rw [← Fin.sum_univ_eq_sum_range (fun f => colAt x w1 w2 e p c (Fin.ofNat 4096 (512 * i + f))) 512]
  unfold part
  refine Finset.sum_congr rfl fun f _ => ?_
  have he : (⟨(8 * e.val + i) / 8 % 8, Nat.mod_lt _ (by decide)⟩ : Fin 8) = e := Fin.ext (by show (8 * e.val + i) / 8 % 8 = e.val; omega)
  have hf : ∀ h, (⟨512 * ((8 * e.val + i) % 8) + f.val, h⟩ : Fin 4096) = Fin.ofNat 4096 (512 * i + f.val) := fun h => Fin.ext (by
    show 512 * ((8 * e.val + i) % 8) + f.val = (512 * i + f.val) % 4096
    omega)
  have h2 : bW2 (F := Ideal) w2 (8 * e.val + i) (ix3 0 f c) = w2 (ix3 e (Fin.ofNat 4096 (512 * i + f.val)) c) := by
    unfold bW2
    rw [he]
    exact congrArg (fun q => w2 (ix3 e q c)) (hf _)
  have h1 : ∀ d : Fin 1024, bW1 (F := Ideal) w1 (8 * e.val + i) (ix3 0 d f) = w1 (ix3 e d (Fin.ofNat 4096 (512 * i + f.val))) := fun d => by
    unfold bW1
    rw [he]
    exact congrArg (fun q => w1 (ix3 e d q)) (hf _)
  have h0 : ∀ d : Fin 1024, bX (F := Ideal) x (8 * e.val + i) (ix3 0 p d) = x (ix3 e p d) := fun d => by
    unfold bX
    rw [he]
  simp only [h0, h1, h2]
  rfl

theorem acc_first (n : ℕ) (hn : n % 8 = 0) : acc (F := Ideal) x w1 w2 tb n = stepAt (F := Ideal) x w1 w2 tb n (k3_pay1 (F := Ideal)) := by
  cases n with
  | zero => rw [acc]
  | succ n => rw [acc, if_pos hn]

theorem acc_next (n : ℕ) (hn : (n + 1) % 8 ≠ 0) : acc (F := Ideal) x w1 w2 tb (n + 1) = stepAt (F := Ideal) x w1 w2 tb (n + 1) (acc (F := Ideal) x w1 w2 tb n) := by
  rw [acc, if_neg hn]

theorem acc_at (e : Fin 8) (m : ℕ) (hm : m ≤ 1024) (hcnt : tb (ValueIdx.ix1 e) = BitVec.ofNat 32 m) (p c : Fin 1024) (hp : p.val < m) (i : ℕ) (hi : i < 8) :
    acc (F := Ideal) x w1 w2 tb (8 * e.val + i) (ix3 0 p c) = ∑ f ∈ Finset.range (512 * (i + 1)), colAt x w1 w2 e p c (Fin.ofNat 4096 f) := by
  have hc : ∀ i < 8, cntAt tb (8 * e.val + i) = BitVec.ofNat 32 m := fun i hi => by
    rw [← hcnt]
    exact congrArg (fun q => tb (ValueIdx.ix1 q)) (Fin.ext (by show (8 * e.val + i) / 8 % 8 = e.val; omega))
  have hz : k3_pay1 (F := Ideal) (ix3 0 p c) = (0 : EReal) := by
    simp only [← ix3_eq_valueIdx]
    pointwise [k3_pay1]
  have hst : ∀ i < 8, ∀ A, stepAt (F := Ideal) x w1 w2 tb (8 * e.val + i) A (ix3 0 p c)
      = (A (ix3 0 p c) : EReal) + ∑ f ∈ Finset.range 512, colAt x w1 w2 e p c (Fin.ofNat 4096 (512 * i + f)) := fun i hi A => by
    unfold stepAt
    rw [hc i hi, step_at _ _ _ _ m hm p c hp, part_at x w1 w2 e i hi]
  induction i with
  | zero =>
    have h0 := acc_first x w1 w2 tb (8 * e.val + 0) (by omega)
    rw [h0, hst 0 hi, hz, zero_add]
    simp
  | succ i ih =>
    have h0 := acc_next x w1 w2 tb (8 * e.val + i) (by omega)
    rw [show 8 * e.val + (i + 1) = 8 * e.val + i + 1 from rfl, h0, ← show 8 * e.val + (i + 1) = 8 * e.val + i + 1 from rfl, hst (i + 1) hi, ih (by omega), show 512 * (i + 1 + 1) = 512 * (i + 1) + 512 by ring, Finset.sum_range_add]

/-- The expert's result at a row below its count. -/
theorem out_at (e : Fin 8) (m : ℕ) (hm : m ≤ 1024) (hcnt : tb (ValueIdx.ix1 e) = BitVec.ofNat 32 m) (p c : Fin 1024) (hp : p.val < m) :
    out (F := Ideal) x w1 w2 tb (ix3 e p c) = ∑ f : Fin 4096, colAt x w1 w2 e p c f := by
  have h := acc_at x w1 w2 tb e m hm hcnt p c hp 7 (by decide)
  show acc (F := Ideal) x w1 w2 tb (8 * e.val + 7) (ix3 0 p c) = _
  rw [h, show 512 * (7 + 1) = 4096 by decide, ← Fin.sum_univ_eq_sum_range (fun f => colAt x w1 w2 e p c (Fin.ofNat 4096 f)) 4096]
  exact Finset.sum_congr rfl fun f _ => congrArg _ (Fin.ext (Nat.mod_eq_of_lt f.isLt))
end Out

end Ffn

end Cert.Proof

end
-- ==== Proof.MathBuf.lean ====
/-
  The reference's rows: its buffer at a kept choice's slot, an expert's result there, and the sum
  of a token's two choices.
-/
module

public import proofs.«01_k».proof.Proof.MathCount
public import proofs.«01_k».proof.Proof.MathFfn

@[expose] public section

set_option maxRecDepth 16384

noncomputable section

namespace Cert.Proof

open Cert.ReferenceIdeal Cert.ReferenceIdeal.Gen Cert.ReferenceIdeal.Value Idealize.ShloMosaic

/-- A vector of indices as a column, each negative one counted from the end. -/
def wrapCol (n : BitVec 32) (v : IVec S4096 32) : IVec S4096x1 32 :=
  broadcastInDim S4096x1 ![0] bcast_S4096_S4096x1_0 (select (cmpi .slt v (broadcastInDim S4096 ![] bcast_S_S4096 (constantI S_ 32 0#32)))
    (addi v (broadcastInDim S4096 ![] bcast_S_S4096 (constantI S_ 32 n))) v)

theorem wrapCol_at (n : BitVec 32) (v : IVec S4096 32) (a : Fin 4096) (s : ℕ) (h : v (ix1 a) = BitVec.ofNat 32 s) (hs : s < 2 ^ 31) :
    wrapCol n v (ValueIdx.ix2 a 0) = BitVec.ofNat 32 s := by
  rw [← ix2_eq_valueIdx]
  pointwise [wrapCol]
  rw [h]
  exact Routing.wrap_of_lt _ _ (by rw [BitVec.toNat_ofNat]; omega)

variable (V0 : Valuation Cert.ReferenceIdeal.τ Cert.ReferenceIdeal.sig (Elt Ideal))

def rW1 : FVec Ideal S8x1024x4096 .f32 := V0 (Proc.devRef .tc main_arg2)
def rW2 : FVec Ideal S8x4096x1024 .f32 := V0 (Proc.devRef .tc main_arg3)

/-- Each kept choice's row. -/
def rRows : FVec Ideal S4096x1024 .f32 :=
  mulf (Host.gather gather_S2048x1024_S4096x1_S4096x1024_1_0_n_n_0_1_11024 (rX V0) (wrapCol 2048#32 (rTok V0)))
    (broadcastInDim S4096x1024 ![0, 1] bcast_S4096x1_S4096x1024_0_1 (broadcastInDim S4096x1 ![0] bcast_S4096_S4096x1_0 (rKeep V0)))
/-- The buffer. -/
def rBuf : FVec Ideal S8192x1024 .f32 :=
  Host.scatterAdd scatter_S8192x1024_S4096x1_S4096x1024_1_0_0_1 (broadcastInDim S8192x1024 ![] bcast_S_S8192x1024 (constant S_ .f32 0x00000000#32))
    (wrapCol 8192#32 (rSlot V0)) (rRows V0)
def rU : FVec Ideal S8x1024x4096 .f32 := res_main_v50 (F := Ideal) V0
def rH : FVec Ideal S8x1024x1024 .f32 :=
  Host.dotGeneral dot_S8x1024x4096_S8x4096x1024_S8x1024x1024_2_1_1_2_0_0 none (mulf (rU V0) (mulf (broadcastInDim S8x1024x4096 ![] bcast_S_S8x1024x4096 (constant S_ .f32 0x3F000000#32)) (addf (broadcastInDim S8x1024x4096 ![] bcast_S_S8x1024x4096 (constant S_ .f32 0x3F800000#32)) (Host.tanh (mulf (broadcastInDim S8x1024x4096 ![] bcast_S_S8x1024x4096 (constant S_ .f32 0x3F4C422A#32)) (addf (rU V0) (mulf (broadcastInDim S8x1024x4096 ![] bcast_S_S8x1024x4096 (constant S_ .f32 0x3D372713#32)) (mulf (mulf (rU V0) (rU V0)) (rU V0))))))))) (rW2 V0)
/-- The experts' results by slot. -/
def rZ : FVec Ideal S8192x1024 .f32 := shapeCast S8192x1024 (rH V0) shapeCasts_S8x1024x1024_S8192x1024
/-- Each choice's weighted result. -/
def rY : FVec Ideal S4096x1024 .f32 :=
  mulf (broadcastInDim S4096x1024 ![0, 1] bcast_S4096x1_S4096x1024_0_1 (mulf (broadcastInDim S4096x1 ![0] bcast_S4096_S4096x1_0 (shapeCast S4096 ((Host.topK S2048x2 1 (FloatOps.cmpfTotal .gt) (rP V0) sliceFits_S2048x8_S2048x2).1) shapeCasts_S2048x2_S4096)) (broadcastInDim S4096x1 ![0] bcast_S4096_S4096x1_0 (rKeep V0))))
    (Host.gather gather_S8192x1024_S4096x1_S4096x1024_1_0_n_n_0_1_11024 (rZ V0) (wrapCol 8192#32 (rSlot V0)))
def rOut : FVec Ideal S2048x1024 .f32 :=
  Host.scatterAdd scatter_S2048x1024_S4096x1_S4096x1024_1_0_0_1 (broadcastInDim S2048x1024 ![] bcast_S_S2048x1024 (constant S_ .f32 0x00000000#32))
    (wrapCol 2048#32 (rTok V0)) (rY V0)

/-- The slot of expert `e` and place `p`. -/
def slotOf (e : Fin 8) (p : Fin 1024) : Fin 8192 := ⟨e.val * 1024 + p.val, by omega⟩

theorem rU_at (e : Fin 8) (p : Fin 1024) (f : Fin 4096) : rU V0 (ix3 e p f) = ∑ d : Fin 1024, (rBuf V0 (ix2 (slotOf e p) d) : EReal) * rW1 V0 (ix3 e d f) := by
  unfold rU res_main_v50
  clean_types
  pointwise
  rfl

theorem rH_at (e : Fin 8) (p c : Fin 1024) : rH V0 (ix3 e p c) = ∑ f : Fin 4096, gelu (rU V0 (ix3 e p f)) * rW2 V0 (ix3 e f c) := by
  pointwise [rH]
  refine Finset.sum_congr rfl fun f _ => ?_
  unfold gelu
  rw [mul_comm (_ * _) (rU V0 (ix3 e p f))]

theorem rZ_at (e : Fin 8) (p c : Fin 1024) : rZ V0 (ix2 (slotOf e p) c)
    = ∑ f : Fin 4096, Ffn.col (fun d => rBuf V0 (ix2 (slotOf e p) d)) (fun d f => rW1 V0 (ix3 e d f)) (fun f c => rW2 V0 (ix3 e f c)) c f := by
  have h : rZ V0 (ix2 (slotOf e p) c) = rH V0 (ix3 e p c) := by
    pointwise [rZ]
    have he : (⟨(slotOf e p).val / 1024, by have := (slotOf e p).isLt; omega⟩ : Fin 8) = e := Fin.ext (by show (e.val * 1024 + p.val) / 1024 = e.val; omega)
    have hp : (⟨(slotOf e p).val % 1024, Nat.mod_lt _ (by decide)⟩ : Fin 1024) = p := Fin.ext (by show (e.val * 1024 + p.val) % 1024 = p.val; omega)
    rw [he, hp]
  rw [h, rH_at]
  refine Finset.sum_congr rfl fun f _ => ?_
  rw [rU_at]
  rfl

variable {V0} {e0 e1 : Fin 2048 → Fin 8} (R : Routed (rX V0) (rW V0) e0 e1)
include R

theorem rRows_at (a : Fin 4096) (y : Fin 1024) : rRows V0 (ix2 a y) = (rX V0 (ix2 (tkA a) y) : EReal) * (if posA e0 e1 a.val < 1024 then (1 : EReal) else 0) := by
  have hg : Host.gather gather_S2048x1024_S4096x1_S4096x1024_1_0_n_n_0_1_11024 (rX V0) (wrapCol 2048#32 (rTok V0)) (ix2 a y) = rX V0 (ix2 (tkA a) y) := by
    rw [ix2_eq_valueIdx, ix2_eq_valueIdx]
    exact Routing.gather_row _ rfl rfl rfl rfl rfl _ _ a y (tkA a) (wrapCol_at _ _ a _ (ref_tok (V0 := V0) a) (by omega)) (by decide)
  have hk := ref_keep R a
  unfold rRows
  generalize Host.gather _ _ _ = G at hg ⊢
  pointwise
  rw [hg, hk]

/-- The slot of choice `a`. -/
def slF (e0 e1 : Fin 2048 → Fin 8) (a : Fin 4096) : Fin 8192 := ⟨slA e0 e1 a.val, slA_lt a.val⟩

/-- At a kept choice's slot the buffer holds the choice's token. -/
theorem rBuf_at (a : Fin 4096) (ka : kpA e0 e1 a.val) (y : Fin 1024) : rBuf V0 (ix2 (slF e0 e1 a) y) = rX V0 (ix2 (tkA a) y) := by
  have hs : rBuf V0 (ix2 (slF e0 e1 a) y) = (broadcastInDim S8192x1024 ![] bcast_S_S8192x1024 (constant (F := Ideal) S_ .f32 0x00000000#32) (ix2 (slF e0 e1 a) y) : EReal)
      + ∑ b ∈ Finset.univ.filter (fun b : Fin 4096 => slA e0 e1 b.val = slA e0 e1 a.val), (rRows V0 (ix2 b y) : EReal) := by
    simp only [ix2_eq_valueIdx]
    exact scatterAdd_rows _ rfl rfl rfl rfl _ _ _ (slA e0 e1) (fun b => wrapCol_at _ _ b _ (ref_slot R b) (by have := slA_lt (e0 := e0) (e1 := e1) b.val; omega))
      (fun b => by have := slA_lt (e0 := e0) (e1 := e1) b.val; omega) _ _
  have hz : (broadcastInDim S8192x1024 ![] bcast_S_S8192x1024 (constant (F := Ideal) S_ .f32 0x00000000#32) (ix2 (slF e0 e1 a) y) : EReal) = 0 := by pointwise
  rw [hs, hz, zero_add, Finset.sum_eq_single a]
  · rw [rRows_at R, if_pos (show posA e0 e1 a.val < 1024 from ka), mul_one]
  · intro b hb hne
    have hb' : slA e0 e1 b.val = slA e0 e1 a.val := (Finset.mem_filter.1 hb).2
    rw [rRows_at R, if_neg (fun kb : posA e0 e1 b.val < 1024 => hne (Fin.ext (slA_inj (fun t => (R.top t).ne) b.isLt a.isLt kb ka hb'))), mul_zero]
  · intro h
    rw [Finset.mem_filter] at h
    exact absurd ⟨Finset.mem_univ a, Eq.refl (slA e0 e1 a.val)⟩ h

theorem rY_at (a : Fin 4096) (c : Fin 1024) : rY V0 (ix2 a c)
    = ((rP V0 (ix2 (tkA a) (eA e0 e1 a.val)) : EReal) * (if posA e0 e1 a.val < 1024 then (1 : EReal) else 0)) * rZ V0 (ix2 (slF e0 e1 a) c) := by
  have hg : Host.gather gather_S8192x1024_S4096x1_S4096x1024_1_0_n_n_0_1_11024 (rZ V0) (wrapCol 8192#32 (rSlot V0)) (ix2 a c) = rZ V0 (ix2 (slF e0 e1 a) c) := by
    rw [ix2_eq_valueIdx, ix2_eq_valueIdx]
    exact Routing.gather_row _ rfl rfl rfl rfl rfl _ _ a c (slF e0 e1 a) (wrapCol_at _ _ a _ (ref_slot R a) (by have := slA_lt (e0 := e0) (e1 := e1) a.val; omega)) (by decide)
  have hk := ref_keep R a
  have ht : shapeCast S4096 ((Host.topK S2048x2 1 (FloatOps.cmpfTotal .gt) (rP V0) sliceFits_S2048x8_S2048x2).1) shapeCasts_S2048x2_S4096 (ix1 a)
      = rP V0 (ix2 (tkA a) (eA e0 e1 a.val)) := by
    have h := (topK_at (rP V0) sliceFits_S2048x8_S2048x2 (ref_top R (tkA a)) (plA a)).1
    rw [eA_eq, ← h, ix2_eq_valueIdx, ix1_eq_valueIdx]
    exact Routing.cast21 (a := 2048) (b := 2) (n := 4096) _ _ (tkA a) (plA a) a (Nat.div_add_mod' a.val 2).symm
  unfold rY
  generalize Host.gather _ _ _ = G at hg ⊢
  generalize shapeCast S4096 _ _ = T at ht ⊢
  pointwise
  rw [hg, hk, ht]

theorem rOut_at (t : Fin 2048) (c : Fin 1024) : rOut V0 (ix2 t c)
    = (rY V0 (ix2 ⟨2 * t.val, by omega⟩ c) : EReal) + rY V0 (ix2 ⟨2 * t.val + 1, by omega⟩ c) := by
  have hs : rOut V0 (ix2 t c) = (broadcastInDim S2048x1024 ![] bcast_S_S2048x1024 (constant (F := Ideal) S_ .f32 0x00000000#32) (ix2 t c) : EReal)
      + ∑ b ∈ Finset.univ.filter (fun b : Fin 4096 => b.val / 2 = t.val), (rY V0 (ix2 b c) : EReal) := by
    simp only [ix2_eq_valueIdx]
    exact scatterAdd_rows _ rfl rfl rfl rfl _ _ _ (fun b => b / 2) (fun b => wrapCol_at _ _ b _ (ref_tok (V0 := V0) b) (by omega))
      (fun b => by omega) _ _
  have hz : (broadcastInDim S2048x1024 ![] bcast_S_S2048x1024 (constant (F := Ideal) S_ .f32 0x00000000#32) (ix2 t c) : EReal) = 0 := by pointwise
  have hf : Finset.univ.filter (fun b : Fin 4096 => b.val / 2 = t.val) = {⟨2 * t.val, by omega⟩, ⟨2 * t.val + 1, by omega⟩} := by
    ext b
    simp only [Finset.mem_filter, Finset.mem_univ, true_and, Finset.mem_insert, Finset.mem_singleton, Fin.ext_iff]
    omega
  rw [hs, hz, zero_add, hf, Finset.sum_pair (fun h => by have := congrArg Fin.val h; simp at this)]

end Cert.Proof

end
-- ==== Proof.MathFinal.lean ====
/-
  The kernel's result is the reference's: the two agree on the rows of kept choices, and the others
  have no weight.
-/
module

public import proofs.«01_k».proof.Proof.MathBuf
public import proofs.«01_k».proof.Proof.Spec

@[expose] public section

set_option maxRecDepth 16384

noncomputable section

namespace Cert.Proof

open Cert.KernelIdeal Cert.KernelIdeal.Gen Idealize.ShloMosaic

/-- The two choices of a token. -/
def ch0 (t : Fin 2048) : Fin 4096 := ⟨2 * t.val, by omega⟩
def ch1 (t : Fin 2048) : Fin 4096 := ⟨2 * t.val + 1, by omega⟩

section Kernel
variable {A0 : Vec Ideal S1x2048x1024 .f32} {A1 : Vec Ideal S1024x8 .f32} {A2 : Vec Ideal S8x1024x4096 .f32} {A3 : Vec Ideal S8x4096x1024 .f32}
  {e0 e1 : Fin 2048 → Fin 8} (R : Routed (Spec.x (F := Ideal) A0) A1 e0 e1)

theorem slA_ch0 (t : Fin 2048) : slA e0 e1 (ch0 t).val = slotN (e0 t) (cN e0 e1 t.val (e0 t)) := by
  show slotN (eA e0 e1 (2 * t.val)) (cN e0 e1 (2 * t.val / 2) (eA e0 e1 (2 * t.val))) = _
  rw [eA_even, show 2 * t.val / 2 = t.val by omega]
theorem slA_ch1 (t : Fin 2048) : slA e0 e1 (ch1 t).val = slotN (e1 t) (cN e0 e1 t.val (e1 t)) := by
  show slotN (eA e0 e1 (2 * t.val + 1)) (cN e0 e1 ((2 * t.val + 1) / 2) (eA e0 e1 (2 * t.val + 1))) = _
  rw [eA_odd, show (2 * t.val + 1) / 2 = t.val by omega]
theorem posA_ch0 (t : Fin 2048) : posA e0 e1 (ch0 t).val = cN e0 e1 t.val (e0 t) := by
  show cN e0 e1 (2 * t.val / 2) (eA e0 e1 (2 * t.val)) = _
  rw [eA_even, show 2 * t.val / 2 = t.val by omega]
theorem posA_ch1 (t : Fin 2048) : posA e0 e1 (ch1 t).val = cN e0 e1 t.val (e1 t) := by
  show cN e0 e1 ((2 * t.val + 1) / 2) (eA e0 e1 (2 * t.val + 1)) = _
  rw [eA_odd, show (2 * t.val + 1) / 2 = t.val by omega]

/-- A column read as a vector. -/
theorem cast_col {α : Type} (x : S2048x1.Idx → α) (t : Fin 2048) : shapeCast S2048 x shapeCasts_S2048x1_S2048 (ValueIdx.ix1 t) = x (ValueIdx.ix2 t 0) :=
  Routing.cast21 (a := 2048) (b := 1) (n := 2048) x _ t 0 t (by simp)

include R

theorem s0_at (t : Fin 2048) : Spec.s0 (F := Ideal) A0 A1 (ValueIdx.ix1 t) = BitVec.ofNat 32 (slA e0 e1 (ch0 t).val) := by
  have h := R.slot0 t
  rw [ix2_eq_valueIdx] at h
  unfold Spec.s0
  rw [cast_col, h, slA_ch0]
theorem s1_at (t : Fin 2048) : Spec.s1 (F := Ideal) A0 A1 (ValueIdx.ix1 t) = BitVec.ofNat 32 (slA e0 e1 (ch1 t).val) := by
  have h := R.slot1 t
  rw [ix2_eq_valueIdx] at h
  unfold Spec.s1
  rw [cast_col, h, slA_ch1]
theorem k0_at (t : Fin 2048) : Spec.k0 (F := Ideal) A0 A1 (ValueIdx.ix1 t) = if posA e0 e1 (ch0 t).val < 1024 then 1#32 else 0#32 := by
  have h := R.keep0 t
  rw [ix2_eq_valueIdx] at h
  unfold Spec.k0
  rw [cast_col, h, posA_ch0]
theorem k1_at (t : Fin 2048) : Spec.k1 (F := Ideal) A0 A1 (ValueIdx.ix1 t) = if posA e0 e1 (ch1 t).val < 1024 then 1#32 else 0#32 := by
  have h := R.keep1 t
  rw [ix2_eq_valueIdx] at h
  unfold Spec.k1
  rw [cast_col, h, posA_ch1]

omit R in
theorem keep_bit (P : Prop) [Decidable P] : IntOp.cmpi .sgt (if P then 1#32 else 0#32) 0#32 = 1 ↔ P := by
  by_cases h : P
  · rw [if_pos h]; exact ⟨fun _ => h, fun _ => by decide⟩
  · rw [if_neg h]; exact ⟨fun h' => absurd h' (by decide), fun h' => absurd h' h⟩

theorem hit0 (j : S8192.Idx) (t : ℕ) (ht : t < 2048) :
    (IntOp.cmpi .sgt (tok (Spec.k0 (F := Ideal) A0 A1) t) 0#32 = 1 ∧ (j 0).val = (tok (Spec.s0 (F := Ideal) A0 A1) t).toNat)
      ↔ kpA e0 e1 (ch0 ⟨t, ht⟩).val ∧ (j 0).val = slA e0 e1 (ch0 ⟨t, ht⟩).val := by
  have hf : Fin.ofNat 2048 t = ⟨t, ht⟩ := Fin.ext (Nat.mod_eq_of_lt ht)
  have hl := slA_lt (e0 := e0) (e1 := e1) (ch0 ⟨t, ht⟩).val
  unfold tok
  rw [hf, k0_at R, s0_at R, keep_bit, BitVec.toNat_ofNat, Nat.mod_eq_of_lt (show slA e0 e1 (ch0 ⟨t, ht⟩).val < 2 ^ 32 by omega)]
  exact Iff.rfl
theorem hit1 (j : S8192.Idx) (t : ℕ) (ht : t < 2048) :
    (IntOp.cmpi .sgt (tok (Spec.k1 (F := Ideal) A0 A1) t) 0#32 = 1 ∧ (j 0).val = (tok (Spec.s1 (F := Ideal) A0 A1) t).toNat)
      ↔ kpA e0 e1 (ch1 ⟨t, ht⟩).val ∧ (j 0).val = slA e0 e1 (ch1 ⟨t, ht⟩).val := by
  have hf : Fin.ofNat 2048 t = ⟨t, ht⟩ := Fin.ext (Nat.mod_eq_of_lt ht)
  have hl := slA_lt (e0 := e0) (e1 := e1) (ch1 ⟨t, ht⟩).val
  unfold tok
  rw [hf, k1_at R, s1_at R, keep_bit, BitVec.toNat_ofNat, Nat.mod_eq_of_lt (show slA e0 e1 (ch1 ⟨t, ht⟩).val < 2 ^ 32 by omega)]
  exact Iff.rfl

/-- At a kept choice's slot the map holds the choice's token. -/
theorem inv_at (a : Fin 4096) (ka : kpA e0 e1 a.val) : Spec.inv (F := Ideal) A0 A1 (ValueIdx.ix1 (slF e0 e1 a)) = BitVec.ofNat 32 (a.val / 2) := by
  have hinj : ∀ b : Fin 4096, kpA e0 e1 b.val → slA e0 e1 a.val = slA e0 e1 b.val → a = b := fun b kb h =>
    Fin.ext (slA_inj (fun t => (R.top t).ne) a.isLt b.isLt ka kb h)
  unfold Spec.inv imap invOf
  have hta : a.val / 2 < 2048 := by omega
  by_cases hp : a.val % 2 = 0
  · have hc : ch0 ⟨a.val / 2, hta⟩ = a := Fin.ext (by show 2 * (a.val / 2) = a.val; omega)
    rw [scat_miss _ _ _ _ 2048 (fun t ht h => ?_)]
    · refine scat_hit _ _ _ _ (a.val / 2) 2048 hta ((hit0 R _ _ hta).2 (by rw [hc]; exact ⟨ka, rfl⟩)) fun u hu hne h => ?_
      obtain ⟨h1, h2⟩ := (hit0 R _ _ hu).1 h
      have := congrArg Fin.val (hinj _ h1 h2)
      have h3 : a.val = 2 * u := this
      omega
    · obtain ⟨h1, h2⟩ := (hit1 R _ _ ht).1 h
      have := congrArg Fin.val (hinj _ h1 h2)
      have h3 : a.val = 2 * t + 1 := this
      omega
  · have hc : ch1 ⟨a.val / 2, hta⟩ = a := Fin.ext (by show 2 * (a.val / 2) + 1 = a.val; omega)
    refine scat_hit _ _ _ _ (a.val / 2) 2048 hta ((hit1 R _ _ hta).2 (by rw [hc]; exact ⟨ka, rfl⟩)) fun u hu hne h => ?_
    obtain ⟨h1, h2⟩ := (hit1 R _ _ hu).1 h
    have := congrArg Fin.val (hinj _ h1 h2)
    have h3 : a.val = 2 * u + 1 := this
    omega

theorem buf_at (a : Fin 4096) (ka : kpA e0 e1 a.val) (y : Fin 1024) : Spec.buf (F := Ideal) A0 A1 (ValueIdx.ix2 (slF e0 e1 a) y) = Spec.x A0 (ValueIdx.ix2 (tkA a) y) := by
  have hi := inv_at R a ka
  show Spec.x A0 (ValueIdx.ix2 (Fin.ofNat 2048 (Spec.inv (F := Ideal) A0 A1 (ValueIdx.ix1 (slF e0 e1 a))).toNat) y) = _
  rw [hi, BitVec.toNat_ofNat]
  refine congrArg (fun q => Spec.x A0 (ValueIdx.ix2 q y)) (Fin.ext ?_)
  show a.val / 2 % 2 ^ 32 % 2048 = a.val / 2
  omega

omit R in
theorem xb_at (e : Fin 8) (p d : Fin 1024) : Spec.xb (F := Ideal) A0 A1 (ValueIdx.ix3 e p d) = Spec.buf A0 A1 (ValueIdx.ix2 (slotOf e p) d) := by
  simp only [← ix3_eq_valueIdx, ← ix2_eq_valueIdx]
  unfold Spec.xb
  generalize Spec.buf (F := Ideal) A0 A1 = B
  pointwise
  rfl

omit R in
theorem z_slot (e : Fin 8) (p c : Fin 1024) : Spec.z (F := Ideal) A0 A1 A2 A3 (ValueIdx.ix2 (slotOf e p) c) = Spec.h A0 A1 A2 A3 (ValueIdx.ix3 e p c) := by
  simp only [← ix3_eq_valueIdx, ← ix2_eq_valueIdx]
  unfold Spec.z
  generalize Spec.h (F := Ideal) A0 A1 A2 A3 = H
  pointwise
  have he : (⟨(slotOf e p).val / 1024, by have := (slotOf e p).isLt; omega⟩ : Fin 8) = e := Fin.ext (by show (e.val * 1024 + p.val) / 1024 = e.val; omega)
  have hp : (⟨(slotOf e p).val % 1024, Nat.mod_lt _ (by decide)⟩ : Fin 1024) = p := Fin.ext (by show (e.val * 1024 + p.val) % 1024 = p.val; omega)
  rw [he, hp]

omit R in
theorem slF_slot (a : Fin 4096) (ka : kpA e0 e1 a.val) : slF e0 e1 a = slotOf (eA e0 e1 a.val) ⟨posA e0 e1 a.val, ka⟩ := Fin.ext (slA_kept ka)

theorem ct_at (e : Fin 8) : Spec.ct (F := Ideal) A0 A1 (ValueIdx.ix1 e) = BitVec.ofNat 32 (min (cN e0 e1 2048 e) 1024) := by
  have h := R.cnt e
  rw [ix2_eq_valueIdx] at h
  rw [← h]
  exact Routing.cast21 (a := 1) (b := 8) (n := 8) _ _ 0 e e (by simp)

/-- An expert's result at a kept choice's slot is the choice's token through the expert. -/
theorem z_at (a : Fin 4096) (ka : kpA e0 e1 a.val) (c : Fin 1024) : Spec.z (F := Ideal) A0 A1 A2 A3 (ValueIdx.ix2 (slF e0 e1 a) c)
    = ∑ f : Fin 4096, Ffn.col (fun d => Spec.x A0 (ValueIdx.ix2 (tkA a) d)) (fun d f => A2 (ValueIdx.ix3 (eA e0 e1 a.val) d f))
        (fun f c => A3 (ValueIdx.ix3 (eA e0 e1 a.val) f c)) c f := by
  have hb : ∀ d, Spec.xb (F := Ideal) A0 A1 (ValueIdx.ix3 (eA e0 e1 a.val) ⟨posA e0 e1 a.val, ka⟩ d) = Spec.x A0 (ValueIdx.ix2 (tkA a) d) := fun d => by
    rw [xb_at, ← slF_slot a ka, buf_at R a ka]
  rw [slF_slot a ka, z_slot]
  unfold Spec.h
  rw [Ffn.out_at _ _ _ _ _ _ (by omega) (ct_at R _) _ _ (pos_lt_count (fun t => (R.top t).ne) a.isLt ka)]
  unfold Ffn.colAt
  simp only [hb]

theorem y0_at (t : Fin 2048) (c : Fin 1024) : Spec.y0 (F := Ideal) A0 A1 A2 A3 (ValueIdx.ix2 t c) = Spec.z A0 A1 A2 A3 (ValueIdx.ix2 (slF e0 e1 (ch0 t)) c) := by
  have hl := slA_lt (e0 := e0) (e1 := e1) (ch0 t).val
  show Spec.z A0 A1 A2 A3 (ValueIdx.ix2 (Fin.ofNat 8192 (Spec.s0 (F := Ideal) A0 A1 (ValueIdx.ix1 t)).toNat) c) = _
  rw [s0_at R, BitVec.toNat_ofNat]
  refine congrArg (fun q => Spec.z A0 A1 A2 A3 (ValueIdx.ix2 q c)) (Fin.ext ?_)
  show slA e0 e1 (ch0 t).val % 2 ^ 32 % 8192 = slA e0 e1 (ch0 t).val
  omega
theorem y1_at (t : Fin 2048) (c : Fin 1024) : Spec.y1 (F := Ideal) A0 A1 A2 A3 (ValueIdx.ix2 t c) = Spec.z A0 A1 A2 A3 (ValueIdx.ix2 (slF e0 e1 (ch1 t)) c) := by
  have hl := slA_lt (e0 := e0) (e1 := e1) (ch1 t).val
  show Spec.z A0 A1 A2 A3 (ValueIdx.ix2 (Fin.ofNat 8192 (Spec.s1 (F := Ideal) A0 A1 (ValueIdx.ix1 t)).toNat) c) = _
  rw [s1_at R, BitVec.toNat_ofNat]
  refine congrArg (fun q => Spec.z A0 A1 A2 A3 (ValueIdx.ix2 q c)) (Fin.ext ?_)
  show slA e0 e1 (ch1 t).val % 2 ^ 32 % 8192 = slA e0 e1 (ch1 t).val
  omega

/-- A choice's weight, as the kernel computes it. -/
def wtA (A0 : Vec Ideal S1x2048x1024 .f32) (A1 : Vec Ideal S1024x8 .f32) (e0 e1 : Fin 2048 → Fin 8) (a : Fin 4096) : EReal :=
  if posA e0 e1 a.val < 1024 then prob (Spec.x (F := Ideal) A0) A1 (tkA a) (eA e0 e1 a.val) else 0

theorem r_at (t : Fin 2048) (c : Fin 1024) : Spec.r (F := Ideal) A0 A1 A2 A3 (ValueIdx.ix2 t c)
    = wtA A0 A1 e0 e1 (ch0 t) * Spec.z A0 A1 A2 A3 (ValueIdx.ix2 (slF e0 e1 (ch0 t)) c)
      + wtA A0 A1 e0 e1 (ch1 t) * Spec.z A0 A1 A2 A3 (ValueIdx.ix2 (slF e0 e1 (ch1 t)) c) := by
  have h0 := R.wt0 t
  have h1 := R.wt1 t
  rw [ix2_eq_valueIdx] at h0 h1
  have t0 : tkA (ch0 t) = t := Fin.ext (by show 2 * t.val / 2 = t.val; omega)
  have t1 : tkA (ch1 t) = t := Fin.ext (by show (2 * t.val + 1) / 2 = t.val; omega)
  have x0 : eA e0 e1 (ch0 t).val = e0 t := eA_even e0 e1 t
  have x1 : eA e0 e1 (ch1 t).val = e1 t := eA_odd e0 e1 t
  show (Router.wt0 (Spec.x A0) A1 (ValueIdx.ix2 t 0) : EReal) * Spec.y0 A0 A1 A2 A3 (ValueIdx.ix2 t c)
    + Router.wt1 (Spec.x A0) A1 (ValueIdx.ix2 t 0) * Spec.y1 A0 A1 A2 A3 (ValueIdx.ix2 t c) = _
  rw [y0_at R, y1_at R, h0, h1]
  unfold wtA
  rw [t0, t1, x0, x1, posA_ch0, posA_ch1]
end Kernel

section Both
variable {V0 : Valuation Cert.ReferenceIdeal.τ Cert.ReferenceIdeal.sig (Elt Ideal)}
  {A0 : Vec Ideal S1x2048x1024 .f32} {A1 : Vec Ideal S1024x8 .f32} {A2 : Vec Ideal S8x1024x4096 .f32} {A3 : Vec Ideal S8x4096x1024 .f32}
  {e0 e1 : Fin 2048 → Fin 8} (R : Routed (Spec.x (F := Ideal) A0) A1 e0 e1)
  (hx : rX V0 = Spec.x A0) (hw : rW V0 = A1) (h1 : rW1 V0 = A2) (h2 : rW2 V0 = A3)
include R hx hw h1 h2

theorem z_both (a : Fin 4096) (ka : kpA e0 e1 a.val) (c : Fin 1024) :
    rZ V0 (ix2 (slF e0 e1 a) c) = Spec.z (F := Ideal) A0 A1 A2 A3 (ValueIdx.ix2 (slF e0 e1 a) c) := by
  have R' : Routed (rX V0) (rW V0) e0 e1 := by rw [hx, hw]; exact R
  rw [z_at R a ka]
  have hb := fun y => rBuf_at R' a ka y
  rw [slF_slot a ka] at hb ⊢
  rw [rZ_at]
  simp only [hb]
  rw [hx, h1, h2]
  simp only [ix2_eq_valueIdx, ix3_eq_valueIdx]

theorem term_both (a : Fin 4096) (c : Fin 1024) :
    rY V0 (ix2 a c) = wtA A0 A1 e0 e1 a * Spec.z A0 A1 A2 A3 (ValueIdx.ix2 (slF e0 e1 a) c) := by
  have R' : Routed (rX V0) (rW V0) e0 e1 := by rw [hx, hw]; exact R
  rw [rY_at R', ref_prob, hx, hw]
  unfold wtA
  by_cases ka : posA e0 e1 a.val < 1024
  · rw [if_pos ka, if_pos ka, mul_one, z_both R hx hw h1 h2 a ka]
  · rw [if_neg ka, if_neg ka, mul_zero, zero_mul, zero_mul]

/-- The kernel's result is the reference's. -/
theorem out_both : rOut V0 = Spec.r (F := Ideal) A0 A1 A2 A3 := by
  have R' : Routed (rX V0) (rW V0) e0 e1 := by rw [hx, hw]; exact R
  funext j
  obtain ⟨t, c, rfl⟩ : ∃ (t : Fin 2048) (c : Fin 1024), j = ValueIdx.ix2 t c := ⟨j 0, j 1, ValueIdx.eq_ix2 j⟩
  rw [r_at R, ← ix2_eq_valueIdx, rOut_at R']
  show (rY V0 (ix2 (ch0 t) c) : EReal) + rY V0 (ix2 (ch1 t) c) = _
  rw [term_both R hx hw h1 h2, term_both R hx hw h1 h2]
end Both

/-- The same, of the whole results: where the routing's arguments are finite. -/
theorem result_both {V0 : Valuation Cert.ReferenceIdeal.τ Cert.ReferenceIdeal.sig (Elt Ideal)}
    {A0 : Vec Ideal S1x2048x1024 .f32} {A1 : Vec Ideal S1024x8 .f32} {A2 : Vec Ideal S8x1024x4096 .f32} {A3 : Vec Ideal S8x4096x1024 .f32}
    (hp : Cert.Pre_finite_routing.fn (F := Ideal) A0 A1 A2 A3 = fun _ => 1#1)
    (hx : rX V0 = Spec.x A0) (hw : rW V0 = A1) (h1 : rW1 V0 = A2) (h2 : rW2 V0 = A3) :
    shapeCast S1x2048x1024 (rOut V0) shapeCasts_S2048x1024_S1x2048x1024 = Spec.result (F := Ideal) A0 A1 A2 A3 := by
  obtain ⟨hf0, hf1⟩ := finite_args A0 A1 A2 A3 hp
  obtain ⟨e0, e1, R⟩ := exists_routed (Spec.x (F := Ideal) A0) A1 (fun j => hf0 _) hf1
  unfold Spec.result
  rw [out_both R hx hw h1 h2]

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Main
public import proofs.«01_k».proof.Proof.MathFinal
public import Idealize.ShloMosaic.Adequacy
public import Idealize.ShloMosaic.Init
public import Idealize.ShloMosaic.Lib.Tactic

@[expose] public section

noncomputable section

namespace Cert.Proof

open Idealize.ShloMosaic Idealize.SL.Sem

/-- The frame of the other program's text at machine floats. -/
def FrameBits : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (Cert.KernelIdeal.threads (F := Bits)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

/-- The two programs have one text. -/
theorem frames_eq : Cert.quiescent_Kernel = FrameBits := by sl_kernel_rfl

theorem frameBits : FrameBits := fun m ρ _ =>
  (θ_run Cert.KernelIdeal.defs _ _).mono (fun _ h => ⟨fun c => by
    obtain rfl : c = 0 := Subsingleton.elim _ _
    exact ⟨h.1.1, h.1.2.1, h.1.2.2.1, h.1.2.2.2.1⟩, h.2⟩) (run_main (F := Bits) m ρ)

theorem frame_kernel : Cert.quiescent_Kernel := frames_eq.mpr frameBits

theorem frame_kernelIdeal : Cert.quiescent_KernelIdeal := fun m ρ _ =>
  (θ_run Cert.KernelIdeal.defs _ _).mono (fun _ h => ⟨fun c => by
    obtain rfl : c = 0 := Subsingleton.elim _ _
    exact ⟨h.1.1, h.1.2.1, h.1.2.2.1, h.1.2.2.2.1⟩, h.2⟩) (run_main (F := Ideal) m ρ)

theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic : Cert.algebraic_KernelIdeal_ReferenceIdeal_pre_finite_routing := fun m g m' g' hp hargs => by
  obtain ⟨h0, h1, h2, h3⟩ := hargs 0
  have key := result_both (V0 := StableHlo.launchContents m' 0) (hp 0) (congrArg (fun v => shapeCast Cert.ReferenceIdeal.S2048x1024 v Cert.ReferenceIdeal.Gen.shapeCasts_S1x2048x1024_S2048x1024) h0) h1 h2 h3
  refine ⟨fun c => Spec.result (F := Ideal) (A0 m) (A1 m) (A2 m) (A3 m), ?_, ?_⟩
  · exact (θ_run Cert.KernelIdeal.defs _ _).mono (fun _ h c => by
      obtain rfl : c = 0 := Subsingleton.elim _ _
      exact ⟨h.1.2.2.2.2, h.1.1, h.1.2.1, h.1.2.2.1, h.1.2.2.2.1⟩) (run_main (F := Ideal) m g)
  · exact (θ_run Cert.ReferenceIdeal.defs _ _).mono (fun _ h c => by
      obtain rfl : c = 0 := Subsingleton.elim _ _
      exact ⟨(h 0).1.trans key, (h 0).2⟩) (Cert.ReferenceIdeal.Value.run (F := Ideal) m' g')

theorem claim : Cert.Claim := ⟨Cert.Kernel.Gen.facts, Cert.KernelIdeal.Gen.facts, Cert.ReferenceIdeal.Gen.facts, preFacts,
  frame_kernel, frame_kernelIdeal, fun m g _ => frame_kernelIdeal m g trivial, frame_referenceIdeal, fun m g _ => frame_referenceIdeal m g trivial, trivial, algebraic⟩

end Cert.Proof
